-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ffn0Kernel (m : (ℓ : Loc Cert.Ffn0Kernel.nD Cert.Ffn0Kernel.τ Cert.Ffn0Kernel.sig) → Buf (Elt Bits) ℓ) : Prop :=
  True

def Pre_Ffn0KernelIdeal (m : (ℓ : Loc Cert.Ffn0KernelIdeal.nD Cert.Ffn0KernelIdeal.τ Cert.Ffn0KernelIdeal.sig) → Buf (Elt Ideal) ℓ) : Prop :=
  True

def Pre_Ffn0ReferenceIdeal (m : (ℓ : Loc Cert.Ffn0ReferenceIdeal.nD Cert.Ffn0ReferenceIdeal.τ Cert.Ffn0ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Ffn0Kernel [hFfn0Kernel : Cert.Ffn0Kernel.Facts] : Prop :=
  ∀ (m : (ℓ : Loc Cert.Ffn0Kernel.nD Cert.Ffn0Kernel.τ Cert.Ffn0Kernel.sig) → Buf (Elt Bits) ℓ) (g : Dev Cert.Ffn0Kernel.nD → PrngReg), Pre_Ffn0Kernel m →
    θ_run (Cert.Ffn0Kernel.defs (F := Bits)) (onTc (τ := Cert.Ffn0Kernel.τ) (Cert.Ffn0Kernel.main (F := Bits))) ⟨m, fun _ => 0, g⟩ (fun r => (∀ c : Dev Cert.Ffn0Kernel.nD,
      r.2.mem ((c.tc : Thread Cert.Ffn0Kernel.nD Cert.Ffn0Kernel.τ).loc Cert.Ffn0Kernel.main_arg0) = m ((c.tc : Thread Cert.Ffn0Kernel.nD Cert.Ffn0Kernel.τ).loc Cert.Ffn0Kernel.main_arg0)
      ∧ r.2.mem ((c.tc : Thread Cert.Ffn0Kernel.nD Cert.Ffn0Kernel.τ).loc Cert.Ffn0Kernel.main_arg1) = m ((c.tc : Thread Cert.Ffn0Kernel.nD Cert.Ffn0Kernel.τ).loc Cert.Ffn0Kernel.main_arg1)
      ∧ r.2.mem ((c.tc : Thread Cert.Ffn0Kernel.nD Cert.Ffn0Kernel.τ).loc Cert.Ffn0Kernel.main_arg2) = m ((c.tc : Thread Cert.Ffn0Kernel.nD Cert.Ffn0Kernel.τ).loc Cert.Ffn0Kernel.main_arg2)
      ∧ r.2.mem ((c.tc : Thread Cert.Ffn0Kernel.nD Cert.Ffn0Kernel.τ).loc Cert.Ffn0Kernel.main_arg3) = m ((c.tc : Thread Cert.Ffn0Kernel.nD Cert.Ffn0Kernel.τ).loc Cert.Ffn0Kernel.main_arg3)
      ∧ r.2.mem ((c.tc : Thread Cert.Ffn0Kernel.nD Cert.Ffn0Kernel.τ).loc Cert.Ffn0Kernel.main_arg4) = m ((c.tc : Thread Cert.Ffn0Kernel.nD Cert.Ffn0Kernel.τ).loc Cert.Ffn0Kernel.main_arg4))
      ∧ r.2.sem = fun _ => 0)

def quiescent_Ffn0KernelIdeal [hFfn0KernelIdeal : Cert.Ffn0KernelIdeal.Facts] : Prop :=
  ∀ (m : (ℓ : Loc Cert.Ffn0KernelIdeal.nD Cert.Ffn0KernelIdeal.τ Cert.Ffn0KernelIdeal.sig) → Buf (Elt Ideal) ℓ) (g : Dev Cert.Ffn0KernelIdeal.nD → PrngReg), Pre_Ffn0KernelIdeal m →
    θ_run (Cert.Ffn0KernelIdeal.defs (F := Ideal)) (onTc (τ := Cert.Ffn0KernelIdeal.τ) (Cert.Ffn0KernelIdeal.main (F := Ideal))) ⟨m, fun _ => 0, g⟩ (fun r => (∀ c : Dev Cert.Ffn0KernelIdeal.nD,
      r.2.mem ((c.tc : Thread Cert.Ffn0KernelIdeal.nD Cert.Ffn0KernelIdeal.τ).loc Cert.Ffn0KernelIdeal.main_arg0) = m ((c.tc : Thread Cert.Ffn0KernelIdeal.nD Cert.Ffn0KernelIdeal.τ).loc Cert.Ffn0KernelIdeal.main_arg0)
      ∧ r.2.mem ((c.tc : Thread Cert.Ffn0KernelIdeal.nD Cert.Ffn0KernelIdeal.τ).loc Cert.Ffn0KernelIdeal.main_arg1) = m ((c.tc : Thread Cert.Ffn0KernelIdeal.nD Cert.Ffn0KernelIdeal.τ).loc Cert.Ffn0KernelIdeal.main_arg1)
      ∧ r.2.mem ((c.tc : Thread Cert.Ffn0KernelIdeal.nD Cert.Ffn0KernelIdeal.τ).loc Cert.Ffn0KernelIdeal.main_arg2) = m ((c.tc : Thread Cert.Ffn0KernelIdeal.nD Cert.Ffn0KernelIdeal.τ).loc Cert.Ffn0KernelIdeal.main_arg2)
      ∧ r.2.mem ((c.tc : Thread Cert.Ffn0KernelIdeal.nD Cert.Ffn0KernelIdeal.τ).loc Cert.Ffn0KernelIdeal.main_arg3) = m ((c.tc : Thread Cert.Ffn0KernelIdeal.nD Cert.Ffn0KernelIdeal.τ).loc Cert.Ffn0KernelIdeal.main_arg3)
      ∧ r.2.mem ((c.tc : Thread Cert.Ffn0KernelIdeal.nD Cert.Ffn0KernelIdeal.τ).loc Cert.Ffn0KernelIdeal.main_arg4) = m ((c.tc : Thread Cert.Ffn0KernelIdeal.nD Cert.Ffn0KernelIdeal.τ).loc Cert.Ffn0KernelIdeal.main_arg4))
      ∧ r.2.sem = fun _ => 0)

def quiescent_Ffn0ReferenceIdeal [hFfn0ReferenceIdeal : Cert.Ffn0ReferenceIdeal.Facts] : Prop :=
  ∀ (m : (ℓ : Loc Cert.Ffn0ReferenceIdeal.nD Cert.Ffn0ReferenceIdeal.τ Cert.Ffn0ReferenceIdeal.sig) → Buf (Elt Ideal) ℓ) (g : Dev Cert.Ffn0ReferenceIdeal.nD → PrngReg), Pre_Ffn0ReferenceIdeal m →
    θ_run (Cert.Ffn0ReferenceIdeal.defs (F := Ideal)) (onTc (τ := Cert.Ffn0ReferenceIdeal.τ) (Cert.Ffn0ReferenceIdeal.main (F := Ideal))) ⟨m, fun _ => 0, g⟩ (fun r => (∀ c : Dev Cert.Ffn0ReferenceIdeal.nD,
      r.2.mem ((c.tc : Thread Cert.Ffn0ReferenceIdeal.nD Cert.Ffn0ReferenceIdeal.τ).loc Cert.Ffn0ReferenceIdeal.main_arg0) = m ((c.tc : Thread Cert.Ffn0ReferenceIdeal.nD Cert.Ffn0ReferenceIdeal.τ).loc Cert.Ffn0ReferenceIdeal.main_arg0)
      ∧ r.2.mem ((c.tc : Thread Cert.Ffn0ReferenceIdeal.nD Cert.Ffn0ReferenceIdeal.τ).loc Cert.Ffn0ReferenceIdeal.main_arg1) = m ((c.tc : Thread Cert.Ffn0ReferenceIdeal.nD Cert.Ffn0ReferenceIdeal.τ).loc Cert.Ffn0ReferenceIdeal.main_arg1)
      ∧ r.2.mem ((c.tc : Thread Cert.Ffn0ReferenceIdeal.nD Cert.Ffn0ReferenceIdeal.τ).loc Cert.Ffn0ReferenceIdeal.main_arg2) = m ((c.tc : Thread Cert.Ffn0ReferenceIdeal.nD Cert.Ffn0ReferenceIdeal.τ).loc Cert.Ffn0ReferenceIdeal.main_arg2)
      ∧ r.2.mem ((c.tc : Thread Cert.Ffn0ReferenceIdeal.nD Cert.Ffn0ReferenceIdeal.τ).loc Cert.Ffn0ReferenceIdeal.main_arg3) = m ((c.tc : Thread Cert.Ffn0ReferenceIdeal.nD Cert.Ffn0ReferenceIdeal.τ).loc Cert.Ffn0ReferenceIdeal.main_arg3)
      ∧ r.2.mem ((c.tc : Thread Cert.Ffn0ReferenceIdeal.nD Cert.Ffn0ReferenceIdeal.τ).loc Cert.Ffn0ReferenceIdeal.main_arg4) = m ((c.tc : Thread Cert.Ffn0ReferenceIdeal.nD Cert.Ffn0ReferenceIdeal.τ).loc Cert.Ffn0ReferenceIdeal.main_arg4))
      ∧ r.2.sem = fun _ => 0)

def preserves_Kernel_KernelIdeal : Prop :=
  IdealRules.named_const.Statement Cert.KernelIdeal.κ "gelu_exp_cubic" .f32 0xBDD2D3E8#32 (((12003091 / 268435456) * (-(2 * ((6693141 / 8388608) * (Real.log 2)⁻¹))) : ℝ) : EReal)
  ∧ IdealRules.named_const.Statement Cert.KernelIdeal.κ "gelu_exp" .f32 0xC0135761#32 ((-(2 * ((6693141 / 8388608) * (Real.log 2)⁻¹)) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v6)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v6) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v36) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Ffn0Kernel_Ffn0KernelIdeal : Prop :=
  True

def algebraic_Ffn0KernelIdeal_Ffn0ReferenceIdeal [hFfn0KernelIdeal : Cert.Ffn0KernelIdeal.Facts] [hFfn0ReferenceIdeal : Cert.Ffn0ReferenceIdeal.Facts] : Prop :=
  ∀ (m : (ℓ : Loc Cert.Ffn0KernelIdeal.nD Cert.Ffn0KernelIdeal.τ Cert.Ffn0KernelIdeal.sig) → Buf (Elt Ideal) ℓ) (g : Dev Cert.Ffn0KernelIdeal.nD → PrngReg)
    (m' : (ℓ : Loc Cert.Ffn0ReferenceIdeal.nD Cert.Ffn0ReferenceIdeal.τ Cert.Ffn0ReferenceIdeal.sig) → Buf (Elt Ideal) ℓ) (g' : Dev Cert.Ffn0ReferenceIdeal.nD → PrngReg), Pre_Ffn0KernelIdeal m →
    (∀ c : Dev Cert.Ffn0KernelIdeal.nD,
      m' ((c.tc : Thread Cert.Ffn0ReferenceIdeal.nD Cert.Ffn0ReferenceIdeal.τ).loc Cert.Ffn0ReferenceIdeal.main_arg0) = m ((c.tc : Thread Cert.Ffn0KernelIdeal.nD Cert.Ffn0KernelIdeal.τ).loc Cert.Ffn0KernelIdeal.main_arg0)
      ∧ m' ((c.tc : Thread Cert.Ffn0ReferenceIdeal.nD Cert.Ffn0ReferenceIdeal.τ).loc Cert.Ffn0ReferenceIdeal.main_arg1) = m ((c.tc : Thread Cert.Ffn0KernelIdeal.nD Cert.Ffn0KernelIdeal.τ).loc Cert.Ffn0KernelIdeal.main_arg1)
      ∧ m' ((c.tc : Thread Cert.Ffn0ReferenceIdeal.nD Cert.Ffn0ReferenceIdeal.τ).loc Cert.Ffn0ReferenceIdeal.main_arg2) = m ((c.tc : Thread Cert.Ffn0KernelIdeal.nD Cert.Ffn0KernelIdeal.τ).loc Cert.Ffn0KernelIdeal.main_arg2)
      ∧ m' ((c.tc : Thread Cert.Ffn0ReferenceIdeal.nD Cert.Ffn0ReferenceIdeal.τ).loc Cert.Ffn0ReferenceIdeal.main_arg3) = m ((c.tc : Thread Cert.Ffn0KernelIdeal.nD Cert.Ffn0KernelIdeal.τ).loc Cert.Ffn0KernelIdeal.main_arg3)
      ∧ m' ((c.tc : Thread Cert.Ffn0ReferenceIdeal.nD Cert.Ffn0ReferenceIdeal.τ).loc Cert.Ffn0ReferenceIdeal.main_arg4) = m ((c.tc : Thread Cert.Ffn0KernelIdeal.nD Cert.Ffn0KernelIdeal.τ).loc Cert.Ffn0KernelIdeal.main_arg4)) →
    ∃ (v0 : (c : Dev Cert.Ffn0KernelIdeal.nD) → Buf (Elt Ideal) ((c.tc : Thread Cert.Ffn0KernelIdeal.nD Cert.Ffn0KernelIdeal.τ).loc Cert.Ffn0KernelIdeal.main_v6)),
      θ_run (Cert.Ffn0KernelIdeal.defs (F := Ideal)) (onTc (τ := Cert.Ffn0KernelIdeal.τ) (Cert.Ffn0KernelIdeal.main (F := Ideal))) ⟨m, fun _ => 0, g⟩ (fun r => ∀ c : Dev Cert.Ffn0KernelIdeal.nD,
          r.2.mem ((c.tc : Thread Cert.Ffn0KernelIdeal.nD Cert.Ffn0KernelIdeal.τ).loc Cert.Ffn0KernelIdeal.main_v6) = v0 c
          ∧ r.2.mem ((c.tc : Thread Cert.Ffn0KernelIdeal.nD Cert.Ffn0KernelIdeal.τ).loc Cert.Ffn0KernelIdeal.main_arg0) = m ((c.tc : Thread Cert.Ffn0KernelIdeal.nD Cert.Ffn0KernelIdeal.τ).loc Cert.Ffn0KernelIdeal.main_arg0)
          ∧ r.2.mem ((c.tc : Thread Cert.Ffn0KernelIdeal.nD Cert.Ffn0KernelIdeal.τ).loc Cert.Ffn0KernelIdeal.main_arg1) = m ((c.tc : Thread Cert.Ffn0KernelIdeal.nD Cert.Ffn0KernelIdeal.τ).loc Cert.Ffn0KernelIdeal.main_arg1)
          ∧ r.2.mem ((c.tc : Thread Cert.Ffn0KernelIdeal.nD Cert.Ffn0KernelIdeal.τ).loc Cert.Ffn0KernelIdeal.main_arg2) = m ((c.tc : Thread Cert.Ffn0KernelIdeal.nD Cert.Ffn0KernelIdeal.τ).loc Cert.Ffn0KernelIdeal.main_arg2)
          ∧ r.2.mem ((c.tc : Thread Cert.Ffn0KernelIdeal.nD Cert.Ffn0KernelIdeal.τ).loc Cert.Ffn0KernelIdeal.main_arg3) = m ((c.tc : Thread Cert.Ffn0KernelIdeal.nD Cert.Ffn0KernelIdeal.τ).loc Cert.Ffn0KernelIdeal.main_arg3)
          ∧ r.2.mem ((c.tc : Thread Cert.Ffn0KernelIdeal.nD Cert.Ffn0KernelIdeal.τ).loc Cert.Ffn0KernelIdeal.main_arg4) = m ((c.tc : Thread Cert.Ffn0KernelIdeal.nD Cert.Ffn0KernelIdeal.τ).loc Cert.Ffn0KernelIdeal.main_arg4))
      ∧ θ_run (Cert.Ffn0ReferenceIdeal.defs (F := Ideal)) (onTc (τ := Cert.Ffn0ReferenceIdeal.τ) (Cert.Ffn0ReferenceIdeal.main (F := Ideal))) ⟨m', fun _ => 0, g'⟩ (fun r => ∀ c : Dev Cert.Ffn0ReferenceIdeal.nD,
          r.2.mem ((c.tc : Thread Cert.Ffn0ReferenceIdeal.nD Cert.Ffn0ReferenceIdeal.τ).loc Cert.Ffn0ReferenceIdeal.main_v23) = v0 c
          ∧ r.2.mem ((c.tc : Thread Cert.Ffn0ReferenceIdeal.nD Cert.Ffn0ReferenceIdeal.τ).loc Cert.Ffn0ReferenceIdeal.main_arg0) = m' ((c.tc : Thread Cert.Ffn0ReferenceIdeal.nD Cert.Ffn0ReferenceIdeal.τ).loc Cert.Ffn0ReferenceIdeal.main_arg0)
          ∧ r.2.mem ((c.tc : Thread Cert.Ffn0ReferenceIdeal.nD Cert.Ffn0ReferenceIdeal.τ).loc Cert.Ffn0ReferenceIdeal.main_arg1) = m' ((c.tc : Thread Cert.Ffn0ReferenceIdeal.nD Cert.Ffn0ReferenceIdeal.τ).loc Cert.Ffn0ReferenceIdeal.main_arg1)
          ∧ r.2.mem ((c.tc : Thread Cert.Ffn0ReferenceIdeal.nD Cert.Ffn0ReferenceIdeal.τ).loc Cert.Ffn0ReferenceIdeal.main_arg2) = m' ((c.tc : Thread Cert.Ffn0ReferenceIdeal.nD Cert.Ffn0ReferenceIdeal.τ).loc Cert.Ffn0ReferenceIdeal.main_arg2)
          ∧ r.2.mem ((c.tc : Thread Cert.Ffn0ReferenceIdeal.nD Cert.Ffn0ReferenceIdeal.τ).loc Cert.Ffn0ReferenceIdeal.main_arg3) = m' ((c.tc : Thread Cert.Ffn0ReferenceIdeal.nD Cert.Ffn0ReferenceIdeal.τ).loc Cert.Ffn0ReferenceIdeal.main_arg3)
          ∧ r.2.mem ((c.tc : Thread Cert.Ffn0ReferenceIdeal.nD Cert.Ffn0ReferenceIdeal.τ).loc Cert.Ffn0ReferenceIdeal.main_arg4) = m' ((c.tc : Thread Cert.Ffn0ReferenceIdeal.nD Cert.Ffn0ReferenceIdeal.τ).loc Cert.Ffn0ReferenceIdeal.main_arg4))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hFfn0Kernel : Cert.Ffn0Kernel.Facts) (hFfn0KernelIdeal : Cert.Ffn0KernelIdeal.Facts) (hFfn0ReferenceIdeal : Cert.Ffn0ReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_Ffn0Kernel (hFfn0Kernel := hFfn0Kernel)
    ∧ quiescent_Ffn0KernelIdeal (hFfn0KernelIdeal := hFfn0KernelIdeal)
    ∧ quiescent_Ffn0ReferenceIdeal (hFfn0ReferenceIdeal := hFfn0ReferenceIdeal)
    ∧ preserves_Kernel_KernelIdeal
    ∧ algebraic_KernelIdeal_ReferenceIdeal (hKernelIdeal := hKernelIdeal) (hReferenceIdeal := hReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_Ffn0Kernel_Ffn0KernelIdeal
    ∧ algebraic_Ffn0KernelIdeal_Ffn0ReferenceIdeal (hFfn0KernelIdeal := hFfn0KernelIdeal) (hFfn0ReferenceIdeal := hFfn0ReferenceIdeal)
-- ==== Kernel.lean ====
abbrev S4x4096x1024 : Shape := ⟨3, ![4, 4096, 1024]⟩
abbrev S2x1024 : Shape := ⟨2, ![2, 1024]⟩
abbrev S2x1024x6656 : Shape := ⟨3, ![2, 1024, 6656]⟩
abbrev S2x4x1280 : Shape := ⟨3, ![2, 4, 1280]⟩
abbrev S2x1280 : Shape := ⟨2, ![2, 1280]⟩
abbrev S2x20x64x64 : Shape := ⟨4, ![2, 20, 64, 64]⟩
abbrev S2x20x64 : Shape := ⟨3, ![2, 20, 64]⟩
abbrev S2x8x128x128 : Shape := ⟨4, ![2, 8, 128, 128]⟩
abbrev S2x8x128 : Shape := ⟨3, ![2, 8, 128]⟩
abbrev S2x1280x1024 : Shape := ⟨3, ![2, 1280, 1024]⟩
abbrev S2x1024x1024 : Shape := ⟨3, ![2, 1024, 1024]⟩
abbrev S16384x1024 : Shape := ⟨2, ![16384, 1024]⟩
abbrev S1x20x64x64 : Shape := ⟨4, ![1, 20, 64, 64]⟩
abbrev S20x64x64 : Shape := ⟨3, ![20, 64, 64]⟩
abbrev S1x20x64 : Shape := ⟨3, ![1, 20, 64]⟩
abbrev S20x64 : Shape := ⟨2, ![20, 64]⟩
abbrev S4x4 : Shape := ⟨2, ![4, 4]⟩
abbrev S_ : Shape := ⟨0, ![]⟩
abbrev S5x4x64x64 : Shape := ⟨4, ![5, 4, 64, 64]⟩
abbrev S5x4x64x1x64 : Shape := ⟨5, ![5, 4, 64, 1, 64]⟩
abbrev S1x4x1x4x1 : Shape := ⟨5, ![1, 4, 1, 4, 1]⟩
abbrev S5x4x64x4x64 : Shape := ⟨5, ![5, 4, 64, 4, 64]⟩
abbrev S5x256x256 : Shape := ⟨3, ![5, 256, 256]⟩
abbrev S5x256x512 : Shape := ⟨3, ![5, 256, 512]⟩
abbrev S5x1x256 : Shape := ⟨3, ![5, 1, 256]⟩
abbrev S5x1x512 : Shape := ⟨3, ![5, 1, 512]⟩
abbrev S1x8x128 : Shape := ⟨3, ![1, 8, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S1x4x1280 : Shape := ⟨3, ![1, 4, 1280]⟩
abbrev S4x1280 : Shape := ⟨2, ![4, 1280]⟩
abbrev S1x1280 : Shape := ⟨2, ![1, 1280]⟩
abbrev S1x8x128x128 : Shape := ⟨4, ![1, 8, 128, 128]⟩
abbrev S8x128x128 : Shape := ⟨3, ![8, 128, 128]⟩
abbrev S512x1024 : Shape := ⟨2, ![512, 1024]⟩
abbrev S1x1024x6656 : Shape := ⟨3, ![1, 1024, 6656]⟩
abbrev S1x1280x1024 : Shape := ⟨3, ![1, 1280, 1024]⟩
abbrev S1x1024x1024 : Shape := ⟨3, ![1, 1024, 1024]⟩
abbrev S24x1280 : Shape := ⟨2, ![24, 1280]⟩
abbrev S8x1280 : Shape := ⟨2, ![8, 1280]⟩
abbrev S512 : Shape := ⟨1, ![512]⟩
abbrev S512x1 : Shape := ⟨2, ![512, 1]⟩
abbrev S8x64x1024 : Shape := ⟨3, ![8, 64, 1024]⟩
abbrev S64x8x1024 : Shape := ⟨3, ![64, 8, 1024]⟩
abbrev S1x1024x1280 : Shape := ⟨3, ![1, 1024, 1280]⟩
abbrev S1024x1280 : Shape := ⟨2, ![1024, 1280]⟩
abbrev S512x1280 : Shape := ⟨2, ![512, 1280]⟩
abbrev S1024x1024 : Shape := ⟨2, ![1024, 1024]⟩
abbrev S536x1280 : Shape := ⟨2, ![536, 1280]⟩
abbrev S8x256 : Shape := ⟨2, ![8, 256]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S1x1x512 : Shape := ⟨3, ![1, 1, 512]⟩
abbrev S1x512 : Shape := ⟨2, ![1, 512]⟩
abbrev S1x1024x256 : Shape := ⟨3, ![1, 1024, 256]⟩
abbrev S1024x256 : Shape := ⟨2, ![1024, 256]⟩
abbrev S1x256 : Shape := ⟨2, ![1, 256]⟩
abbrev S128x128 : Shape := ⟨2, ![128, 128]⟩
abbrev S1x128x128 : Shape := ⟨3, ![1, 128, 128]⟩
abbrev S64x8x256 : Shape := ⟨3, ![64, 8, 256]⟩
abbrev S8x64x256 : Shape := ⟨3, ![8, 64, 256]⟩
abbrev S1280x1024 : Shape := ⟨2, ![1280, 1024]⟩

abbrev nBuf : Space → Nat
  | .hbm => 71
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x6656, .f32⟩
  | .hbm, ⟨3, _⟩ => ⟨S2x4x1280, .f32⟩
  | .hbm, ⟨4, _⟩ => ⟨S2x1280, .f32⟩
  | .hbm, ⟨5, _⟩ => ⟨S2x20x64x64, .f32⟩
  | .hbm, ⟨6, _⟩ => ⟨S2x20x64, .f32⟩
  | .hbm, ⟨7, _⟩ => ⟨S2x20x64x64, .f32⟩
  | .hbm, ⟨8, _⟩ => ⟨S2x20x64, .f32⟩
  | .hbm, ⟨9, _⟩ => ⟨S2x1280, .f32⟩
  | .hbm, ⟨10, _⟩ => ⟨S2x1024, .f32⟩
  | .hbm, ⟨11, _⟩ => ⟨S2x1024, .f32⟩
  | .hbm, ⟨12, _⟩ => ⟨S2x8x128x128, .f32⟩
  | .hbm, ⟨13, _⟩ => ⟨S2x8x128, .f32⟩
  | .hbm, ⟨14, _⟩ => ⟨S2x1280x1024, .f32⟩
  | .hbm, ⟨15, _⟩ => ⟨S2x1024x1024, .f32⟩
  | .hbm, ⟨16, _⟩ => ⟨S2x1024x1024, .f32⟩
  | .hbm, ⟨17, _⟩ => ⟨S16384x1024, .f32⟩
  | .hbm, ⟨18, _⟩ => ⟨S2x1024x6656, .bf16⟩
  | .hbm, ⟨19, _⟩ => ⟨S2x1280x1024, .bf16⟩
  | .hbm, ⟨20, _⟩ => ⟨S2x1024x1024, .bf16⟩
  | .hbm, ⟨21, _⟩ => ⟨S2x1024x1024, .bf16⟩
  | .hbm, ⟨22, _⟩ => ⟨S1x20x64x64, .f32⟩
  | .hbm, ⟨23, _⟩ => ⟨S20x64x64, .f32⟩
  | .hbm, ⟨24, _⟩ => ⟨S1x20x64x64, .f32⟩
  | .hbm, ⟨25, _⟩ => ⟨S20x64x64, .f32⟩
  | .hbm, ⟨26, _⟩ => ⟨S1x20x64, .f32⟩
  | .hbm, ⟨27, _⟩ => ⟨S20x64, .f32⟩
  | .hbm, ⟨28, _⟩ => ⟨S1x20x64, .f32⟩
  | .hbm, ⟨29, _⟩ => ⟨S20x64, .f32⟩
  | .hbm, ⟨30, _⟩ => ⟨S4x4, .i32⟩
  | .hbm, ⟨31, _⟩ => ⟨S4x4, .i32⟩
  | .hbm, ⟨32, _⟩ => ⟨S_, .i32⟩
  | .hbm, ⟨33, _⟩ => ⟨S4x4, .i32⟩
  | .hbm, ⟨34, _⟩ => ⟨S4x4, .i32⟩
  | .hbm, ⟨35, _⟩ => ⟨S4x4, .i1⟩
  | .hbm, ⟨36, _⟩ => ⟨S4x4, .f32⟩
  | .hbm, ⟨37, _⟩ => ⟨S5x4x64x64, .f32⟩
  | .hbm, ⟨38, _⟩ => ⟨S5x4x64x1x64, .f32⟩
  | .hbm, ⟨39, _⟩ => ⟨S1x4x1x4x1, .f32⟩
  | .hbm, ⟨40, _⟩ => ⟨S5x4x64x4x64, .f32⟩
  | .hbm, ⟨41, _⟩ => ⟨S5x4x64x4x64, .f32⟩
  | .hbm, ⟨42, _⟩ => ⟨S5x4x64x4x64, .f32⟩
  | .hbm, ⟨43, _⟩ => ⟨S5x256x256, .f32⟩
  | .hbm, ⟨44, _⟩ => ⟨S5x4x64x64, .f32⟩
  | .hbm, ⟨45, _⟩ => ⟨S5x4x64x1x64, .f32⟩
  | .hbm, ⟨46, _⟩ => ⟨S1x4x1x4x1, .f32⟩
  | .hbm, ⟨47, _⟩ => ⟨S5x4x64x4x64, .f32⟩
  | .hbm, ⟨48, _⟩ => ⟨S5x4x64x4x64, .f32⟩
  | .hbm, ⟨49, _⟩ => ⟨S5x4x64x4x64, .f32⟩
  | .hbm, ⟨50, _⟩ => ⟨S5x256x256, .f32⟩
  | .hbm, ⟨51, _⟩ => ⟨S5x256x512, .f32⟩
  | .hbm, ⟨52, _⟩ => ⟨S5x256x512, .bf16⟩
  | .hbm, ⟨53, _⟩ => ⟨S5x1x256, .f32⟩
  | .hbm, ⟨54, _⟩ => ⟨S5x1x256, .f32⟩
  | .hbm, ⟨55, _⟩ => ⟨S5x1x512, .f32⟩
  | .hbm, ⟨56, _⟩ => ⟨S1x8x128, .f32⟩
  | .hbm, ⟨57, _⟩ => ⟨S8x128, .f32⟩
  | .hbm, ⟨58, _⟩ => ⟨S128x8, .f32⟩
  | .hbm, ⟨59, _⟩ => ⟨S128x8x128, .f32⟩
  | .hbm, ⟨60, _⟩ => ⟨S128x1024, .f32⟩
  | .hbm, ⟨61, _⟩ => ⟨S1x1024, .f32⟩
  | .hbm, ⟨62, _⟩ => ⟨S1x4x1280, .f32⟩
  | .hbm, ⟨63, _⟩ => ⟨S4x1280, .f32⟩
  | .hbm, ⟨64, _⟩ => ⟨S1x1280, .f32⟩
  | .hbm, ⟨65, _⟩ => ⟨S1x1280, .f32⟩
  | .hbm, ⟨66, _⟩ => ⟨S1x1024, .f32⟩
  | .hbm, ⟨67, _⟩ => ⟨S1x1024, .f32⟩
  | .hbm, ⟨68, _⟩ => ⟨S1x8x128x128, .f32⟩
  | .hbm, ⟨69, _⟩ => ⟨S8x128x128, .f32⟩
  | .hbm, ⟨70, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x6656, .bf16⟩
  | .local _ .vmem, ⟨4, _⟩ => ⟨S4x1280, .f32⟩
  | .local _ .vmem, ⟨5, _⟩ => ⟨S1x1280, .f32⟩
  | .local _ .vmem, ⟨6, _⟩ => ⟨S5x256x512, .bf16⟩
  | .local _ .vmem, ⟨7, _⟩ => ⟨S5x1x512, .f32⟩
  | .local _ .vmem, ⟨8, _⟩ => ⟨S1x1280, .f32⟩
  | .local _ .vmem, ⟨9, _⟩ => ⟨S1x1024, .f32⟩
  | .local _ .vmem, ⟨10, _⟩ => ⟨S1x1024, .f32⟩
  | .local _ .vmem, ⟨11, _⟩ => ⟨S8x128x128, .f32⟩
  | .local _ .vmem, ⟨12, _⟩ => ⟨S128x1024, .f32⟩
  | .local _ .vmem, ⟨13, _⟩ => ⟨S1x1280x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S24x1280, .f32⟩
  | .local _ .vmem, ⟨21, _⟩ => ⟨S8x1280, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1280x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "gelu_exp" => some ((-(2 * ((6693141 / 8388608) * (Real.log 2)⁻¹)) : ℝ) : EReal)
  | "gelu_exp_cubic" => some (((12003091 / 268435456) * (-(2 * ((6693141 / 8388608) * (Real.log 2)⁻¹))) : ℝ) : EReal)
  | _ => none
-- ==== ReferenceIdeal.lean ====
abbrev S4x4096x1024 : Shape := ⟨3, ![4, 4096, 1024]⟩
abbrev S2x1024 : Shape := ⟨2, ![2, 1024]⟩
abbrev S2x1024x6656 : Shape := ⟨3, ![2, 1024, 6656]⟩
abbrev S2x4x1280 : Shape := ⟨3, ![2, 4, 1280]⟩
abbrev S2x1280 : Shape := ⟨2, ![2, 1280]⟩
abbrev S2x20x64x64 : Shape := ⟨4, ![2, 20, 64, 64]⟩
abbrev S2x20x64 : Shape := ⟨3, ![2, 20, 64]⟩
abbrev S2x8x128x128 : Shape := ⟨4, ![2, 8, 128, 128]⟩
abbrev S2x8x128 : Shape := ⟨3, ![2, 8, 128]⟩
abbrev S2x1280x1024 : Shape := ⟨3, ![2, 1280, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x6656 : Shape := ⟨3, ![1, 1024, 6656]⟩
abbrev S1024x6656 : Shape := ⟨2, ![1024, 6656]⟩
abbrev S4x4096x6656 : Shape := ⟨3, ![4, 4096, 6656]⟩
abbrev S4x4096x1280 : Shape := ⟨3, ![4, 4096, 1280]⟩
abbrev S1x4x1280 : Shape := ⟨3, ![1, 4, 1280]⟩
abbrev S4x1280 : Shape := ⟨2, ![4, 1280]⟩
abbrev S1x1280 : Shape := ⟨2, ![1, 1280]⟩
abbrev S1280 : Shape := ⟨1, ![1280]⟩
abbrev S4x4099x1280 : Shape := ⟨3, ![4, 4099, 1280]⟩
abbrev S1x1x1280 : Shape := ⟨3, ![1, 1, 1280]⟩
abbrev S1x20x64x64 : Shape := ⟨4, ![1, 20, 64, 64]⟩
abbrev S20x64x64 : Shape := ⟨3, ![20, 64, 64]⟩
abbrev S1x20x64 : Shape := ⟨3, ![1, 20, 64]⟩
abbrev S20x64 : Shape := ⟨2, ![20, 64]⟩
abbrev S4x4096x20x64 : Shape := ⟨4, ![4, 4096, 20, 64]⟩
abbrev S20x64x4x4096 : Shape := ⟨4, ![20, 64, 4, 4096]⟩
abbrev S1x1x20x64 : Shape := ⟨4, ![1, 1, 20, 64]⟩
abbrev S4096x4x1280 : Shape := ⟨3, ![4096, 4, 1280]⟩
abbrev S1x1280x1024 : Shape := ⟨3, ![1, 1280, 1024]⟩
abbrev S1280x1024 : Shape := ⟨2, ![1280, 1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S4x32x128x8x128 : Shape := ⟨5, ![4, 32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩
abbrev S1x1024x1024 : Shape := ⟨3, ![1, 1024, 1024]⟩
abbrev S1024x1024 : Shape := ⟨2, ![1024, 1024]⟩
abbrev S16384x1024 : Shape := ⟨2, ![16384, 1024]⟩

abbrev nBuf : Space → Nat
  | .hbm => 362
  | .vmem => 0
  | .smem => 0
  | _ => 0

abbrev hbmTy0_0 (i : Nat) : BufTy := match i % 128 with
  | 0 => ⟨S4x4096x1024, .f32⟩
  | 1 => ⟨S2x1024, .f32⟩
  | 2 => ⟨S2x1024x6656, .f32⟩
  | 3 => ⟨S2x4x1280, .f32⟩
  | 4 => ⟨S2x1280, .f32⟩
  | 5 => ⟨S2x20x64x64, .f32⟩
  | 6 => ⟨S2x20x64, .f32⟩
  | 7 => ⟨S2x20x64x64, .f32⟩
  | 8 => ⟨S2x20x64, .f32⟩
  | 9 => ⟨S2x1280, .f32⟩
  | 10 => ⟨S2x1024, .f32⟩
  | 11 => ⟨S2x1024, .f32⟩
  | 12 => ⟨S2x8x128x128, .f32⟩
  | 13 => ⟨S2x8x128, .f32⟩
  | 14 => ⟨S2x1280x1024, .f32⟩
  | 15 => ⟨S2x1024x1024, .f32⟩
  | 16 => ⟨S2x1024x1024, .f32⟩
  | 17 => ⟨S1x1024, .f32⟩
  | 18 => ⟨S1024, .f32⟩
  | 19 => ⟨S4x4096x1024, .f32⟩
  | 20 => ⟨S_, .f32⟩
  | 21 => ⟨S4x4096, .f32⟩
  | 22 => ⟨S4x4096x1, .f32⟩
  | 23 => ⟨S_, .f32⟩
  | 24 => ⟨S4x4096x1, .f32⟩
  | 25 => ⟨S4x4096x1, .f32⟩
  | 26 => ⟨S_, .f32⟩
  | 27 => ⟨S4x4096x1, .f32⟩
  | 28 => ⟨S4x4096x1, .f32⟩
  | 29 => ⟨S4x4096x1, .f32⟩
  | 30 => ⟨S4x4096x1024, .f32⟩
  | 31 => ⟨S4x4096x1024, .f32⟩
  | 32 => ⟨S1x1x1024, .f32⟩
  | 33 => ⟨S4x4096x1024, .f32⟩
  | 34 => ⟨S4x4096x1024, .f32⟩
  | 35 => ⟨S1x1024x6656, .f32⟩
  | 36 => ⟨S1024x6656, .f32⟩
  | 37 => ⟨S4x4096x6656, .f32⟩
  | 38 => ⟨S4x4096x1280, .f32⟩
  | 39 => ⟨S4x4096x1280, .f32⟩
  | 40 => ⟨S4x4096x1024, .f32⟩
  | 41 => ⟨S4x4096x1024, .f32⟩
  | 42 => ⟨S4x4096x1024, .f32⟩
  | 43 => ⟨S4x4096x1024, .f32⟩
  | 44 => ⟨S1x4x1280, .f32⟩
  | 45 => ⟨S4x1280, .f32⟩
  | 46 => ⟨S1x1280, .f32⟩
  | 47 => ⟨S1280, .f32⟩
  | 48 => ⟨S_, .i32⟩
  | 49 => ⟨S_, .f32⟩
  | 50 => ⟨S4x4099x1280, .f32⟩
  | 51 => ⟨S4x4096x1280, .f32⟩
  | 52 => ⟨S1x1280, .f32⟩
  | 53 => ⟨S1280, .f32⟩
  | 54 => ⟨S1x1x1280, .f32⟩
  | 55 => ⟨S4x4096x1280, .f32⟩
  | 56 => ⟨S4x4096x1280, .f32⟩
  | 57 => ⟨S1x1x1280, .f32⟩
  | 58 => ⟨S4x4096x1280, .f32⟩
  | 59 => ⟨S4x4096x1280, .f32⟩
  | 60 => ⟨S4x4096x1280, .f32⟩
  | 61 => ⟨S1x1280, .f32⟩
  | 62 => ⟨S1280, .f32⟩
  | 63 => ⟨S1x1x1280, .f32⟩
  | 64 => ⟨S4x4096x1280, .f32⟩
  | 65 => ⟨S4x4096x1280, .f32⟩
  | 66 => ⟨S4x4096x1280, .f32⟩
  | 67 => ⟨S4x4096x1280, .f32⟩
  | 68 => ⟨S1x1280, .f32⟩
  | 69 => ⟨S1280, .f32⟩
  | 70 => ⟨S1x1x1280, .f32⟩
  | 71 => ⟨S4x4096x1280, .f32⟩
  | 72 => ⟨S4x4096x1280, .f32⟩
  | 73 => ⟨S4x4096x1280, .f32⟩
  | 74 => ⟨S4x4096x1280, .f32⟩
  | 75 => ⟨S1x1280, .f32⟩
  | 76 => ⟨S1280, .f32⟩
  | 77 => ⟨S1x1x1280, .f32⟩
  | 78 => ⟨S4x4096x1280, .f32⟩
  | 79 => ⟨S4x4096x1280, .f32⟩
  | 80 => ⟨S4x4096x1280, .f32⟩
  | 81 => ⟨S1x20x64x64, .f32⟩
  | 82 => ⟨S20x64x64, .f32⟩
  | 83 => ⟨S1x20x64, .f32⟩
  | 84 => ⟨S20x64, .f32⟩
  | 85 => ⟨S1x20x64x64, .f32⟩
  | 86 => ⟨S20x64x64, .f32⟩
  | 87 => ⟨S1x20x64, .f32⟩
  | 88 => ⟨S20x64, .f32⟩
  | 89 => ⟨S1x1280, .f32⟩
  | 90 => ⟨S1280, .f32⟩
  | 91 => ⟨S4x4096x20x64, .f32⟩
  | 92 => ⟨S20x64x4x4096, .f32⟩
  | 93 => ⟨S4x4096x20x64, .f32⟩
  | 94 => ⟨S1x1x20x64, .f32⟩
  | 95 => ⟨S4x4096x20x64, .f32⟩
  | 96 => ⟨S4x4096x20x64, .f32⟩
  | 97 => ⟨S4x4096x20x64, .f32⟩
  | 98 => ⟨S4x4096x20x64, .f32⟩
  | 99 => ⟨S_, .f32⟩
  | 100 => ⟨S4x4096x20x64, .f32⟩
  | 101 => ⟨S4x4096x20x64, .f32⟩
  | 102 => ⟨S_, .f32⟩
  | 103 => ⟨S4x4096x20x64, .f32⟩
  | 104 => ⟨S4x4096x20x64, .f32⟩
  | 105 => ⟨S4x4096x1280, .f32⟩
  | 106 => ⟨S20x64x4x4096, .f32⟩
  | 107 => ⟨S4x4096x20x64, .f32⟩
  | 108 => ⟨S1x1x20x64, .f32⟩
  | 109 => ⟨S4x4096x20x64, .f32⟩
  | 110 => ⟨S4x4096x20x64, .f32⟩
  | 111 => ⟨S4x4096x20x64, .f32⟩
  | 112 => ⟨S4x4096x20x64, .f32⟩
  | 113 => ⟨S_, .f32⟩
  | 114 => ⟨S4x4096x20x64, .f32⟩
  | 115 => ⟨S4x4096x20x64, .f32⟩
  | 116 => ⟨S_, .f32⟩
  | 117 => ⟨S4x4096x20x64, .f32⟩
  | 118 => ⟨S4x4096x20x64, .f32⟩
  | 119 => ⟨S4x4096x1280, .f32⟩
  | 120 => ⟨S_, .f32⟩
  | 121 => ⟨S4x4096x1280, .f32⟩
  | 122 => ⟨S4x4096x1280, .f32⟩
  | 123 => ⟨S1280, .f32⟩
  | 124 => ⟨S_, .f32⟩
  | 125 => ⟨S1280, .f32⟩
  | 126 => ⟨S1280, .f32⟩
  | 127 => ⟨S1280, .f32⟩
  | _ => ⟨S4x4096x1024, .f32⟩

abbrev hbmTy0_1 (i : Nat) : BufTy := match i % 128 with
  | 0 => ⟨S1280, .f32⟩
  | 1 => ⟨S1280, .i1⟩
  | 2 => ⟨S1280, .f32⟩
  | 3 => ⟨S1280, .f32⟩
  | 4 => ⟨S1280, .f32⟩
  | 5 => ⟨S1280, .f32⟩
  | 6 => ⟨S1280, .f32⟩
  | 7 => ⟨S1280, .f32⟩
  | 8 => ⟨S1280, .f32⟩
  | 9 => ⟨S1280, .f32⟩
  | 10 => ⟨S1x1x1280, .f32⟩
  | 11 => ⟨S4x4096x1280, .f32⟩
  | 12 => ⟨S4x4096x1280, .f32⟩
  | 13 => ⟨S4x4096x1280, .f32⟩
  | 14 => ⟨S_, .f32⟩
  | 15 => ⟨S4x4096x1280, .f32⟩
  | 16 => ⟨S4x4096x1280, .f32⟩
  | 17 => ⟨S4x4096x1280, .f32⟩
  | 18 => ⟨S4x4096x1280, .f32⟩
  | 19 => ⟨S4x4096x1280, .f32⟩
  | 20 => ⟨S4x4096x1280, .f32⟩
  | 21 => ⟨S4x4096x1280, .f32⟩
  | 22 => ⟨S_, .f32⟩
  | 23 => ⟨S4x1280, .f32⟩
  | 24 => ⟨S4096x4x1280, .f32⟩
  | 25 => ⟨S4096x4x1280, .f32⟩
  | 26 => ⟨S_, .f32⟩
  | 27 => ⟨S4096x4x1280, .f32⟩
  | 28 => ⟨S_, .i32⟩
  | 29 => ⟨S4096x4x1280, .f32⟩
  | 30 => ⟨S4096x4x1280, .f32⟩
  | 31 => ⟨S_, .i32⟩
  | 32 => ⟨S4x1280, .f32⟩
  | 33 => ⟨S4096x4x1280, .f32⟩
  | 34 => ⟨S_, .i32⟩
  | 35 => ⟨S_, .i1⟩
  | 36 => ⟨S_, .i32⟩
  | 37 => ⟨S_, .i32⟩
  | 38 => ⟨S1x4x1280, .f32⟩
  | 39 => ⟨S4x1280, .f32⟩
  | 40 => ⟨S_, .i32⟩
  | 41 => ⟨S_, .i32⟩
  | 42 => ⟨S1x4x1280, .f32⟩
  | 43 => ⟨S4x1280, .f32⟩
  | 44 => ⟨S4x1280, .f32⟩
  | 45 => ⟨S4x1280, .f32⟩
  | 46 => ⟨S1x4x1280, .f32⟩
  | 47 => ⟨S_, .i32⟩
  | 48 => ⟨S_, .i32⟩
  | 49 => ⟨S4096x4x1280, .f32⟩
  | 50 => ⟨S_, .i32⟩
  | 51 => ⟨S_, .i32⟩
  | 52 => ⟨S4x4096x1280, .f32⟩
  | 53 => ⟨S1x1024, .f32⟩
  | 54 => ⟨S1024, .f32⟩
  | 55 => ⟨S4x4096x1024, .f32⟩
  | 56 => ⟨S_, .f32⟩
  | 57 => ⟨S4x4096, .f32⟩
  | 58 => ⟨S4x4096x1, .f32⟩
  | 59 => ⟨S_, .f32⟩
  | 60 => ⟨S4x4096x1, .f32⟩
  | 61 => ⟨S4x4096x1, .f32⟩
  | 62 => ⟨S_, .f32⟩
  | 63 => ⟨S4x4096x1, .f32⟩
  | 64 => ⟨S4x4096x1, .f32⟩
  | 65 => ⟨S4x4096x1, .f32⟩
  | 66 => ⟨S4x4096x1024, .f32⟩
  | 67 => ⟨S4x4096x1024, .f32⟩
  | 68 => ⟨S1x1x1024, .f32⟩
  | 69 => ⟨S4x4096x1024, .f32⟩
  | 70 => ⟨S4x4096x1024, .f32⟩
  | 71 => ⟨S1x1024x6656, .f32⟩
  | 72 => ⟨S1024x6656, .f32⟩
  | 73 => ⟨S4x4096x6656, .f32⟩
  | 74 => ⟨S4x4096x1280, .f32⟩
  | 75 => ⟨S4x4096x1280, .f32⟩
  | 76 => ⟨S4x4096x1024, .f32⟩
  | 77 => ⟨S4x4096x1024, .f32⟩
  | 78 => ⟨S4x4096x1024, .f32⟩
  | 79 => ⟨S4x4096x1024, .f32⟩
  | 80 => ⟨S4x4096x1280, .f32⟩
  | 81 => ⟨S4x4096x1280, .f32⟩
  | 82 => ⟨S_, .f32⟩
  | 83 => ⟨S4x4096x1280, .f32⟩
  | 84 => ⟨S4x4096x1280, .f32⟩
  | 85 => ⟨S4x4096x1280, .f32⟩
  | 86 => ⟨S_, .f32⟩
  | 87 => ⟨S4x4096x1280, .f32⟩
  | 88 => ⟨S4x4096x1280, .f32⟩
  | 89 => ⟨S4x4096x1280, .f32⟩
  | 90 => ⟨S_, .f32⟩
  | 91 => ⟨S4x4096x1280, .f32⟩
  | 92 => ⟨S4x4096x1280, .f32⟩
  | 93 => ⟨S_, .f32⟩
  | 94 => ⟨S4x4096x1280, .f32⟩
  | 95 => ⟨S4x4096x1280, .f32⟩
  | 96 => ⟨S4x4096x1280, .f32⟩
  | 97 => ⟨S4x4096x1280, .f32⟩
  | 98 => ⟨S1x1280x1024, .f32⟩
  | 99 => ⟨S1280x1024, .f32⟩
  | 100 => ⟨S4x4096x1024, .f32⟩
  | 101 => ⟨S4x4096x1024, .f32⟩
  | 102 => ⟨S4x4096x1024, .f32⟩
  | 103 => ⟨S_, .f32⟩
  | 104 => ⟨S4x4096x1024, .f32⟩
  | 105 => ⟨S4x4096x1024, .f32⟩
  | 106 => ⟨S4x4096x1024, .f32⟩
  | 107 => ⟨S_, .f32⟩
  | 108 => ⟨S4x4096x1024, .f32⟩
  | 109 => ⟨S4x4096x1024, .f32⟩
  | 110 => ⟨S4x4096x1024, .f32⟩
  | 111 => ⟨S_, .f32⟩
  | 112 => ⟨S4x4096x1024, .f32⟩
  | 113 => ⟨S4x4096x1024, .f32⟩
  | 114 => ⟨S_, .f32⟩
  | 115 => ⟨S4x4096x1024, .f32⟩
  | 116 => ⟨S4x4096x1024, .f32⟩
  | 117 => ⟨S4x4096x1024, .f32⟩
  | 118 => ⟨S4x4096x1024, .f32⟩
  | 119 => ⟨S4x4096x1024, .f32⟩
  | 120 => ⟨S_, .f32⟩
  | 121 => ⟨S4x4096x1024, .f32⟩
  | 122 => ⟨S4x4096x1024, .f32⟩
  | 123 => ⟨S4x4096x1024, .f32⟩
  | 124 => ⟨S_, .f32⟩
  | 125 => ⟨S4x4096x1024, .f32⟩
  | 126 => ⟨S4x4096x1024, .f32⟩
  | 127 => ⟨S4x4096x1024, .f32⟩
  | _ => ⟨S4x4096x1024, .f32⟩

abbrev hbmTy0_2 (i : Nat) : BufTy := match i % 128 with
  | 0 => ⟨S_, .f32⟩
  | 1 => ⟨S4x4096x1024, .f32⟩
  | 2 => ⟨S4x4096x1024, .f32⟩
  | 3 => ⟨S_, .f32⟩
  | 4 => ⟨S4x4096x1024, .f32⟩
  | 5 => ⟨S4x4096x1024, .f32⟩
  | 6 => ⟨S4x4096x1024, .f32⟩
  | 7 => ⟨S1x8x128x128, .f32⟩
  | 8 => ⟨S8x128x128, .f32⟩
  | 9 => ⟨S1x8x128, .f32⟩
  | 10 => ⟨S8x128, .f32⟩
  | 11 => ⟨S1x1024, .f32⟩
  | 12 => ⟨S1024, .f32⟩
  | 13 => ⟨S1x1024, .f32⟩
  | 14 => ⟨S1024, .f32⟩
  | 15 => ⟨S_, .f32⟩
  | 16 => ⟨S4x4096, .f32⟩
  | 17 => ⟨S4x4096x1, .f32⟩
  | 18 => ⟨S_, .f32⟩
  | 19 => ⟨S4x4096x1, .f32⟩
  | 20 => ⟨S4x4096x1, .f32⟩
  | 21 => ⟨S4x4096x1024, .f32⟩
  | 22 => ⟨S4x4096x1024, .f32⟩
  | 23 => ⟨S4x4096x1024, .f32⟩
  | 24 => ⟨S_, .f32⟩
  | 25 => ⟨S4x4096, .f32⟩
  | 26 => ⟨S4x4096x1, .f32⟩
  | 27 => ⟨S_, .f32⟩
  | 28 => ⟨S4x4096x1, .f32⟩
  | 29 => ⟨S4x4096x1, .f32⟩
  | 30 => ⟨S_, .f32⟩
  | 31 => ⟨S4x4096x1, .f32⟩
  | 32 => ⟨S4x4096x1, .f32⟩
  | 33 => ⟨S4x4096x1, .f32⟩
  | 34 => ⟨S4x4096x1024, .f32⟩
  | 35 => ⟨S4x4096x1024, .f32⟩
  | 36 => ⟨S1x1x1024, .f32⟩
  | 37 => ⟨S4x4096x1024, .f32⟩
  | 38 => ⟨S4x4096x1024, .f32⟩
  | 39 => ⟨S1x1x1024, .f32⟩
  | 40 => ⟨S4x4096x1024, .f32⟩
  | 41 => ⟨S4x4096x1024, .f32⟩
  | 42 => ⟨S4x32x128x8x128, .f32⟩
  | 43 => ⟨S128, .i32⟩
  | 44 => ⟨S_, .i32⟩
  | 45 => ⟨S_, .i32⟩
  | 46 => ⟨S128, .i32⟩
  | 47 => ⟨S128, .i32⟩
  | 48 => ⟨S128, .i32⟩
  | 49 => ⟨S_, .i32⟩
  | 50 => ⟨S128, .i32⟩
  | 51 => ⟨S128, .i1⟩
  | 52 => ⟨S128, .i32⟩
  | 53 => ⟨S128, .i32⟩
  | 54 => ⟨S_, .i32⟩
  | 55 => ⟨S128, .i32⟩
  | 56 => ⟨S128, .i1⟩
  | 57 => ⟨S128, .i1⟩
  | 58 => ⟨S_, .i32⟩
  | 59 => ⟨S128, .i32⟩
  | 60 => ⟨S128, .i32⟩
  | 61 => ⟨S128, .i32⟩
  | 62 => ⟨S128x1, .i32⟩
  | 63 => ⟨S1x128, .i32⟩
  | 64 => ⟨S128x128, .i32⟩
  | 65 => ⟨S128x128, .i32⟩
  | 66 => ⟨S128x128, .i1⟩
  | 67 => ⟨S128x128, .f32⟩
  | 68 => ⟨S1x128x128, .f32⟩
  | 69 => ⟨S8x128x128, .f32⟩
  | 70 => ⟨S8x128x128, .f32⟩
  | 71 => ⟨S8x4x32x128x128, .f32⟩
  | 72 => ⟨S4x32x128x8x128, .f32⟩
  | 73 => ⟨S128x8, .f32⟩
  | 74 => ⟨S1x1x128x8x1, .f32⟩
  | 75 => ⟨S4x32x128x8x128, .f32⟩
  | 76 => ⟨S4x32x128x8x128, .f32⟩
  | 77 => ⟨S4x4096x1024, .f32⟩
  | 78 => ⟨S4x4096x1024, .f32⟩
  | 79 => ⟨S1x1024x1024, .f32⟩
  | 80 => ⟨S1024x1024, .f32⟩
  | 81 => ⟨S4x4096x1024, .f32⟩
  | 82 => ⟨S4x4096x1024, .f32⟩
  | 83 => ⟨S4x4096x1024, .f32⟩
  | 84 => ⟨S_, .f32⟩
  | 85 => ⟨S4x4096x1024, .f32⟩
  | 86 => ⟨S4x4096x1024, .f32⟩
  | 87 => ⟨S_, .f32⟩
  | 88 => ⟨S4x4096x1024, .f32⟩
  | 89 => ⟨S4x4096x1024, .f32⟩
  | 90 => ⟨S4x4096x1024, .f32⟩
  | 91 => ⟨S4x4096x1024, .f32⟩
  | 92 => ⟨S4x4096x1024, .f32⟩
  | 93 => ⟨S_, .f32⟩
  | 94 => ⟨S4x4096x1024, .f32⟩
  | 95 => ⟨S4x4096x1024, .f32⟩
  | 96 => ⟨S_, .f32⟩
  | 97 => ⟨S4x4096x1024, .f32⟩
  | 98 => ⟨S4x4096x1024, .f32⟩
  | 99 => ⟨S4x4096x1024, .f32⟩
  | 100 => ⟨S4x4096x1024, .f32⟩
  | 101 => ⟨S1x1024x1024, .f32⟩
  | 102 => ⟨S1024x1024, .f32⟩
  | 103 => ⟨S4x4096x1024, .f32⟩
  | 104 => ⟨S4x4096x1024, .f32⟩
  | 105 => ⟨S16384x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_call0_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_2 : Ref sig .tc := ⟨.hbm, 99, rfl⟩
abbrev main_v77 : Ref sig .tc := ⟨.hbm, 100, rfl⟩
abbrev main_v78 : Ref sig .tc := ⟨.hbm, 101, rfl⟩
abbrev main_cst_3 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_4 : Ref sig .tc := ⟨.hbm, 113, rfl⟩
abbrev main_v89 : Ref sig .tc := ⟨.hbm, 114, rfl⟩
abbrev main_v90 : Ref sig .tc := ⟨.hbm, 115, rfl⟩
abbrev main_cst_5 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_6 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_call1_cst : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_call1_v5 : Ref sig .tc := ⟨.hbm, 130, rfl⟩
abbrev main_call1_v6 : Ref sig .tc := ⟨.hbm, 131, rfl⟩
abbrev main_call1_v7 : Ref sig .tc := ⟨.hbm, 132, rfl⟩
abbrev main_call1_v8 : Ref sig .tc := ⟨.hbm, 133, rfl⟩
abbrev main_call1_v9 : Ref sig .tc := ⟨.hbm, 134, rfl⟩
abbrev main_call1_v10 : Ref sig .tc := ⟨.hbm, 135, rfl⟩
abbrev main_call1_v11 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_7 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_8 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_9 : Ref sig .tc := ⟨.hbm, 154, rfl⟩
abbrev main_v112 : Ref sig .tc := ⟨.hbm, 155, rfl⟩
abbrev main_c_10 : Ref sig .tc := ⟨.hbm, 156, rfl⟩
abbrev main_v113_0 : Ref sig .tc := ⟨.hbm, 157, rfl⟩
abbrev main_v113_1 : Ref sig .tc := ⟨.hbm, 158, rfl⟩
abbrev main_v113_2 : Ref sig .tc := ⟨.hbm, 159, rfl⟩
abbrev main_v113_3 : Ref sig .tc := ⟨.hbm, 160, rfl⟩
abbrev main_v113_4 : Ref sig .tc := ⟨.hbm, 161, rfl⟩
abbrev main_while0c_c_40 : Ref sig .tc := ⟨.hbm, 162, rfl⟩
abbrev main_while0c_v255 : Ref sig .tc := ⟨.hbm, 163, rfl⟩
abbrev main_while0b_call2_c : Ref sig .tc := ⟨.hbm, 164, rfl⟩
abbrev main_while0b_call2_c_0 : Ref sig .tc := ⟨.hbm, 165, rfl⟩
abbrev main_while0b_call2_v0 : Ref sig .tc := ⟨.hbm, 166, rfl⟩
abbrev main_while0b_v255 : Ref sig .tc := ⟨.hbm, 167, rfl⟩
abbrev main_while0b_call3_c : Ref sig .tc := ⟨.hbm, 168, rfl⟩
abbrev main_while0b_call3_c_0 : Ref sig .tc := ⟨.hbm, 169, rfl⟩
abbrev main_while0b_call3_v0 : Ref sig .tc := ⟨.hbm, 170, rfl⟩
abbrev main_while0b_v256 : Ref sig .tc := ⟨.hbm, 171, rfl⟩
abbrev main_while0b_v257 : Ref sig .tc := ⟨.hbm, 172, rfl⟩
abbrev main_while0b_v258 : Ref sig .tc := ⟨.hbm, 173, rfl⟩
abbrev main_while0b_call4_v0 : Ref sig .tc := ⟨.hbm, 174, rfl⟩
abbrev main_while0b_call4_c : Ref sig .tc := ⟨.hbm, 175, rfl⟩
abbrev main_while0b_call4_c_0 : Ref sig .tc := ⟨.hbm, 176, rfl⟩
abbrev main_while0b_v259 : Ref sig .tc := ⟨.hbm, 177, rfl⟩
abbrev main_while0b_c_40 : Ref sig .tc := ⟨.hbm, 178, rfl⟩
abbrev main_while0b_v260 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_cst_11 : Ref sig .tc := ⟨.hbm, 184, rfl⟩
abbrev main_v118 : Ref sig .tc := ⟨.hbm, 185, rfl⟩
abbrev main_v119 : Ref sig .tc := ⟨.hbm, 186, rfl⟩
abbrev main_cst_12 : Ref sig .tc := ⟨.hbm, 187, rfl⟩
abbrev main_v120 : Ref sig .tc := ⟨.hbm, 188, rfl⟩
abbrev main_v121 : Ref sig .tc := ⟨.hbm, 189, rfl⟩
abbrev main_cst_13 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_cst_14 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_cst_15 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_cst_16 : Ref sig .tc := ⟨.hbm, 218, rfl⟩
abbrev main_v147 : Ref sig .tc := ⟨.hbm, 219, rfl⟩
abbrev main_v148 : Ref sig .tc := ⟨.hbm, 220, rfl⟩
abbrev main_cst_17 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_cst_18 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_cst_19 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_cst_20 : Ref sig .tc := ⟨.hbm, 239, rfl⟩
abbrev main_v164 : Ref sig .tc := ⟨.hbm, 240, rfl⟩
abbrev main_v165 : Ref sig .tc := ⟨.hbm, 241, rfl⟩
abbrev main_cst_21 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_cst_22 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_cst_23 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_cst_24 : Ref sig .tc := ⟨.hbm, 256, rfl⟩
abbrev main_v177 : Ref sig .tc := ⟨.hbm, 257, rfl⟩
abbrev main_v178 : Ref sig .tc := ⟨.hbm, 258, rfl⟩
abbrev main_cst_25 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_cst_26 : Ref sig .tc := ⟨.hbm, 271, rfl⟩
abbrev main_v190 : Ref sig .tc := ⟨.hbm, 272, rfl⟩
abbrev main_v191 : Ref sig .tc := ⟨.hbm, 273, rfl⟩
abbrev main_cst_27 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_cst_28 : Ref sig .tc := ⟨.hbm, 280, rfl⟩
abbrev main_v197 : Ref sig .tc := ⟨.hbm, 281, rfl⟩
abbrev main_v198 : Ref sig .tc := ⟨.hbm, 282, rfl⟩
abbrev main_cst_29 : Ref sig .tc := ⟨.hbm, 283, rfl⟩
abbrev main_v199 : Ref sig .tc := ⟨.hbm, 284, rfl⟩
abbrev main_v200 : Ref sig .tc := ⟨.hbm, 285, rfl⟩
abbrev main_cst_30 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_c_31 : Ref sig .tc := ⟨.hbm, 300, rfl⟩
abbrev main_call5_v0 : Ref sig .tc := ⟨.hbm, 301, rfl⟩
abbrev main_call5_v1 : Ref sig .tc := ⟨.hbm, 302, rfl⟩
abbrev main_call5_v2 : Ref sig .tc := ⟨.hbm, 303, rfl⟩
abbrev main_call5_v3 : Ref sig .tc := ⟨.hbm, 304, rfl⟩
abbrev main_call5_v4 : Ref sig .tc := ⟨.hbm, 305, rfl⟩
abbrev main_call5_v5 : Ref sig .tc := ⟨.hbm, 306, rfl⟩
abbrev main_call5_v6 : Ref sig .tc := ⟨.hbm, 307, rfl⟩
abbrev main_call5_v7 : Ref sig .tc := ⟨.hbm, 308, rfl⟩
abbrev main_call5_v8 : Ref sig .tc := ⟨.hbm, 309, rfl⟩
abbrev main_call5_c : Ref sig .tc := ⟨.hbm, 310, rfl⟩
abbrev main_call5_v9 : Ref sig .tc := ⟨.hbm, 311, rfl⟩
abbrev main_call5_v10 : Ref sig .tc := ⟨.hbm, 312, rfl⟩
abbrev main_call5_v11 : Ref sig .tc := ⟨.hbm, 313, rfl⟩
abbrev main_call5_c_0 : Ref sig .tc := ⟨.hbm, 314, rfl⟩
abbrev main_call5_v12 : Ref sig .tc := ⟨.hbm, 315, rfl⟩
abbrev main_call5_v13 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_cst_32 : Ref sig .tc := ⟨.hbm, 340, rfl⟩
abbrev main_v237 : Ref sig .tc := ⟨.hbm, 341, rfl⟩
abbrev main_v238 : Ref sig .tc := ⟨.hbm, 342, rfl⟩
abbrev main_cst_33 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_cst_34 : Ref sig .tc := ⟨.hbm, 349, rfl⟩
abbrev main_v244 : Ref sig .tc := ⟨.hbm, 350, rfl⟩
abbrev main_v245 : Ref sig .tc := ⟨.hbm, 351, rfl⟩
abbrev main_cst_35 : Ref sig .tc := ⟨.hbm, 352, rfl⟩
abbrev main_v246 : Ref sig .tc := ⟨.hbm, 353, rfl⟩
abbrev main_v247 : Ref sig .tc := ⟨.hbm, 354, rfl⟩
abbrev main_v248 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩

abbrev nD : Nat := 1
abbrev τ : Topo := Topo.v7x

variable {F : FTy → Type} [FloatOps F]

abbrev main_while0_count : Scf.Loop 32 := ⟨0#32, 4096#32, 1#32⟩
-- ==== FfnKernel.lean ====
abbrev S16384x1024 : Shape := ⟨2, ![16384, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1024x1 : Shape := ⟨2, ![1024, 1]⟩
abbrev S1x1024x1024 : Shape := ⟨3, ![1, 1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S2x1024x4096, .bf16⟩
  | .hbm, ⟨6, _⟩ => ⟨S2x4096x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16384x1024 : Shape := ⟨2, ![16384, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024x4096, .f32⟩
  | .hbm, ⟨8, _⟩ => ⟨S1024x4096, .f32⟩
  | .hbm, ⟨9, _⟩ => ⟨S1x4096x1024, .f32⟩
  | .hbm, ⟨10, _⟩ => ⟨S4096x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Ffn0Kernel.lean ====
abbrev S16384x1024 : Shape := ⟨2, ![16384, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1024x1 : Shape := ⟨2, ![1024, 1]⟩
abbrev S1x1024x1024 : Shape := ⟨3, ![1, 1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S2x1024x4096, .bf16⟩
  | .hbm, ⟨6, _⟩ => ⟨S2x4096x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn0ReferenceIdeal.lean ====
abbrev S16384x1024 : Shape := ⟨2, ![16384, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024x4096, .f32⟩
  | .hbm, ⟨8, _⟩ => ⟨S1024x4096, .f32⟩
  | .hbm, ⟨9, _⟩ => ⟨S1x4096x1024, .f32⟩
  | .hbm, ⟨10, _⟩ => ⟨S4096x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.MixOps.lean ====
/- The mixer kernel's body as vector functions: one block of 256 recurrent channels (gates, decay, the scan over 64
   steps of eight chains, the joining of the chains), and the parts around it. -/
module

public import proofs.«01_k».proof.Proof.Gen.KernelIdeal.Value
public import Idealize.ShloMosaic.Lib.Pointwise

@[expose] public section

noncomputable section

namespace Cert.Layer.Mix

open Cert.KernelIdeal Cert.KernelIdeal.Gen Idealize.ShloMosaic Idealize.ShloMosaic.TcCoe
open Idealize.SL.Sem

variable {F : FTy → Type} [FloatOps F]

section
variable [Named F]

/-- gelu as the kernel spells it, on a whole vector. -/
def geluV {S : Shape} (x : FVec F S .f32) : FVec F S .f32 :=
  divf x (addf (broadcast S (Scalar.ofBits .f32 0x3F800000#32))
    (exp2 (mulf x (addf (broadcast S (Named.named κ "gelu_exp" 0xC0135761#32))
      (mulf (broadcast S (Named.named κ "gelu_exp_cubic" 0xBDD2D3E8#32)) (mulf x x))))))

end

theorem slab_slices (n : ℕ) (h : n < 64) : S512x256.Slices ![8 * n, 0] S8x256 := by
  refine ⟨rfl, fun a => ?_⟩
  match a with
  | ⟨0, _⟩ => show 8 * n + 8 ≤ 512; omega
  | ⟨1, _⟩ => show 0 + 256 ≤ 256; omega

/-- Rows `8n … 8n+7`: step `n` of the eight chains. -/
def slab (x : FVec F S512x256 .f32) (n : ℕ) (h : n < 64) : FVec F S8x256 .f32 :=
  extractStridedSlice S8x256 ![8 * n, 0] x (slab_slices n h)

/-- The eight chains' local states after step `n`, each started from zero. -/
def scanH (a u : FVec F S512x256 .f32) : (n : ℕ) → n < 64 → FVec F S8x256 .f32
  | 0, h => slab u 0 h
  | n + 1, h => addf (mulf (slab a (n + 1) h) (scanH a u n (Nat.lt_of_succ_lt h))) (slab u (n + 1) h)

/-- The products of the decays of the eight chains up to step `n`. -/
def scanP (a : FVec F S512x256 .f32) : (n : ℕ) → n < 64 → FVec F S8x256 .f32
  | 0, h => slab a 0 h
  | n + 1, h => mulf (scanP a n (Nat.lt_of_succ_lt h)) (slab a (n + 1) h)

/-- `keep k v z`: chain `c` takes chain `c - k`'s value of `v`, the first `k` chains take `z`. -/
def keep (k : BitVec 32) (z : BitVec 32) (v : FVec F S8x256 .f32) : FVec F S8x256 .f32 :=
  select (cmpi .sge (iota .tc S8x256 32 [0] iota_S8x256_d0_w32) (broadcast S8x256 k))
    (dynamicRotate 0 k none v rotates_S8x256_d0) (broadcast S8x256 (Scalar.ofBits .f32 z))

/-- One doubling of the joined states. -/
def joinH (k : BitVec 32) (p h : FVec F S8x256 .f32) : FVec F S8x256 .f32 := addf (mulf p (keep k 0x00000000#32 h)) h

/-- One doubling of the joined decays. -/
def joinP (k : BitVec 32) (p : FVec F S8x256 .f32) : FVec F S8x256 .f32 := mulf p (keep k 0x3F800000#32 p)

/-- The eight chains' last states, given the state carried into the tile. -/
def chainEnds (p h cy : FVec F S8x256 .f32) : FVec F S8x256 .f32 :=
  addf (joinH 4#32 (joinP 2#32 (joinP 1#32 p)) (joinH 2#32 (joinP 1#32 p) (joinH 1#32 p h)))
    (mulf (joinP 4#32 (joinP 2#32 (joinP 1#32 p))) cy)

/-- The state each chain starts from. -/
def chainEntry (p h cy : FVec F S8x256 .f32) : FVec F S8x256 .f32 :=
  select (cmpi .sge (iota .tc S8x256 32 [0] iota_S8x256_d0_w32) (broadcast S8x256 1#32))
    (dynamicRotate 0 1#32 none (chainEnds p h cy) rotates_S8x256_d0) cy

/-- The state carried out of the tile, on all eight rows. -/
def carryOut (p h cy : FVec F S8x256 .f32) : FVec F S8x256 .f32 :=
  shapeCast S8x256 (broadcastTo S8x256 (shapeCast S1x256
    (extractStridedSlice S1x256 ![7, 0] (chainEnds p h cy) slices_S8x256_o7_0_S1x256) shapeCasts_S1x256_S1x256)
    broadcasts_S1x256_S8x256) shapeCasts_S8x256_S8x256

theorem catN (f : Fin 64 → FVec F S8x256 .f32) :
    Shape.Concatenates ((List.ofFn fun n => (⟨S8x256, f n⟩ : (s : Shape) × (s.Idx → F .f32))).map (·.1)) S512x256 0 := by
  have h : (List.ofFn fun n => (⟨S8x256, f n⟩ : (s : Shape) × (s.Idx → F .f32))).map (·.1)
      = List.replicate 64 S8x256 := by
    rw [List.map_ofFn]; exact List.ofFn_const _ _
  rw [h]; decide

/-- Sixty-four blocks of eight rows under one another. -/
def stack (f : Fin 64 → FVec F S8x256 .f32) : FVec F S512x256 .f32 :=
  concatenate S512x256 0 (List.ofFn fun n => ⟨S8x256, f n⟩) (catN f)

theorem xb_slices (b : Fin 5) : S512x1280.Slices ![0, 256 * b.val] S512x256 := by
  refine ⟨rfl, fun a => ?_⟩
  have := b.isLt
  match a with
  | ⟨0, _⟩ => show 0 + 512 ≤ 512; omega
  | ⟨1, _⟩ => show 256 * b.val + 256 ≤ 1280; omega

/-- Block `b` of 256 columns. -/
def xb (b : Fin 5) (xr : FVec F S512x1280 .f32) : FVec F S512x256 .f32 :=
  extractStridedSlice S512x256 ![0, 256 * b.val] xr (xb_slices b)

theorem rb_slices (b : Fin 5) : S1x1280.Slices ![0, 256 * b.val] S1x256 := by
  refine ⟨rfl, fun a => ?_⟩
  have := b.isLt
  match a with
  | ⟨0, _⟩ => show 0 + 1 ≤ 1; omega
  | ⟨1, _⟩ => show 256 * b.val + 256 ≤ 1280; omega

/-- Block `b` of 256 columns of a row. -/
def rb (b : Fin 5) (r : FVec F S1x1280 .f32) : FVec F S1x256 .f32 :=
  extractStridedSlice S1x256 ![0, 256 * b.val] r (rb_slices b)

/-- The two gates' raw values of a block. -/
def gz (x : FVec F S512x256 .f32) (w : Vec F S1x256x512 .bf16) (bg : Vec F S1x1x512 .f32) : FVec F S512x512 .f32 :=
  k0_pay22 (truncf .bf16 x bitsLt_bf16_f32) w bg

/-- The exponent of the decay, without its sign. -/
def nla (z : FVec F S512x512 .f32) (rate : FVec F S1x256 .f32) : FVec F S512x256 .f32 :=
  mulf (logistic (extractStridedSlice S512x256 ![0, 0] z slices_S512x512_o0_0_S512x256))
    (broadcastTo S512x256 rate broadcasts_S1x256_S512x256)

/-- The decay. -/
def dec (n : FVec F S512x256 .f32) : FVec F S512x256 .f32 :=
  exp (subf (broadcast S512x256 (Scalar.ofBits .f32 0x00000000#32)) n)

/-- One minus the square of the decay, as the kernel computes it. -/
def oms (n a : FVec F S512x256 .f32) : FVec F S512x256 .f32 :=
  mulf (tanh n) (addf (broadcast S512x256 (Scalar.ofBits .f32 0x3F800000#32)) (mulf a a))

/-- The recurrence's input. -/
def inp (x : FVec F S512x256 .f32) (z : FVec F S512x512 .f32) (y : FVec F S512x256 .f32) : FVec F S512x256 .f32 :=
  mulf (select (cmpf .ogt y (broadcast S512x256 (Scalar.ofBits .f32 0x00000000#32))) (mulf y (rsqrt y))
      (broadcast S512x256 (Scalar.ofBits .f32 0x00000000#32)))
    (mulf (logistic (extractStridedSlice S512x256 ![0, 256] z slices_S512x512_o0_256_S512x256)) x)

/-- A block's decays. -/
def blkA (b : Fin 5) (xr : FVec F S512x1280 .f32) (rate : FVec F S1x1280 .f32) (w : Vec F S1x256x512 .bf16)
    (bg : Vec F S1x1x512 .f32) : FVec F S512x256 .f32 := dec (nla (gz (xb b xr) w bg) (rb b rate))

/-- A block's inputs. -/
def blkU (b : Fin 5) (xr : FVec F S512x1280 .f32) (rate : FVec F S1x1280 .f32) (w : Vec F S1x256x512 .bf16)
    (bg : Vec F S1x1x512 .f32) : FVec F S512x256 .f32 :=
  inp (xb b xr) (gz (xb b xr) w bg) (oms (nla (gz (xb b xr) w bg) (rb b rate)) (blkA b xr rate w bg))

/-- A block's states at all steps. -/
def states (a u : FVec F S512x256 .f32) (cy : FVec F S8x256 .f32) : FVec F S512x256 .f32 :=
  addf (stack fun n => scanH a u n.val n.isLt)
    (mulf (stack fun n => scanP a n.val n.isLt)
      (stack fun _ => chainEntry (scanP a 63 (by decide)) (scanH a u 63 (by decide)) cy))

/-- The state a block carries out of the tile. -/
def blkCarry (a u : FVec F S512x256 .f32) (cy : FVec F S8x256 .f32) : FVec F S8x256 .f32 :=
  carryOut (scanP a 63 (by decide)) (scanH a u 63 (by decide)) cy

/-- A block of the recurrent branch, in the order of the steps. -/
def blkYa [Named F] (a u g : FVec F S512x256 .f32) (cy : FVec F S8x256 .f32) : FVec F S512x256 .f32 :=
  mulf (states a u cy) (geluV g)

/-- From the order of the steps back to the order of the tokens. -/
def toTok (y : FVec F S512x256 .f32) : FVec F S512x256 .bf16 :=
  truncf .bf16 (shapeCast S512x256 (transpose S8x64x256 [1, 0, 2] (shapeCast S64x8x256 y shapeCasts_S512x256_S64x8x256)
    transposes_S64x8x256_p1_0_2_S8x64x256) shapeCasts_S8x64x256_S512x256) bitsLt_bf16_f32

/-- The recurrent branch of the tile. -/
def yaTok (y : Fin 5 → FVec F S512x256 .f32) : FVec F S512x1280 .bf16 :=
  concatenate S512x1280 1 [⟨S512x256, toTok (y 0)⟩, ⟨S512x256, toTok (y 1)⟩, ⟨S512x256, toTok (y 2)⟩,
    ⟨S512x256, toTok (y 3)⟩, ⟨S512x256, toTok (y 4)⟩] concatenates_S512x256_S512x256_S512x256_S512x256_S512x256_S512x1280_d1

/-- A mixing weight with its later chunks cut off. -/
def wsm (w : Vec F S1x128x128 .f32) : FVec F S128x128 .bf16 :=
  truncf .bf16 (select (k0_pay1095 k0_pay1092 (iota .tc S128x128 32 [1] iota_S128x128_d1_w32) 64#32 k0_pay1093 k0_pay1094)
    (shapeCast S128x128 w shapeCasts_S1x128x128_S128x128) (broadcast S128x128 (Scalar.ofBits .f32 0x00000000#32))) bitsLt_bf16_f32

theorem vb_slices (n : Fin 4) (g : Fin 8) : S512x1024.Slices ![128 * n.val, 128 * g.val] S128x128 := by
  refine ⟨rfl, fun a => ?_⟩
  have := n.isLt; have := g.isLt
  match a with
  | ⟨0, _⟩ => show 128 * n.val + 128 ≤ 512; omega
  | ⟨1, _⟩ => show 128 * g.val + 128 ≤ 1024; omega

/-- One group of one block of 128 tokens, mixed. -/
def mixCol (v : FVec F S512x1024 .bf16) (w : FVec F S128x128 .bf16) (n : Fin 4) (g : Fin 8) : FVec F S128x128 .f32 :=
  matmul dot_S128x128_S128x128_S128x128_1_0_0_1_n_n none w
    (extractStridedSlice S128x128 ![128 * n.val, 128 * g.val] v (vb_slices n g)) (constant S128x128 .f32 0x00000000#32)

/-- One block of 128 tokens, mixed, with its bias. -/
def mixBlk (v : FVec F S512x1024 .bf16) (w : Fin 8 → FVec F S128x128 .bf16) (bs : Vec F S128x1024 .f32) (n : Fin 4) :
    FVec F S128x1024 .f32 :=
  addf (concatenate S128x1024 1 [⟨S128x128, mixCol v (w 0) n 0⟩, ⟨S128x128, mixCol v (w 1) n 1⟩, ⟨S128x128, mixCol v (w 2) n 2⟩,
      ⟨S128x128, mixCol v (w 3) n 3⟩, ⟨S128x128, mixCol v (w 4) n 4⟩, ⟨S128x128, mixCol v (w 5) n 5⟩,
      ⟨S128x128, mixCol v (w 6) n 6⟩, ⟨S128x128, mixCol v (w 7) n 7⟩]
      concatenates_S128x128_S128x128_S128x128_S128x128_S128x128_S128x128_S128x128_S128x128_S128x1024_d1)
    (shapeCast S128x1024 bs shapeCasts_S128x1024_S128x1024)

/-- The tile's tokens, mixed. -/
def mixed (v : FVec F S512x1024 .bf16) (w : Fin 8 → FVec F S128x128 .bf16) (bs : Vec F S128x1024 .f32) : FVec F S512x1024 .f32 :=
  concatenate S512x1024 0 [⟨S128x1024, mixBlk v w bs 0⟩, ⟨S128x1024, mixBlk v w bs 1⟩, ⟨S128x1024, mixBlk v w bs 2⟩,
    ⟨S128x1024, mixBlk v w bs 3⟩] concatenates_S128x1024_S128x1024_S128x1024_S128x1024_S512x1024_d0

/-- Two gates' raw values of the tile, from four blocks of columns each. -/
def gateCat (p : Fin 4 → FVec F S512x256 .f32) : FVec F S512x1024 .f32 := k0_pay1090 (p 0) (p 1) (p 2) (p 3)

/-- The tile's result. -/
def outV [Named F] (x : Vec F S512x1024 .f32) (hB : FVec F S512x1024 .bf16) (wu wv : Vec F S1x1024x1024 .bf16)
    (wt : Fin 8 → Vec F S1x1024x256 .bf16) (lng lnb : Vec F S1x1024 .f32) (ws : Fin 8 → Vec F S1x128x128 .f32)
    (bs : Vec F S128x1024 .f32) (y : Fin 5 → FVec F S512x256 .f32) (wa : Vec F S1x1280x1024 .bf16)
    (wb wo : Vec F S1x1024x1024 .bf16) : FVec F S512x1024 .f32 :=
  k0_pay1 (k0_pay4 x) (k0_pay18 hB wu)
    (gateCat fun j => k0_pay24 hB (wt ⟨j.val, by have := j.isLt; omega⟩))
    (gateCat fun j => k0_pay24 hB (wt ⟨j.val + 4, by have := j.isLt; omega⟩))
    (mixed (k0_pay17 (k0_pay15 (k0_pay10 hB wv)) (k0_pay16 (k0_pay10 hB wv)) lng lnb) (fun g => wsm (ws g)) bs)
    (k0_pay1126 (yaTok y) wa) (k0_pay1127 (k0_pay18 hB wu)) (Named.named κ "gelu_exp" 0xC0135761#32) wb wo

end Cert.Layer.Mix
end
-- ==== Proof.MixTile.lean ====
/- The mixer kernel's body on one tile as functions of its loads: the tile's result, the tokens it leaves for the next
   tile's convolution, and the states it carries to the next tile. -/
module

public import proofs.«01_k».proof.Proof.MixOps

@[expose] public section

noncomputable section

namespace Cert.Layer.Mix

open Cert.KernelIdeal Cert.KernelIdeal.Gen Idealize.ShloMosaic Idealize.ShloMosaic.TcCoe
open Idealize.SL.Sem

variable {F : FTy → Type} [FloatOps F]

/-- What the body loads of its operands. -/
structure Lds (F : FTy → Type) where
  x : Vec F S512x1024 .f32
  g : Vec F S1x1024 .f32
  wx : Vec F S1x1024x1280 .bf16
  wv : Vec F S1x1024x1024 .bf16
  wu : Vec F S1x1024x1024 .bf16
  wg : Fin 5 → Vec F S1x1024x256 .bf16
  wt : Fin 8 → Vec F S1x1024x256 .bf16
  cb : Vec F S1x1280 .f32
  cw : Fin 4 → Vec F S1x1280 .f32
  gw : Fin 5 → Vec F S1x256x512 .bf16
  gb : Fin 5 → Vec F S1x1x512 .f32
  lam : Vec F S1x1280 .f32
  lng : Vec F S1x1024 .f32
  lnb : Vec F S1x1024 .f32
  ws : Fin 8 → Vec F S1x128x128 .f32
  bs : Vec F S128x1024 .f32
  wa : Vec F S1x1280x1024 .bf16
  wb : Vec F S1x1024x1024 .bf16
  wo : Vec F S1x1024x1024 .bf16

/-- The convolution's output in the order of the steps. -/
def tileXr (L : Lds F) (hp : FVec F S512x1024 .bf16) (T : Vec F S24x1280 .f32) : FVec F S512x1280 .f32 :=
  k0_pay14 (k0_pay13 hp L.wx T) L.cb (L.cw 0) (L.cw 1) (L.cw 2) (L.cw 3)

/-- The decays of block `b`. -/
def tileA (L : Lds F) (hp : FVec F S512x1024 .bf16) (T : Vec F S24x1280 .f32) (b : Fin 5) : FVec F S512x256 .f32 :=
  blkA b (tileXr L hp T) (k0_pay19 L.lam) (L.gw b) (L.gb b)

/-- The recurrence's inputs of block `b`. -/
def tileU (L : Lds F) (hp : FVec F S512x1024 .bf16) (T : Vec F S24x1280 .f32) (b : Fin 5) : FVec F S512x256 .f32 :=
  blkU b (tileXr L hp T) (k0_pay19 L.lam) (L.gw b) (L.gb b)

/-- The tile's result. -/
def tileOut [Named F] (L : Lds F) (hB hp : FVec F S512x1024 .bf16) (T : Vec F S24x1280 .f32)
    (H : Fin 5 → Vec F S8x256 .f32) : FVec F S512x1024 .f32 :=
  outV L.x hB L.wu L.wv L.wt L.lng L.lnb L.ws L.bs
    (fun b => blkYa (tileA L hp T b) (tileU L hp T b) (k0_pay23 hp (L.wg b)) (H b)) L.wa L.wb L.wo

/-- The tokens left for the next tile's convolution. -/
def tileTail (L : Lds F) (hp : FVec F S512x1024 .bf16) : FVec F S24x1280 .f32 := k0_pay12 hp L.wx

/-- The states of block `b` carried to the next tile. -/
def tileCarry (L : Lds F) (hp : FVec F S512x1024 .bf16) (T : Vec F S24x1280 .f32) (H : Fin 5 → Vec F S8x256 .f32)
    (b : Fin 5) : FVec F S8x256 .f32 := blkCarry (tileA L hp T b) (tileU L hp T b) (H b)

theorem inbG (b : Fin 5) : ∀ a, (![0, 0, 1280 + 256 * b.val] : Fin 3 → ℕ) a + S1x1024x256.size a ≤ S1x1024x6656.size a := by
  intro a; have := b.isLt
  match a with
  | ⟨0, _⟩ => show 0 + 1 ≤ 1; omega
  | ⟨1, _⟩ => show 0 + 1024 ≤ 1024; omega
  | ⟨2, _⟩ => show 1280 + 256 * b.val + 256 ≤ 6656; omega

theorem inbT (b : Fin 8) : ∀ a, (![0, 0, 4608 + 256 * b.val] : Fin 3 → ℕ) a + S1x1024x256.size a ≤ S1x1024x6656.size a := by
  intro a; have := b.isLt
  match a with
  | ⟨0, _⟩ => show 0 + 1 ≤ 1; omega
  | ⟨1, _⟩ => show 0 + 1024 ≤ 1024; omega
  | ⟨2, _⟩ => show 4608 + 256 * b.val + 256 ≤ 6656; omega

theorem inbC (k : Fin 4) : ∀ a, (![k.val, 0] : Fin 2 → ℕ) a + S1x1280.size a ≤ S4x1280.size a := by
  intro a; have := k.isLt
  match a with
  | ⟨0, _⟩ => show k.val + 1 ≤ 4; omega
  | ⟨1, _⟩ => show 0 + 1280 ≤ 1280; omega

theorem inbW (b : Fin 5) : ∀ a, (![b.val, 0, 0] : Fin 3 → ℕ) a + S1x256x512.size a ≤ S5x256x512.size a := by
  intro a; have := b.isLt
  match a with
  | ⟨0, _⟩ => show b.val + 1 ≤ 5; omega
  | ⟨1, _⟩ => show 0 + 256 ≤ 256; omega
  | ⟨2, _⟩ => show 0 + 512 ≤ 512; omega

theorem inbB (b : Fin 5) : ∀ a, (![b.val, 0, 0] : Fin 3 → ℕ) a + S1x1x512.size a ≤ S5x1x512.size a := by
  intro a; have := b.isLt
  match a with
  | ⟨0, _⟩ => show b.val + 1 ≤ 5; omega
  | ⟨1, _⟩ => show 0 + 1 ≤ 1; omega
  | ⟨2, _⟩ => show 0 + 512 ≤ 512; omega

theorem inbS (g : Fin 8) : ∀ a, (![g.val, 0, 0] : Fin 3 → ℕ) a + S1x128x128.size a ≤ S8x128x128.size a := by
  intro a; have := g.isLt
  match a with
  | ⟨0, _⟩ => show g.val + 1 ≤ 8; omega
  | ⟨1, _⟩ => show 0 + 128 ≤ 128; omega
  | ⟨2, _⟩ => show 0 + 128 ≤ 128; omega

theorem inbH (b : Fin 5) : ∀ a, (![0, 256 * b.val] : Fin 2 → ℕ) a + S8x256.size a ≤ S8x1280.size a := by
  intro a; have := b.isLt
  match a with
  | ⟨0, _⟩ => show 0 + 8 ≤ 8; omega
  | ⟨1, _⟩ => show 256 * b.val + 256 ≤ 1280; omega

/-- Block `b` of the carried states. -/
def cyBlk (H : Vec F S8x1280 .f32) (b : Fin 5) : Vec F S8x256 .f32 :=
  View.ld H (Rect.unit ![0, 256 * b.val] S8x256.size (inbH b))

/-- The loads of the operands' blocks. -/
def lds (x0 : Vec F S512x1024 .f32) (x1 : Vec F S1x1024 .f32) (x2 : Vec F S1x1024x6656 .bf16) (x3 : Vec F S4x1280 .f32)
    (x4 : Vec F S1x1280 .f32) (x5 : Vec F S5x256x512 .bf16) (x6 : Vec F S5x1x512 .f32) (x7 : Vec F S1x1280 .f32)
    (x8 x9 : Vec F S1x1024 .f32) (x10 : Vec F S8x128x128 .f32) (x11 : Vec F S128x1024 .f32) (x12 : Vec F S1x1280x1024 .bf16)
    (x13 x14 : Vec F S1x1024x1024 .bf16) : Lds F where
  x := x0
  g := x1
  wx := View.ld x2 (Rect.unit ![0, 0, 0] S1x1024x1280.size inb_S1x1024x6656_S1x1024x1280_0_0_0)
  wv := View.ld x2 (Rect.unit ![0, 0, 3584] S1x1024x1024.size inb_S1x1024x6656_S1x1024x1024_0_0_3584)
  wu := View.ld x2 (Rect.unit ![0, 0, 2560] S1x1024x1024.size inb_S1x1024x6656_S1x1024x1024_0_0_2560)
  wg b := View.ld x2 (Rect.unit ![0, 0, 1280 + 256 * b.val] S1x1024x256.size (inbG b))
  wt b := View.ld x2 (Rect.unit ![0, 0, 4608 + 256 * b.val] S1x1024x256.size (inbT b))
  cb := x4
  cw k := View.ld x3 (Rect.unit ![k.val, 0] S1x1280.size (inbC k))
  gw b := View.ld x5 (Rect.unit ![b.val, 0, 0] S1x256x512.size (inbW b))
  gb b := View.ld x6 (Rect.unit ![b.val, 0, 0] S1x1x512.size (inbB b))
  lam := x7
  lng := x8
  lnb := x9
  ws g := View.ld x10 (Rect.unit ![g.val, 0, 0] S1x128x128.size (inbS g))
  bs := x11
  wa := x12
  wb := x13
  wo := x14

/-- The normalised tokens. -/
def hTok (x0 : Vec F S512x1024 .f32) (x1 : Vec F S1x1024 .f32) : FVec F S512x1024 .bf16 := k0_pay6 x0 x1

/-- The normalised tokens in the order of the steps. -/
def hStep (x0 : Vec F S512x1024 .f32) (x1 : Vec F S1x1024 .f32) : FVec F S512x1024 .bf16 := k0_pay8 (k0_pay7 x0 x1)

end Cert.Layer.Mix
end
-- ==== Proof.MixScan.lean ====
/- The kernel's scan: eight chains of 64 steps each scanned from zero, joined by doubling, give the recurrence's states. -/
module

public import proofs.«01_k».proof.Proof.MixTile
public import Idealize.ShloMosaic.Lib.Pointwise

@[expose] public section

noncomputable section

namespace Cert.Layer.Mix

open Cert.KernelIdeal Cert.KernelIdeal.Gen Idealize.ShloMosaic Idealize.ShloMosaic.TcCoe
open Idealize.SL.Sem
open Idealize.ShloMosaic.Pointwise

/-- Row of step `s` and chain `c` in the order of the steps. -/
def stp (s : Fin 64) (c : Fin 8) : Fin 512 := ⟨s.val * 8 + c.val, by have := s.isLt; have := c.isLt; omega⟩

/-- Row of step `s` and chain `c` in the order of the tokens. -/
def tok (s : Fin 64) (c : Fin 8) : Fin 512 := ⟨c.val * 64 + s.val, by have := s.isLt; have := c.isLt; omega⟩

/-- A real number between zero and one. -/
def Unit01 (x : EReal) : Prop := ∃ r : ℝ, 0 ≤ r ∧ r ≤ 1 ∧ x = (r : EReal)

theorem Unit01.one : Unit01 1 := ⟨1, zero_le_one, le_rfl, rfl⟩

theorem Unit01.mul {x y : EReal} (hx : Unit01 x) (hy : Unit01 y) : Unit01 (x * y) := by
  obtain ⟨r, h0, h1, rfl⟩ := hx
  obtain ⟨s, g0, g1, rfl⟩ := hy
  exact ⟨r * s, mul_nonneg h0 g0, mul_le_one₀ h1 g0 g1, (EReal.coe_mul _ _).symm⟩

theorem Unit01.mul_add {x : EReal} (hx : Unit01 x) (y z : EReal) : x * (y + z) = x * y + x * z := by
  obtain ⟨r, h0, h1, rfl⟩ := hx
  exact EReal.left_distrib_of_nonneg_of_ne_top (EReal.coe_nonneg.mpr h0) (EReal.coe_ne_top r) y z

theorem slab_apply (x : FVec Ideal S512x256 .f32) (n : ℕ) (h : n < 64) (c : Fin 8) (e : Fin 256) :
    slab (F := Ideal) x n h (ix2 c e) = x (ix2 (stp ⟨n, h⟩ c) e) := by
  have hc : 8 * n + c.val < 512 := by have := c.isLt; omega
  have : stp ⟨n, h⟩ c = ⟨8 * n + c.val, hc⟩ := Fin.ext (by show n * 8 + c.val = 8 * n + c.val; omega)
  rw [this]
  pointwise [slab]

theorem scanH_zero (a u : FVec Ideal S512x256 .f32) (h : 0 < 64) (c : Fin 8) (e : Fin 256) :
    scanH (F := Ideal) a u 0 h (ix2 c e) = u (ix2 (stp ⟨0, h⟩ c) e) := slab_apply u 0 h c e

theorem scanH_succ (a u : FVec Ideal S512x256 .f32) (n : ℕ) (h : n + 1 < 64) (c : Fin 8) (e : Fin 256) :
    scanH (F := Ideal) a u (n + 1) h (ix2 c e)
      = a (ix2 (stp ⟨n + 1, h⟩ c) e) * scanH (F := Ideal) a u n (Nat.lt_of_succ_lt h) (ix2 c e) + u (ix2 (stp ⟨n + 1, h⟩ c) e) := by
  rw [← slab_apply a, ← slab_apply u]; rfl

theorem scanP_zero (a : FVec Ideal S512x256 .f32) (h : 0 < 64) (c : Fin 8) (e : Fin 256) :
    scanP (F := Ideal) a 0 h (ix2 c e) = a (ix2 (stp ⟨0, h⟩ c) e) := slab_apply a 0 h c e

theorem scanP_succ (a : FVec Ideal S512x256 .f32) (n : ℕ) (h : n + 1 < 64) (c : Fin 8) (e : Fin 256) :
    scanP (F := Ideal) a (n + 1) h (ix2 c e)
      = scanP (F := Ideal) a n (Nat.lt_of_succ_lt h) (ix2 c e) * a (ix2 (stp ⟨n + 1, h⟩ c) e) := by
  rw [← slab_apply a]; rfl

theorem scanP_unit (a : FVec Ideal S512x256 .f32) (ha : ∀ r e, Unit01 (a (ix2 r e))) (n : ℕ) (h : n < 64) (c : Fin 8)
    (e : Fin 256) : Unit01 (scanP (F := Ideal) a n h (ix2 c e)) := by
  induction n with
  | zero => rw [scanP_zero]; exact ha _ _
  | succ n ih => rw [scanP_succ]; exact (ih _).mul (ha _ _)

/-- A chain's state from the state it starts from. -/
theorem scan_eq (a u : FVec Ideal S512x256 .f32) (ha : ∀ r e, Unit01 (a (ix2 r e))) (c : Fin 8) (e : Fin 256) (z : ℕ → EReal)
    (hz : ∀ s : Fin 64, z (s.val + 1) = a (ix2 (stp s c) e) * z s.val + u (ix2 (stp s c) e)) (n : ℕ) (h : n < 64) :
    z (n + 1) = scanH (F := Ideal) a u n h (ix2 c e) + scanP (F := Ideal) a n h (ix2 c e) * z 0 := by
  induction n with
  | zero => rw [scanH_zero, scanP_zero, hz ⟨0, h⟩, add_comm]
  | succ n ih =>
    rw [scanH_succ, scanP_succ, hz ⟨n + 1, h⟩]
    show a (ix2 (stp ⟨n + 1, h⟩ c) e) * z (n + 1) + _ = _
    rw [ih (Nat.lt_of_succ_lt h), (ha _ _).mul_add, mul_comm (scanP a n _ _) (a _), mul_assoc, add_right_comm]

theorem keep1 (v : FVec Ideal S8x256 .f32) (z : BitVec 32) (c : Fin 8) (e : Fin 256) :
    keep (F := Ideal) 1#32 z v (ix2 c e)
      = if 1 ≤ c.val then v (ix2 ⟨(c.val + 7) % 8, by omega⟩ e) else Ideal.ofBits .f32 z := by
  pointwise [keep]
  fin_cases c <;> rfl

theorem keep2 (v : FVec Ideal S8x256 .f32) (z : BitVec 32) (c : Fin 8) (e : Fin 256) :
    keep (F := Ideal) 2#32 z v (ix2 c e)
      = if 2 ≤ c.val then v (ix2 ⟨(c.val + 6) % 8, by omega⟩ e) else Ideal.ofBits .f32 z := by
  pointwise [keep]
  fin_cases c <;> rfl

theorem keep4 (v : FVec Ideal S8x256 .f32) (z : BitVec 32) (c : Fin 8) (e : Fin 256) :
    keep (F := Ideal) 4#32 z v (ix2 c e)
      = if 4 ≤ c.val then v (ix2 ⟨(c.val + 4) % 8, by omega⟩ e) else Ideal.ofBits .f32 z := by
  pointwise [keep]
  fin_cases c <;> rfl

/-- `h` and `p` carry a chain's last state over `k` chains: `E (c + 1) = h c + p c * E (c + 1 - k)`. -/
structure Joined (k : ℕ) (p h : FVec Ideal S8x256 .f32) (E : ℕ → Fin 256 → EReal) : Prop where
  unit : ∀ c e, Unit01 (p (ix2 c e))
  eq : ∀ (c : Fin 8) e, E (c.val + 1) e = h (ix2 c e) + p (ix2 c e) * E (c.val + 1 - k) e

theorem ofBits_one : Ideal.ofBits .f32 0x3F800000#32 = 1 := by
  simp [Ideal.ofBits, Ideal.ieee, -EReal.coe_mul]; norm_num
theorem ofBits_zero : Ideal.ofBits .f32 0x00000000#32 = 0 := by
  simp [Ideal.ofBits, Ideal.ieee, -EReal.coe_mul]

theorem Joined.double {k : ℕ} (hk : 0 < k) (w : BitVec 32)
    (hw : ∀ (v : FVec Ideal S8x256 .f32) (z : BitVec 32) (c : Fin 8) (e : Fin 256), keep (F := Ideal) w z v (ix2 c e)
      = if k ≤ c.val then v (ix2 ⟨(c.val + (8 - k)) % 8, by omega⟩ e) else Ideal.ofBits .f32 z)
    (h8 : k ≤ 8) {p h : FVec Ideal S8x256 .f32} {E : ℕ → Fin 256 → EReal} (H : Joined k p h E) :
    Joined (2 * k) (joinP (F := Ideal) w p) (joinH (F := Ideal) w p h) E := by
  have ep : ∀ c e, joinP (F := Ideal) w p (ix2 c e) = p (ix2 c e) * keep (F := Ideal) w 0x3F800000#32 p (ix2 c e) := by
    intro c e; rfl
  have eh : ∀ c e, joinH (F := Ideal) w p h (ix2 c e)
      = p (ix2 c e) * keep (F := Ideal) w 0x00000000#32 h (ix2 c e) + h (ix2 c e) := by intro c e; rfl
  constructor
  · intro c e
    rw [ep, hw]
    refine (H.unit c e).mul ?_
    split
    · exact H.unit _ _
    · rw [ofBits_one]; exact Unit01.one
  · intro c e
    rw [ep, eh, hw, hw, H.eq c e]
    split
    · rename_i hc
      have hm : (c.val + (8 - k)) % 8 = c.val - k := by
        have := c.isLt
        rw [show c.val + (8 - k) = (c.val - k) + 8 by omega, Nat.add_mod_right]; omega
      have h1 := H.eq ⟨(c.val + (8 - k)) % 8, by omega⟩ e
      have e1 : (⟨(c.val + (8 - k)) % 8, by omega⟩ : Fin 8).val + 1 = c.val + 1 - k := by show (c.val + (8 - k)) % 8 + 1 = _; omega
      have e2 : c.val + 1 - k - k = c.val + 1 - 2 * k := by omega
      rw [e1, e2] at h1
      rw [h1, (H.unit c e).mul_add, mul_assoc, ← add_assoc, add_comm (h (ix2 c e))]
    · have e1 : c.val + 1 - k = 0 := by omega
      have e2 : c.val + 1 - 2 * k = 0 := by omega
      rw [ofBits_zero, ofBits_one, mul_zero, zero_add, mul_one, e1, e2]

theorem stack_apply (f : Fin 64 → FVec Ideal S8x256 .f32) (s : Fin 64) (c : Fin 8) (e : Fin 256) :
    stack (F := Ideal) f (ix2 (stp s c) e) = f s (ix2 c e) := by
  have hs := s.isLt
  have hc := c.isLt
  refine Idealize.ShloMosaic.concatenate_ofFn_apply (t := S512x256) (s₁ := S8x256) 0 f _ rfl 8 rfl (ix2 (stp s c) e) s ?_
    (ix2 c e) ?_ ?_
  · show (s.val * 8 + c.val) / 8 = s.val; omega
  · show c.val = (s.val * 8 + c.val) % 8; omega
  · intro b hb
    match b with
    | ⟨0, _⟩ => exact absurd rfl hb
    | ⟨1, _⟩ => rfl

section tile

variable (a u : FVec Ideal S512x256 .f32) (cy : FVec Ideal S8x256 .f32) (z : ℕ → Fin 256 → EReal)
  (ha : ∀ r e, Unit01 (a (ix2 r e)))
  (hz : ∀ (s : Fin 64) (c : Fin 8) e,
    z (c.val * 64 + s.val + 1) e = a (ix2 (stp s c) e) * z (c.val * 64 + s.val) e + u (ix2 (stp s c) e))
  (hcy : ∀ c e, cy (ix2 c e) = z 0 e)

include ha hz

theorem chain_eq (s : Fin 64) (c : Fin 8) (e : Fin 256) :
    z (c.val * 64 + s.val + 1) e
      = scanH (F := Ideal) a u s.val s.isLt (ix2 c e) + scanP (F := Ideal) a s.val s.isLt (ix2 c e) * z (c.val * 64) e :=
  scan_eq a u ha c e (fun n => z (c.val * 64 + n) e) (fun s => hz s c e) s.val s.isLt

include hcy

/-- The chains' last states. -/
theorem chainEnds_apply (c : Fin 8) (e : Fin 256) :
    chainEnds (F := Ideal) (scanP a 63 (by decide)) (scanH a u 63 (by decide)) cy (ix2 c e) = z ((c.val + 1) * 64) e := by
  have H1 : Joined 1 (scanP (F := Ideal) a 63 (by decide)) (scanH (F := Ideal) a u 63 (by decide)) (fun n => z (n * 64)) := by
    refine ⟨fun c e => scanP_unit a ha 63 (by decide) c e, fun c e => ?_⟩
    have := chain_eq a u z ha hz ⟨63, by decide⟩ c e
    show z ((c.val + 1) * 64) e = _
    rw [show (c.val + 1) * 64 = c.val * 64 + 63 + 1 by omega]
    exact this
  have H2 := H1.double (by decide) 1#32 keep1 (by decide)
  have H4 := H2.double (by decide) 2#32 keep2 (by decide)
  have H8 := H4.double (by decide) 4#32 keep4 (by decide)
  have := H8.eq c e
  have e0 : c.val + 1 - 2 * (2 * (2 * 1)) = 0 := by omega
  rw [e0] at this
  have hc := hcy c e
  rw [show z 0 e = z (0 * 64) e by rw [Nat.zero_mul]] at hc
  rw [← hc] at this
  exact this.symm

/-- The state each chain starts from. -/
theorem chainEntry_apply (c : Fin 8) (e : Fin 256) :
    chainEntry (F := Ideal) (scanP a 63 (by decide)) (scanH a u 63 (by decide)) cy (ix2 c e) = z (c.val * 64) e := by
  have E := chainEnds_apply a u cy z ha hz hcy
  have : chainEntry (F := Ideal) (scanP a 63 (by decide)) (scanH a u 63 (by decide)) cy (ix2 c e)
      = if 1 ≤ c.val then chainEnds (F := Ideal) (scanP a 63 (by decide)) (scanH a u 63 (by decide)) cy (ix2 ⟨(c.val + 7) % 8, by omega⟩ e)
        else cy (ix2 c e) := by
    pointwise [chainEntry]
    fin_cases c <;> rfl
  rw [this]
  split
  · rename_i hc
    rw [E]
    congr 1
    show ((c.val + 7) % 8 + 1) * 64 = _
    have := c.isLt
    omega
  · rename_i hc
    rw [hcy]
    congr 1
    omega

/-- The states at all steps. -/
theorem states_apply (s : Fin 64) (c : Fin 8) (e : Fin 256) :
    states (F := Ideal) a u cy (ix2 (stp s c) e) = z (c.val * 64 + s.val + 1) e := by
  have : states (F := Ideal) a u cy (ix2 (stp s c) e)
      = (stack (F := Ideal) fun n => scanH a u n.val n.isLt) (ix2 (stp s c) e)
        + (stack (F := Ideal) fun n => scanP a n.val n.isLt) (ix2 (stp s c) e)
          * (stack (F := Ideal) fun _ => chainEntry (scanP a 63 (by decide)) (scanH a u 63 (by decide)) cy) (ix2 (stp s c) e) := rfl
  rw [this, stack_apply, stack_apply, stack_apply,
    chainEntry_apply a u cy z ha hz hcy, chain_eq a u z ha hz]

theorem carry_apply (c : Fin 8) (e : Fin 256) : blkCarry (F := Ideal) a u cy (ix2 c e) = z 512 e := by
  have : blkCarry (F := Ideal) a u cy (ix2 c e)
      = chainEnds (F := Ideal) (scanP a 63 (by decide)) (scanH a u 63 (by decide)) cy (ix2 7 e) := by
    pointwise [blkCarry, carryOut]
  rw [this]
  exact chainEnds_apply a u cy z ha hz hcy 7 e

end tile

end Cert.Layer.Mix

end
-- ==== Proof.FfnSpec.lean ====
/- The channel MLP of the layer as functions of one token's row: the root-mean-square normalisation, the squared
   rectifier between the two products, and the final normalisation. Both programs are read to these. -/
module

public import Idealize.ShloMosaic.Lib.Pointwise

@[expose] public section

noncomputable section

namespace Cert.Layer

open Idealize.ShloMosaic

/-- Entry `k` of the root-mean-square normalisation of the row `x` with gains `g`. -/
def rmsRow (x g : Fin 1024 → EReal) (k : Fin 1024) : EReal :=
  x k * Ideal.rsqrt (Ideal.div (∑ l, x l * x l) (Ideal.ofBits .f32 0x44800000#32) + Ideal.ofBits .f32 0x358637BD#32) * g k

/-- The square of the rectified `f`-th hidden value of the row `h`. -/
def hidden {n : ℕ} (h : Fin 1024 → EReal) (wu : Fin 1024 → Fin n → EReal) (f : Fin n) : EReal :=
  max (∑ k, h k * wu k f) 0 * max (∑ k, h k * wu k f) 0

/-- Entry `d` of the row `x` plus its channel MLP. -/
def mlpRow (x g : Fin 1024 → EReal) (wu : Fin 1024 → Fin 4096 → EReal) (wd : Fin 4096 → Fin 1024 → EReal)
    (d : Fin 1024) : EReal :=
  x d + ∑ f, hidden (rmsRow x g) wu f * wd f d

/-- Entry `d` of the result: the row plus its channel MLP, normalised with gains `fg`. -/
def ffnRow (x g : Fin 1024 → EReal) (wu : Fin 1024 → Fin 4096 → EReal) (wd : Fin 4096 → Fin 1024 → EReal)
    (fg : Fin 1024 → EReal) (d : Fin 1024) : EReal :=
  rmsRow (mlpRow x g wu wd) fg d

end Cert.Layer

end
-- ==== Proof.MixSpec.lean ====
/- The mixer as functions of the tokens of one sequence: the projections, the convolution over the last four tokens, the
   gated linear recurrence, the gating by the mixed blocks of 128 tokens, and the layer's result. Both programs are read
   to these. -/
module

public import proofs.«01_k».proof.Proof.FfnSpec

@[expose] public section

noncomputable section

namespace Cert.Layer

open Idealize.ShloMosaic

/-- The weights of the mixer. -/
structure Wts where
  g : Fin 1024 → EReal
  win : Fin 1024 → Fin 6656 → EReal
  cw : Fin 4 → Fin 1280 → EReal
  cb : Fin 1280 → EReal
  wr : Fin 20 → Fin 64 → Fin 64 → EReal
  br : Fin 20 → Fin 64 → EReal
  wi : Fin 20 → Fin 64 → Fin 64 → EReal
  bi : Fin 20 → Fin 64 → EReal
  lam : Fin 1280 → EReal
  lng : Fin 1024 → EReal
  lnb : Fin 1024 → EReal
  ws : Fin 8 → Fin 128 → Fin 128 → EReal
  bs : Fin 8 → Fin 128 → EReal
  wa : Fin 1280 → Fin 1024 → EReal
  wb : Fin 1024 → Fin 1024 → EReal
  wo : Fin 1024 → Fin 1024 → EReal

variable (W : Wts)

/-- Column `e` of the projection of the normalised row. -/
def proj (row : Fin 1024 → EReal) (e : Fin 6656) : EReal := ∑ k, rmsRow row W.g k * W.win k e

/-- The logistic function. -/
def sig (z : EReal) : EReal := Ideal.div 1 (1 + Ideal.exp (-z))

/-- gelu in its tanh form. -/
def gel (x : EReal) : EReal :=
  x * (Ideal.ofBits .f32 0x3F000000#32 * (1 + Ideal.tanh (Ideal.ofBits .f32 0x3F4C422A#32 *
    (x + Ideal.ofBits .f32 0x3D372713#32 * (x * x * x)))))

/-- Column `o + e` of the projection. -/
def col6 (n o : ℕ) (h : o + n ≤ 6656) (e : Fin n) : Fin 6656 := ⟨o + e.val, by have := e.isLt; omega⟩

/-- The recurrent branch's column of the projection. -/
def colX (e : Fin 1280) : Fin 6656 := ⟨e.val, by have := e.isLt; omega⟩

section tokens

variable (X : ℕ → Fin 1024 → EReal)

/-- The recurrent branch's tokens with three zeros before them. -/
def xpad (q : ℕ) (e : Fin 1280) : EReal := if 3 ≤ q then proj W (X (q - 3)) (colX e) else 0

/-- The convolution over the last four tokens. -/
def conv (p : ℕ) (e : Fin 1280) : EReal :=
  W.cb e + xpad W X p e * W.cw 0 e + xpad W X (1 + p) e * W.cw 1 e + xpad W X (2 + p) e * W.cw 2 e + xpad W X (3 + p) e * W.cw 3 e

/-- A gate: one block of 64 columns of the convolution's output through its own 64 by 64 matrix. -/
def gate (w : Fin 20 → Fin 64 → Fin 64 → EReal) (b : Fin 20 → Fin 64 → EReal) (p : ℕ) (h : Fin 20) (e : Fin 64) : EReal :=
  sig ((∑ i : Fin 64, w h i e * conv W X p ⟨h.val * 64 + i.val, by have := h.isLt; have := i.isLt; omega⟩) + b h e)

/-- The block of a column. -/
def hd (e : Fin 1280) : Fin 20 := ⟨e.val / 64, by have := e.isLt; omega⟩

/-- The column's index in its block. -/
def hi (e : Fin 1280) : Fin 64 := ⟨e.val % 64, by omega⟩

/-- The softplus of minus the recurrence's parameter. -/
def spl (e : Fin 1280) : EReal :=
  max (-W.lam e) 0 + Ideal.log1p (Ideal.exp (-(FloatOps.absf (F := Ideal) (φ := .f32) (-W.lam e))))

/-- The logarithm of the decay. -/
def lgd (p : ℕ) (e : Fin 1280) : EReal :=
  Ideal.ofBits .f32 0xC1000000#32 * gate W X W.wr W.br p (hd e) (hi e) * spl W e

/-- The decay. -/
def dcy (p : ℕ) (e : Fin 1280) : EReal := Ideal.exp (lgd W X p e)

/-- The recurrence's input. -/
def rin (p : ℕ) (e : Fin 1280) : EReal :=
  Ideal.sqrt (-(Ideal.exp (Ideal.ofBits .f32 0x40000000#32 * lgd W X p e) - 1)) *
    (gate W X W.wi W.bi p (hd e) (hi e) * conv W X p e)

/-- The state of the recurrence before token `p`. -/
def hst : ℕ → Fin 1280 → EReal
  | 0, _ => 0
  | p + 1, e => dcy W X p e * hst p e + rin W X p e

end tokens

/-- gelu of the third part of the projection. -/
def gv (row : Fin 1024 → EReal) (c : Fin 1024) : EReal := gel (proj W row (col6 1024 3584 (by decide) c))

/-- Its difference from its mean. -/
def gvc (row : Fin 1024 → EReal) (c : Fin 1024) : EReal :=
  gv W row c - Ideal.div (∑ c, gv W row c) (Ideal.ofBits .f32 0x44800000#32)

/-- Its layer normalisation. -/
def vln (row : Fin 1024 → EReal) (c : Fin 1024) : EReal :=
  gvc W row c * Ideal.rsqrt (Ideal.div (∑ c, gvc W row c * gvc W row c) (Ideal.ofBits .f32 0x44800000#32) +
    Ideal.ofBits .f32 0x358637BD#32) * W.lng c + W.lnb c

/-- The group of a column. -/
def grp (c : Fin 1024) : Fin 8 := ⟨c.val / 128, by have := c.isLt; omega⟩

/-- Column `c` of token `t` of a block of 128 tokens, mixed over the block. -/
def mixedS (mask : Fin 128 → Fin 128 → EReal) (blk : Fin 128 → Fin 1024 → EReal) (t : Fin 128) (c : Fin 1024) : EReal :=
  (∑ s, vln W (blk s) c * (W.ws (grp c) t s * mask t s)) + W.bs (grp c) t

/-- Entry `d` of the mixer's result for the token with row `row`, the `t`-th of its block `blk`, with state `st`. -/
def outS (mask : Fin 128 → Fin 128 → EReal) (row : Fin 1024 → EReal) (blk : Fin 128 → Fin 1024 → EReal) (t : Fin 128)
    (st : Fin 1280 → EReal) (d : Fin 1024) : EReal :=
  row d + ∑ j, (sig (proj W row (col6 1024 4608 (by decide) j)) *
      (∑ e, st e * gel (proj W row (col6 1280 1280 (by decide) e)) * W.wa e j) +
    sig (proj W row (col6 1024 5632 (by decide) j)) *
      (∑ c, gel (proj W row (col6 1024 2560 (by decide) c)) * mixedS W mask blk t c * W.wb c j)) * W.wo j d

/-- Chunks of 64 tokens see themselves and the earlier ones. -/
def maskS (t s : Fin 128) : EReal := if s.val / 64 ≤ t.val / 64 then 1 else 0

end Cert.Layer

end
-- ==== Proof.MixScalars.lean ====
/- The scalar identities between the two programs' spellings: gelu, the decay and the scale of the recurrence's input. -/
module

public import proofs.«01_k».proof.Proof.MixSpec

@[expose] public section

noncomputable section

namespace Cert.Layer

open Idealize.ShloMosaic

theorem bits_half : Ideal.ofBits .f32 0x3F000000#32 = ((1 / 2 : ℝ) : EReal) := by
  simp [Ideal.ofBits, Ideal.ieee, -EReal.coe_mul]; norm_num
theorem bits_s : Ideal.ofBits .f32 0x3F4C422A#32 = ((6693141 / 8388608 : ℝ) : EReal) := by
  simp [Ideal.ofBits, Ideal.ieee, -EReal.coe_mul]; norm_num
theorem bits_k : Ideal.ofBits .f32 0x3D372713#32 = ((12003091 / 268435456 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_meight : Ideal.ofBits .f32 0xC1000000#32 = ((-8 : ℝ) : EReal) := by
  simp [Ideal.ofBits, Ideal.ieee, -EReal.coe_mul]; norm_num

/-- Half of one plus tanh is the logistic function of twice the argument. -/
theorem half_one_add_tanh (y : ℝ) : 1 / 2 * (1 + Real.tanh y) = (1 + Real.exp (-(2 * y)))⁻¹ := by
  have h1 : Real.exp (-(2 * y)) = (Real.exp y)⁻¹ * (Real.exp y)⁻¹ := by
    rw [← Real.exp_neg, ← Real.exp_add]; congr 1; ring
  have hp := Real.exp_pos y
  rw [Real.tanh_eq_sinh_div_cosh, Real.sinh_eq, Real.cosh_eq, h1, Real.exp_neg]
  field_simp
  ring

/-- The two spellings of gelu agree, at the infinities too. -/
theorem gel_eq (x : EReal) (c c2 : ℝ) (hc : c = -(2 * ((6693141 / 8388608) * (Real.log 2)⁻¹)))
    (hc2 : c2 = (12003091 / 268435456) * (-(2 * ((6693141 / 8388608) * (Real.log 2)⁻¹)))) :
    Ideal.div x (1 + Ideal.exp2 (x * ((c : EReal) + (c2 : EReal) * (x * x)))) = gel x := by
  have hl : 0 < Real.log 2 := Real.log_pos (by norm_num)
  have hc2n : c2 < 0 := by rw [hc2]; have := inv_pos.mpr hl; nlinarith
  unfold gel
  rw [bits_half, bits_s, bits_k]
  induction x using EReal.rec with
  | bot =>
    rw [EReal.bot_mul_bot, EReal.coe_mul_top_of_neg hc2n, EReal.add_bot, EReal.bot_mul_bot, EReal.top_mul_bot,
      EReal.coe_mul_bot_of_pos (by norm_num), EReal.add_bot, EReal.coe_mul_bot_of_pos (by norm_num)]
    have h1 : (1 : EReal) + ⊤ = ⊤ := by rw [EReal.add_top_of_ne_bot]; exact (by decide)
    have h2 : (1 : EReal) + -1 = 0 := by
      have : ((1 : ℝ) : EReal) + ((-1 : ℝ) : EReal) = ((0 : ℝ) : EReal) := by rw [← EReal.coe_add]; norm_num
      simpa using this
    simp only [Ideal.exp2_top, Ideal.tanh_bot, h1, h2, mul_zero]
    unfold Ideal.div
    simp
  | top =>
    rw [EReal.top_mul_top, EReal.coe_mul_top_of_neg hc2n, EReal.add_bot, EReal.top_mul_bot, EReal.top_mul_top,
      EReal.coe_mul_top_of_pos (by norm_num), EReal.top_add_top, EReal.coe_mul_top_of_pos (by norm_num)]
    have h2 : (1 : EReal) + 1 = ((2 : ℝ) : EReal) := by
      have : ((1 : ℝ) : EReal) + ((1 : ℝ) : EReal) = ((2 : ℝ) : EReal) := by rw [← EReal.coe_add]; norm_num
      simpa using this
    simp only [Ideal.exp2_bot, Ideal.tanh_top, h2, add_zero]
    rw [← EReal.coe_mul]
    unfold Ideal.div
    norm_num
  | coe r =>
    have e1 : (1 : EReal) + Ideal.exp2 ((r : EReal) * ((c : EReal) + (c2 : EReal) * ((r : EReal) * (r : EReal))))
        = ((1 + Real.exp (-(2 * ((6693141 / 8388608) * (r + (12003091 / 268435456) * (r * r * r))))) : ℝ) : EReal) := by
      rw [← EReal.coe_mul, ← EReal.coe_mul, ← EReal.coe_add, ← EReal.coe_mul, Ideal.exp2_coe]
      have : Real.rpow 2 (r * (c + c2 * (r * r)))
          = Real.exp (-(2 * ((6693141 / 8388608) * (r + (12003091 / 268435456) * (r * r * r))))) := by
        show (2 : ℝ) ^ (r * (c + c2 * (r * r))) = _
        rw [Real.rpow_def_of_pos (by norm_num), hc, hc2]
        congr 1
        field_simp
        ring
      rw [this, EReal.coe_add, EReal.coe_one]
    rw [e1]
    have hpos : (1 + Real.exp (-(2 * ((6693141 / 8388608) * (r + (12003091 / 268435456) * (r * r * r)))))) ≠ 0 := by positivity
    rw [Ideal.div_coe hpos]
    simp only [← EReal.coe_mul, ← EReal.coe_add, Ideal.tanh_coe, ← EReal.coe_one]
    rw [half_one_add_tanh]
    congr 2
    rw [one_div]

theorem sig_unit (z : EReal) : ∃ r : ℝ, 0 ≤ r ∧ sig z = (r : EReal) := by
  unfold sig
  change ∃ r : ℝ, 0 ≤ r ∧ Ideal.logistic z = (r : EReal)
  induction z using EReal.rec with
  | bot => exact ⟨0, le_rfl, by rw [Ideal.logistic_bot]; rfl⟩
  | top => exact ⟨1, zero_le_one, by rw [Ideal.logistic_top]; rfl⟩
  | coe r => exact ⟨(1 + Real.exp (-r))⁻¹, by positivity, Ideal.logistic_coe r⟩

/-- The softplus is not negative. -/
theorem spl_nonneg (W : Wts) (e : Fin 1280) : 0 ≤ spl W e := by
  unfold spl
  refine add_nonneg (le_max_right _ _) ?_
  generalize -W.lam e = y
  have hx : ∀ x : EReal, 0 ≤ x → 0 ≤ Ideal.log1p x := by
    intro x hx
    unfold Ideal.log1p
    induction x using EReal.rec with
    | bot => simp at hx
    | top =>
      have h1 : (1 : EReal) + ⊤ = ⊤ := by rw [EReal.add_top_of_ne_bot]; exact (by decide)
      rw [h1]; exact le_top
    | coe r =>
      have hr : 0 ≤ r := EReal.coe_nonneg.mp hx
      have : (1 : EReal) + (r : EReal) = ((1 + r : ℝ) : EReal) := by rw [EReal.coe_add]; rfl
      rw [this]
      have h0 : ¬ (1 + r ≤ 0) := by linarith
      have hl : 0 ≤ Real.log (1 + r) := Real.log_nonneg (by linarith)
      show (0 : EReal) ≤ if 1 + r ≤ 0 then ⊥ else ((Real.log (1 + r) : ℝ) : EReal)
      rw [if_neg h0]
      exact EReal.coe_nonneg.mpr hl
  refine hx _ ?_
  generalize -(FloatOps.absf (F := Ideal) (φ := .f32) y) = x
  induction (x : EReal) using EReal.rec with
  | bot => exact le_of_eq rfl
  | top => exact le_top
  | coe r => exact EReal.coe_nonneg.mpr (Real.exp_pos r).le

/-- A decay lies between zero and one. -/
theorem exp_neg_unit {n : EReal} (hn : 0 ≤ n) : ∃ r : ℝ, 0 ≤ r ∧ r ≤ 1 ∧ Ideal.exp (-n) = (r : EReal) := by
  induction n using EReal.rec with
  | bot => simp at hn
  | top => exact ⟨0, le_rfl, zero_le_one, rfl⟩
  | coe r =>
    refine ⟨Real.exp (-r), (Real.exp_pos _).le, ?_, by rw [← EReal.coe_neg]; rfl⟩
    rw [Real.exp_le_one_iff]; have := EReal.coe_nonneg.mp hn; linarith

/-- The scale of the recurrence's input, in both spellings. -/
theorem scale_eq {n : EReal} (hn : 0 ≤ n) :
    (if 0 < Ideal.tanh n * (1 + Ideal.exp (0 - n) * Ideal.exp (0 - n)) then
        Ideal.tanh n * (1 + Ideal.exp (0 - n) * Ideal.exp (0 - n)) *
          Ideal.rsqrt (Ideal.tanh n * (1 + Ideal.exp (0 - n) * Ideal.exp (0 - n))) else 0)
      = Ideal.sqrt (-(Ideal.exp (Ideal.ofBits .f32 0x40000000#32 * -n) - 1)) := by
  rw [bits_two, zero_sub]
  have key : ∃ y : ℝ, 0 ≤ y ∧ Ideal.tanh n * (1 + Ideal.exp (-n) * Ideal.exp (-n)) = (y : EReal)
      ∧ -(Ideal.exp (((2 : ℝ) : EReal) * -n) - 1) = (y : EReal) := by
    induction n using EReal.rec with
    | bot => simp at hn
    | top =>
      refine ⟨1, zero_le_one, ?_, ?_⟩
      · rw [EReal.neg_top]; simp
      · rw [EReal.neg_top, EReal.coe_mul_bot_of_pos (by norm_num)]; simp
    | coe r =>
      have hr : 0 ≤ r := EReal.coe_nonneg.mp hn
      refine ⟨1 - Real.exp (-(2 * r)), ?_, ?_, ?_⟩
      · have : Real.exp (-(2 * r)) ≤ 1 := by rw [Real.exp_le_one_iff]; linarith
        linarith
      · rw [← EReal.coe_neg, Ideal.tanh_coe]
        show (Real.tanh r : EReal) * (1 + (Real.exp (-r) : EReal) * (Real.exp (-r) : EReal)) = _
        rw [← EReal.coe_one, ← EReal.coe_mul, ← EReal.coe_add, ← EReal.coe_mul]
        congr 1
        have hp := Real.exp_pos r
        have h1 : Real.exp (-(2 * r)) = (Real.exp r)⁻¹ * (Real.exp r)⁻¹ := by
          rw [← Real.exp_neg, ← Real.exp_add]; congr 1; ring
        rw [Real.tanh_eq_sinh_div_cosh, Real.sinh_eq, Real.cosh_eq, h1, Real.exp_neg]
        field_simp
      · rw [← EReal.coe_neg, ← EReal.coe_mul]
        show -((Real.exp (2 * -r) : EReal) - 1) = _
        rw [← EReal.coe_one, ← EReal.coe_sub, ← EReal.coe_neg]
        congr 1
        rw [show 2 * -r = -(2 * r) by ring]; ring
  obtain ⟨y, hy, e1, e2⟩ := key
  rw [e1, e2]
  rcases hy.eq_or_lt with rfl | hpos
  · rw [if_neg (by simp)]
    show (0 : EReal) = if (0 : ℝ) < 0 then (⊥ : EReal) else ((Real.sqrt 0 : ℝ) : EReal)
    simp
  · have hp : (0 : EReal) < (y : EReal) := EReal.coe_pos.mpr hpos
    rw [if_pos hp, Ideal.rsqrt_coe, if_neg (not_lt.mpr hy), if_neg hpos.ne']
    show _ = (if y < 0 then (⊥ : EReal) else ((Real.sqrt y : ℝ) : EReal))
    rw [if_neg (not_lt.mpr hy), ← EReal.coe_mul]
    congr 1
    have hs : 0 < Real.sqrt y := Real.sqrt_pos.mpr hpos
    field_simp
    exact (Real.sq_sqrt hy).symm

variable (W : Wts) (X : ℕ → Fin 1024 → EReal)

/-- The decay's exponent as the kernel forms it. -/
def nlg (p : ℕ) (e : Fin 1280) : EReal := gate W X W.wr W.br p (hd e) (hi e) * (Ideal.ofBits .f32 0x41000000#32 * spl W e)

theorem nlg_nonneg (p : ℕ) (e : Fin 1280) : 0 ≤ nlg W X p e := by
  unfold nlg gate
  obtain ⟨r, hr, h⟩ := sig_unit ((∑ i : Fin 64, W.wr (hd e) i (hi e) * conv W X p ⟨(hd e).val * 64 + i.val, by have := (hd e).isLt; have := i.isLt; omega⟩) + W.br (hd e) (hi e))
  rw [h, bits_eight]
  exact mul_nonneg (EReal.coe_nonneg.mpr hr) (mul_nonneg (EReal.coe_nonneg.mpr (by norm_num)) (spl_nonneg W e))

theorem lgd_eq (p : ℕ) (e : Fin 1280) : lgd W X p e = -nlg W X p e := by
  unfold lgd nlg
  rw [bits_meight, bits_eight]
  generalize gate W X W.wr W.br p (hd e) (hi e) = r
  generalize spl W e = s
  rw [EReal.coe_neg, EReal.neg_mul, EReal.neg_mul, mul_left_comm, mul_assoc]

theorem dcy_eq (p : ℕ) (e : Fin 1280) : Ideal.exp (0 - nlg W X p e) = dcy W X p e := by
  unfold dcy; rw [lgd_eq, zero_sub]

theorem dcy_unit (p : ℕ) (e : Fin 1280) : ∃ r : ℝ, 0 ≤ r ∧ r ≤ 1 ∧ dcy W X p e = (r : EReal) := by
  unfold dcy; rw [lgd_eq]; exact exp_neg_unit (nlg_nonneg W X p e)

end Cert.Layer

end
-- ==== Proof.MixRows.lean ====
/- The mixer kernel's vector functions around the recurrence, read at an index. -/
module

public import proofs.«01_k».proof.Proof.MixScan
public import proofs.«01_k».proof.Proof.MixScalars

@[expose] public section

noncomputable section

namespace Cert.Layer.Mix

open Cert.KernelIdeal Cert.KernelIdeal.Gen Idealize.ShloMosaic Idealize.ShloMosaic.TcCoe
open Idealize.SL.Sem
open Idealize.ShloMosaic.Pointwise

/-- Column `e` of block `b`. -/
def col (b : Fin 5) (e : Fin 256) : Fin 1280 := ⟨256 * b.val + e.val, by have := b.isLt; have := e.isLt; omega⟩

/-- Column `e` of piece `b` of a gate. -/
def col4 (b : Fin 4) (e : Fin 256) : Fin 1024 := ⟨256 * b.val + e.val, by have := b.isLt; have := e.isLt; omega⟩

/-- Row `8 j + c`. -/
def row8 (n : ℕ) (j : Fin n) (c : Fin 8) : Fin (8 * n) := ⟨8 * j.val + c.val, by have := j.isLt; have := c.isLt; omega⟩

theorem hTok_apply (x : FVec Ideal S512x1024 .f32) (g : FVec Ideal S1x1024 .f32) (r : Fin 512) (k : Fin 1024) :
    hTok (F := Ideal) x g (ix2 r k) = rmsRow (fun k => x (ix2 r k)) (fun k => g (ix2 0 k)) k := by
  pointwise [hTok, k0_pay6, k0_pay5, k0_pay4, rmsRow]

theorem hStep_apply (x : FVec Ideal S512x1024 .f32) (g : FVec Ideal S1x1024 .f32) (s : Fin 64) (c : Fin 8) (k : Fin 1024) :
    hStep (F := Ideal) x g (ix2 (stp s c) k) = rmsRow (fun k => x (ix2 (tok s c) k)) (fun k => g (ix2 0 k)) k := by
  pointwise [hStep, k0_pay8, k0_pay7, k0_pay5, k0_pay4, rmsRow, stp, tok]

theorem pay9_apply (h : FVec Ideal S512x1024 .bf16) (w : FVec Ideal S1x1024x1280 .bf16) (r : Fin 512) (e : Fin 1280) :
    k0_pay9 (F := Ideal) h w (ix2 r e) = ∑ k, h (ix2 r k) * w (ix3 0 k e) := by
  pointwise [k0_pay9]

theorem pay23_apply (h : FVec Ideal S512x1024 .bf16) (w : FVec Ideal S1x1024x256 .bf16) (r : Fin 512) (e : Fin 256) :
    k0_pay23 (F := Ideal) h w (ix2 r e) = ∑ k, h (ix2 r k) * w (ix3 0 k e) := by
  pointwise [k0_pay23]

theorem pay24_apply (h : FVec Ideal S512x1024 .bf16) (w : FVec Ideal S1x1024x256 .bf16) (r : Fin 512) (e : Fin 256) :
    k0_pay24 (F := Ideal) h w (ix2 r e) = ∑ k, h (ix2 r k) * w (ix3 0 k e) := by
  pointwise [k0_pay24]

theorem pay18_apply (h : FVec Ideal S512x1024 .bf16) (w : FVec Ideal S1x1024x1024 .bf16) (r : Fin 512) (e : Fin 1024) :
    k0_pay18 (F := Ideal) h w (ix2 r e) = ∑ k, h (ix2 r k) * w (ix3 0 k e) := by
  pointwise [k0_pay18]

theorem pay10_apply (h : FVec Ideal S512x1024 .bf16) (w : FVec Ideal S1x1024x1024 .bf16) (r : Fin 512) (e : Fin 1024) :
    k0_pay10 (F := Ideal) h w (ix2 r e) = ∑ k, h (ix2 r k) * w (ix3 0 k e) := by
  pointwise [k0_pay10]

theorem pay1126_apply (y : FVec Ideal S512x1280 .bf16) (w : FVec Ideal S1x1280x1024 .bf16) (r : Fin 512) (e : Fin 1024) :
    k0_pay1126 (F := Ideal) y w (ix2 r e) = ∑ k, y (ix2 r k) * w (ix3 0 k e) := by
  pointwise [k0_pay1126]

theorem pay11_apply (h : FVec Ideal S512x1024 .bf16) (w : FVec Ideal S1x1024x1280 .bf16) (q : Fin 3) (e : Fin 1280) :
    k0_pay12 (F := Ideal) h w (ix2 (row8 3 q 7) e)
      = k0_pay9 (F := Ideal) h w (ix2 (stp ⟨61 + q.val, by have := q.isLt; omega⟩ 7) e) := by
  have h7 : stp ⟨61 + q.val, by have := q.isLt; omega⟩ 7 = ⟨488 + (8 * q.val + 7), by have := q.isLt; omega⟩ :=
    Fin.ext (by show (61 + q.val) * 8 + 7 = 488 + (8 * q.val + 7); omega)
  rw [h7]
  pointwise [k0_pay12, k0_pay11, row8]

/-- The rows of the tile with the three before it, in the order of the steps. -/
theorem pay13_apply (h : FVec Ideal S512x1024 .bf16) (w : FVec Ideal S1x1024x1280 .bf16) (T : FVec Ideal S24x1280 .f32)
    (e : Fin 1280) (z : ℕ → EReal) (hz : ∀ (s : Fin 64) (c : Fin 8), k0_pay9 (F := Ideal) h w (ix2 (stp s c) e) = z (c.val * 64 + s.val + 3))
    (hT : ∀ q : Fin 3, T (ix2 (row8 3 q 7) e) = z q.val) (j : Fin 67) (c : Fin 8) :
    k0_pay13 (F := Ideal) h w T (ix2 (row8 67 j c) e) = z (c.val * 64 + j.val) := by
  have h9 : ∀ (r : Fin 512) (s : Fin 64) (d : Fin 8), r.val = s.val * 8 + d.val →
      ∑ x, h (ix2 r x) * w (ix3 0 x e) = z (d.val * 64 + s.val + 3) := by
    intro r s d hr
    rw [← pay9_apply, ← hz s d]
    congr 1
    exact congrArg (fun r => (ix2 r e : S512x1280.Idx)) (Fin.ext hr)
  have hT' : ∀ (r : Fin 24) (q : Fin 3), r.val = 8 * q.val + 7 → T (ix2 r e) = z q.val := by
    intro r q hr
    rw [← hT q]
    exact congrArg (fun r => T (ix2 r e)) (Fin.ext hr)
  have hj := j.isLt
  have hc := c.isLt
  pointwise [k0_pay13, k0_pay11, k0_pay9, row8]
  by_cases h3 : 3 ≤ j.val
  · rw [dif_neg (by omega), dif_neg (by omega), dif_neg (by omega),
      h9 _ ⟨j.val - 3, by omega⟩ c (by show 8 * j.val + c.val - 8 - 8 - 8 = (j.val - 3) * 8 + c.val; omega)]
    congr 1
    show c.val * 64 + (j.val - 3) + 3 = _
    omega
  · have hsel : ∀ (n : ℕ) (hn : n < 8) (a b : EReal), Scalar.select (IntOp.cmpi .eq (BitVec.ofNat 32 n) 7#32) a b = if n = 7 then a else b := by
      intro n hn a b
      interval_cases n <;> rfl
    have hmod : ∀ n : ℕ, n % 8 < 8 := fun n => Nat.mod_lt _ (by decide)
    obtain ⟨j, hj⟩ := j
    obtain ⟨c, hc⟩ := c
    dsimp only at h3 ⊢
    have hj3 : j = 0 ∨ j = 1 ∨ j = 2 := by omega
    rcases hj3 with rfl | rfl | rfl
    · rw [dif_pos (by omega), hsel _ (hmod _)]
      by_cases h0 : c = 0
      · subst h0
        exact hT' _ 0 rfl
      · rw [if_neg (by omega), h9 _ 61 ⟨c - 1, by omega⟩ (by show 488 + (8 * 0 + c + 8 - 1) % 8 = 61 * 8 + (c - 1); omega)]
        congr 1
        show (c - 1) * 64 + 61 + 3 = _
        omega
    · rw [dif_neg (by omega), dif_pos (by omega), hsel _ (hmod _)]
      by_cases h0 : c = 0
      · subst h0
        exact hT' _ 1 rfl
      · rw [if_neg (by omega), h9 _ 62 ⟨c - 1, by omega⟩ (by show 488 + (8 + (8 * 1 + c - 8 + 8 - 1) % 8) = 62 * 8 + (c - 1); omega)]
        congr 1
        show (c - 1) * 64 + 62 + 3 = _
        omega
    · rw [dif_neg (by omega), dif_neg (by omega), dif_pos (by omega), hsel _ (hmod _)]
      by_cases h0 : c = 0
      · subst h0
        exact hT' _ 2 rfl
      · rw [if_neg (by omega), h9 _ 63 ⟨c - 1, by omega⟩ (by show 488 + (16 + (8 * 2 + c - 8 - 8 + 8 - 1) % 8) = 63 * 8 + (c - 1); omega)]
        congr 1
        show (c - 1) * 64 + 63 + 3 = _
        omega

theorem pay14_apply (v : FVec Ideal S536x1280 .f32) (cb w0 w1 w2 w3 : FVec Ideal S1x1280 .f32) (s : Fin 64) (c : Fin 8) (e : Fin 1280) :
    k0_pay14 (F := Ideal) v cb w0 w1 w2 w3 (ix2 (stp s c) e)
      = cb (ix2 0 e) + v (ix2 (row8 67 ⟨s.val, by have := s.isLt; omega⟩ c) e) * w0 (ix2 0 e)
        + v (ix2 (row8 67 ⟨1 + s.val, by have := s.isLt; omega⟩ c) e) * w1 (ix2 0 e)
        + v (ix2 (row8 67 ⟨2 + s.val, by have := s.isLt; omega⟩ c) e) * w2 (ix2 0 e)
        + v (ix2 (row8 67 ⟨3 + s.val, by have := s.isLt; omega⟩ c) e) * w3 (ix2 0 e) := by
  have hs := s.isLt
  have hc := c.isLt
  have e0 : (row8 67 ⟨s.val, by omega⟩ c : Fin (8 * 67)) = ⟨s.val * 8 + c.val, by omega⟩ :=
    Fin.ext (by show 8 * s.val + c.val = s.val * 8 + c.val; omega)
  have e1 : (row8 67 ⟨1 + s.val, by omega⟩ c : Fin (8 * 67)) = ⟨8 + (s.val * 8 + c.val), by omega⟩ :=
    Fin.ext (by show 8 * (1 + s.val) + c.val = 8 + (s.val * 8 + c.val); omega)
  have e2 : (row8 67 ⟨2 + s.val, by omega⟩ c : Fin (8 * 67)) = ⟨16 + (s.val * 8 + c.val), by omega⟩ :=
    Fin.ext (by show 8 * (2 + s.val) + c.val = 16 + (s.val * 8 + c.val); omega)
  have e3 : (row8 67 ⟨3 + s.val, by omega⟩ c : Fin (8 * 67)) = ⟨24 + (s.val * 8 + c.val), by omega⟩ :=
    Fin.ext (by show 8 * (3 + s.val) + c.val = 24 + (s.val * 8 + c.val); omega)
  rw [e0, e1, e2, e3]
  pointwise [k0_pay14, stp]

theorem gz_apply (x : FVec Ideal S512x256 .f32) (w : FVec Ideal S1x256x512 .bf16) (bg : FVec Ideal S1x1x512 .f32) (r : Fin 512)
    (j : Fin 512) : gz (F := Ideal) x w bg (ix2 r j) = (∑ k, x (ix2 r k) * w (ix3 0 k j)) + bg (ix3 0 0 j) := by
  pointwise [gz, k0_pay22]

theorem xb_apply (x : FVec Ideal S512x1280 .f32) (b : Fin 5) (r : Fin 512) (e : Fin 256) :
    xb (F := Ideal) b x (ix2 r e) = x (ix2 r (col b e)) := by
  pointwise [xb, col]

theorem rb_apply (x : FVec Ideal S1x1280 .f32) (b : Fin 5) (e : Fin 256) :
    rb (F := Ideal) b x (ix2 0 e) = x (ix2 0 (col b e)) := by
  pointwise [rb, col]

theorem nla_apply (z : FVec Ideal S512x512 .f32) (rate : FVec Ideal S1x256 .f32) (r : Fin 512) (e : Fin 256) :
    nla (F := Ideal) z rate (ix2 r e) = Ideal.logistic (z (ix2 r ⟨e.val, by have := e.isLt; omega⟩)) * rate (ix2 0 e) := by
  pointwise [nla]

theorem dec_apply (z : FVec Ideal S512x256 .f32) (r : Fin 512) (e : Fin 256) :
    dec (F := Ideal) z (ix2 r e) = Ideal.exp (0 - z (ix2 r e)) := by
  pointwise [dec]

theorem oms_apply (z a : FVec Ideal S512x256 .f32) (r : Fin 512) (e : Fin 256) :
    oms (F := Ideal) z a (ix2 r e) = Ideal.tanh (z (ix2 r e)) * (1 + a (ix2 r e) * a (ix2 r e)) := by
  pointwise [oms]

theorem inp_apply (x : FVec Ideal S512x256 .f32) (z : FVec Ideal S512x512 .f32) (y : FVec Ideal S512x256 .f32) (r : Fin 512)
    (e : Fin 256) : inp (F := Ideal) x z y (ix2 r e)
      = (if 0 < y (ix2 r e) then y (ix2 r e) * Ideal.rsqrt (y (ix2 r e)) else 0) *
        (Ideal.logistic (z (ix2 r ⟨256 + e.val, by have := e.isLt; omega⟩)) * x (ix2 r e)) := by
  pointwise [inp]

theorem toTok_apply (y : FVec Ideal S512x256 .f32) (s : Fin 64) (c : Fin 8) (e : Fin 256) :
    toTok (F := Ideal) y (ix2 (tok s c) e) = y (ix2 (stp s c) e) := by
  pointwise [toTok, stp, tok]

theorem pay19_apply (l : FVec Ideal S1x1280 .f32) (e : Fin 1280) :
    k0_pay19 (F := Ideal) l (ix2 0 e) = Ideal.ofBits .f32 1090519040#32 *
      (max (0 - l (ix2 0 e)) 0 + Ideal.log1p (Ideal.exp (0 - FloatOps.absf (F := Ideal) (φ := .f32) (0 - l (ix2 0 e))))) := by
  pointwise [k0_pay19]

theorem geluV_apply {S : Shape} (x : FVec Ideal S .f32) (i : S.Idx) : geluV (F := Ideal) x i = gel (x i) := by
  refine Eq.trans ?_ (gel_eq (x i) _ _ rfl rfl)
  pointwise [geluV]
  rfl

theorem pay15_apply (v : FVec Ideal S512x1024 .f32) (r : Fin 512) (c : Fin 1024) :
    k0_pay15 (F := Ideal) v (ix2 r c)
      = gel (v (ix2 r c)) - Ideal.div (∑ c, gel (v (ix2 r c))) (Ideal.ofBits .f32 0x44800000#32) := by
  have hg : ∀ c, Ideal.div (v (ix2 r c)) (1 + FloatOps.exp2 (F := Ideal) (φ := .f32) (v (ix2 r c) *
      (Named.named (F := Ideal) (φ := .f32) κ "gelu_exp" 3222493025#32 + Named.named (F := Ideal) (φ := .f32) κ "gelu_exp_cubic" 3184710632#32 * (v (ix2 r c) * v (ix2 r c))))) = gel (v (ix2 r c)) :=
    fun c => gel_eq (v (ix2 r c)) _ _ rfl rfl
  simp only [← hg]
  pointwise [k0_pay15]

theorem pay16_apply (v : FVec Ideal S512x1024 .f32) (r : Fin 512) :
    k0_pay16 (F := Ideal) v (ix1 r) = ∑ c, k0_pay15 (F := Ideal) v (ix2 r c) * k0_pay15 (F := Ideal) v (ix2 r c) := by
  pointwise [k0_pay16]

theorem pay17_apply (v q : FVec Ideal S512x1024 .f32) (p : FVec Ideal S512 .f32) (lng lnb : FVec Ideal S1x1024 .f32) (r : Fin 512) (c : Fin 1024) :
    k0_pay17 (F := Ideal) q p lng lnb (ix2 r c)
      = q (ix2 r c) * Ideal.rsqrt (Ideal.div (p (ix1 r)) (Ideal.ofBits .f32 0x44800000#32) + Ideal.ofBits .f32 0x358637BD#32) * lng (ix2 0 c) + lnb (ix2 0 c) := by
  pointwise [k0_pay17]

/-- The chunk of a token in its block, as the kernel computes it. -/
def chunkK (n : ℕ) : BitVec 32 :=
  Scalar.select
    (IntOp.andi
      (IntOp.cmpi .ne
        (IntOp.subi (BitVec.setWidth 32 (IntOp.cmpi .sgt (BitVec.ofNat 32 n) 0#32)) (BitVec.setWidth 32 (IntOp.cmpi .slt (BitVec.ofNat 32 n) 0#32)))
        (Scalar.subi (Scalar.extui (Scalar.cmpi .sgt 64#32 0#32)) (Scalar.extui (Scalar.cmpi .slt 64#32 0#32))))
      (IntOp.cmpi .ne (IntOp.remsi .vector (BitVec.ofNat 32 n) 64#32) 0#32))
    (IntOp.subi (IntOp.divsi .vector (BitVec.ofNat 32 n) 64#32) 1#32)
    (IntOp.divsi .vector (BitVec.ofNat 32 n) 64#32)

theorem chunkK_eq : ∀ n : Fin 128, chunkK n.val = BitVec.ofNat 32 (n.val / 64) := by decide +kernel

theorem wsm_apply (w : FVec Ideal S1x128x128 .f32) (t s : Fin 128) :
    wsm (F := Ideal) w (ix2 t s) = w (ix3 0 t s) * maskS t s := by
  have e : wsm (F := Ideal) w (ix2 t s)
      = Scalar.select (IntOp.cmpi .sge (chunkK t.val) (chunkK s.val)) (w (ix3 0 t s)) 0 := by
    pointwise [wsm, k0_pay1095, k0_pay1092, k0_pay1093, k0_pay1094]
    rfl
  rw [e, chunkK_eq, chunkK_eq]
  unfold maskS
  have ht : t.val / 64 = 0 ∨ t.val / 64 = 1 := by have := t.isLt; omega
  have hs : s.val / 64 = 0 ∨ s.val / 64 = 1 := by have := s.isLt; omega
  rcases ht with ht | ht <;> rcases hs with hs | hs <;> rw [ht, hs] <;> simp <;> rfl

theorem mixCol_apply (v : FVec Ideal S512x1024 .bf16) (w : FVec Ideal S128x128 .bf16) (n : Fin 4) (g : Fin 8) (t c : Fin 128) :
    mixCol (F := Ideal) v w n g (ix2 t c)
      = ∑ x, w (ix2 t x) * v (ix2 ⟨128 * n.val + x.val, by have := n.isLt; have := x.isLt; omega⟩ ⟨128 * g.val + c.val, by have := g.isLt; have := c.isLt; omega⟩) := by
  pointwise [mixCol]

set_option maxHeartbeats 2000000 in
theorem mixBlk_apply (v : FVec Ideal S512x1024 .bf16) (w : Fin 8 → FVec Ideal S128x128 .bf16) (bs : FVec Ideal S128x1024 .f32)
    (n : Fin 4) (g : Fin 8) (t c : Fin 128) :
    mixBlk (F := Ideal) v w bs n (ix2 t ⟨128 * g.val + c.val, by have := g.isLt; have := c.isLt; omega⟩)
      = mixCol (F := Ideal) v (w g) n g (ix2 t c) + bs (ix2 t ⟨128 * g.val + c.val, by have := g.isLt; have := c.isLt; omega⟩) := by
  have hc := c.isLt
  pointwise [mixBlk]
  congr 1
  obtain ⟨g, hg⟩ := g
  dsimp only
  have hx : ∀ (x : ℕ) (h : x < 128), x = c.val →
      mixCol (F := Ideal) v (w ⟨g, hg⟩) n ⟨g, hg⟩ (ix2 t ⟨x, h⟩) = mixCol (F := Ideal) v (w ⟨g, hg⟩) n ⟨g, hg⟩ (ix2 t c) := by
    intro x h hxc
    subst hxc
    rfl
  interval_cases g <;> (repeat' split) <;> first | (exfalso; omega) | exact hx _ _ (by omega)

theorem mixed_apply (v : FVec Ideal S512x1024 .bf16) (w : Fin 8 → FVec Ideal S128x128 .bf16) (bs : FVec Ideal S128x1024 .f32)
    (n : Fin 4) (t : Fin 128) (c : Fin 1024) :
    mixed (F := Ideal) v w bs (ix2 ⟨128 * n.val + t.val, by have := n.isLt; have := t.isLt; omega⟩ c) = mixBlk (F := Ideal) v w bs n (ix2 t c) := by
  have ht := t.isLt
  pointwise [mixed]
  obtain ⟨n, hn⟩ := n
  dsimp only
  have hx : ∀ (x : ℕ) (h : x < 128), x = t.val →
      mixBlk (F := Ideal) v w bs ⟨n, hn⟩ (ix2 ⟨x, h⟩ c) = mixBlk (F := Ideal) v w bs ⟨n, hn⟩ (ix2 t c) := by
    intro x h hxc
    subst hxc
    rfl
  interval_cases n <;> (repeat' split) <;> first | (exfalso; omega) | exact hx _ _ (by omega)

theorem gateCat_apply (p : Fin 4 → FVec Ideal S512x256 .f32) (r : Fin 512) (b : Fin 4) (e : Fin 256) :
    gateCat (F := Ideal) p (ix2 r (col4 b e)) = p b (ix2 r e) := by
  have he := e.isLt
  pointwise [gateCat, k0_pay1090, col4]
  obtain ⟨b, hb⟩ := b
  dsimp only
  have hx : ∀ (x : ℕ) (h : x < 256), x = e.val → p ⟨b, hb⟩ (ix2 r ⟨x, h⟩) = p ⟨b, hb⟩ (ix2 r e) := by
    intro x h hxc
    subst hxc
    rfl
  interval_cases b <;> (repeat' split) <;> first | (exfalso; omega) | exact hx _ _ (by omega)

theorem yaTok_apply (y : Fin 5 → FVec Ideal S512x256 .f32) (r : Fin 512) (b : Fin 5) (e : Fin 256) :
    yaTok (F := Ideal) y (ix2 r (col b e)) = toTok (F := Ideal) (y b) (ix2 r e) := by
  have he := e.isLt
  pointwise [yaTok, col]
  obtain ⟨b, hb⟩ := b
  dsimp only
  have hx : ∀ (x : ℕ) (h : x < 256), x = e.val →
      toTok (F := Ideal) (y ⟨b, hb⟩) (ix2 r ⟨x, h⟩) = toTok (F := Ideal) (y ⟨b, hb⟩) (ix2 r e) := by
    intro x h hxc
    subst hxc
    rfl
  interval_cases b <;> (repeat' split) <;> first | (exfalso; omega) | exact hx _ _ (by omega)

theorem pay1_apply (a b c d e f : FVec Ideal S512x1024 .f32) (wb wo : FVec Ideal S1x1024x1024 .bf16) (r : Fin 512) (j : Fin 1024) :
    k0_pay1 (F := Ideal) a b c d e f (k0_pay1127 (F := Ideal) b) (Named.named κ "gelu_exp" 0xC0135761#32) wb wo (ix2 r j)
      = a (ix2 r j) + ∑ x, (Ideal.logistic (c (ix2 r x)) * f (ix2 r x) +
          Ideal.logistic (d (ix2 r x)) * ∑ y, gel (b (ix2 r y)) * e (ix2 r y) * wb (ix3 0 y x)) * wo (ix3 0 x j) := by
  have hg : ∀ c, Ideal.div (b (ix2 r c)) (1 + FloatOps.exp2 (F := Ideal) (φ := .f32) (b (ix2 r c) *
      (Named.named (F := Ideal) (φ := .f32) κ "gelu_exp" 3222493025#32 + Named.named (F := Ideal) (φ := .f32) κ "gelu_exp_cubic" 3184710632#32 * (b (ix2 r c) * b (ix2 r c))))) = gel (b (ix2 r c)) :=
    fun c => gel_eq (b (ix2 r c)) _ _ rfl rfl
  simp only [← hg]
  pointwise [k0_pay1, k0_pay1127]

theorem pay4_apply (a : FVec Ideal S512x1024 .f32) (i : S512x1024.Idx) : k0_pay4 (F := Ideal) a i = a i := by
  pointwise [k0_pay4]

end Cert.Layer.Mix

end
-- ==== Proof.MixTileEq.lean ====
/- The mixer kernel's tile: its values are those of the sequence's recurrence, convolution and mixing. -/
module

public import proofs.«01_k».proof.Proof.MixRows
public import proofs.«01_k».proof.Proof.MixTile

@[expose] public section

noncomputable section

namespace Cert.Layer.Mix

open Cert.KernelIdeal Cert.KernelIdeal.Gen Idealize.ShloMosaic Idealize.ShloMosaic.TcCoe
open Idealize.SL.Sem
open Idealize.ShloMosaic.Pointwise

/-- The tile's operands are the layer's weights and the tokens from position `B`. -/
structure Reads (L : Lds Ideal) (W : Wts) (X : ℕ → Fin 1024 → EReal) (B : ℕ) : Prop where
  x : ∀ (r : Fin 512) k, (L.x : FVec Ideal S512x1024 .f32) (ix2 r k) = X (B + r.val) k
  g : ∀ k, (L.g : FVec Ideal S1x1024 .f32) (ix2 0 k) = W.g k
  wx : ∀ k e, (L.wx : FVec Ideal S1x1024x1280 .bf16) (ix3 0 k e) = W.win k (colX e)
  wv : ∀ k e, (L.wv : FVec Ideal S1x1024x1024 .bf16) (ix3 0 k e) = W.win k (col6 1024 3584 (by decide) e)
  wu : ∀ k e, (L.wu : FVec Ideal S1x1024x1024 .bf16) (ix3 0 k e) = W.win k (col6 1024 2560 (by decide) e)
  wg : ∀ b k e, (L.wg b : FVec Ideal S1x1024x256 .bf16) (ix3 0 k e) = W.win k (col6 1280 1280 (by decide) (col b e))
  wt : ∀ (b : Fin 8) k (e : Fin 256), (L.wt b : FVec Ideal S1x1024x256 .bf16) (ix3 0 k e)
    = W.win k ⟨4608 + (256 * b.val + e.val), by have := b.isLt; have := e.isLt; omega⟩
  cb : ∀ e, (L.cb : FVec Ideal S1x1280 .f32) (ix2 0 e) = W.cb e
  cw : ∀ k e, (L.cw k : FVec Ideal S1x1280 .f32) (ix2 0 e) = W.cw k e
  gwr : ∀ b (k j : Fin 256), (L.gw b : FVec Ideal S1x256x512 .bf16) (ix3 0 k ⟨j.val, by have := j.isLt; omega⟩)
    = if k.val / 64 = j.val / 64 then W.wr (hd (col b j)) ⟨k.val % 64, by omega⟩ (hi (col b j)) else 0
  gwi : ∀ b (k j : Fin 256), (L.gw b : FVec Ideal S1x256x512 .bf16) (ix3 0 k ⟨256 + j.val, by have := j.isLt; omega⟩)
    = if k.val / 64 = j.val / 64 then W.wi (hd (col b j)) ⟨k.val % 64, by omega⟩ (hi (col b j)) else 0
  gbr : ∀ b (j : Fin 256), (L.gb b : FVec Ideal S1x1x512 .f32) (ix3 0 0 ⟨j.val, by have := j.isLt; omega⟩)
    = W.br (hd (col b j)) (hi (col b j))
  gbi : ∀ b (j : Fin 256), (L.gb b : FVec Ideal S1x1x512 .f32) (ix3 0 0 ⟨256 + j.val, by have := j.isLt; omega⟩)
    = W.bi (hd (col b j)) (hi (col b j))
  lam : ∀ e, (L.lam : FVec Ideal S1x1280 .f32) (ix2 0 e) = W.lam e
  lng : ∀ k, (L.lng : FVec Ideal S1x1024 .f32) (ix2 0 k) = W.lng k
  lnb : ∀ k, (L.lnb : FVec Ideal S1x1024 .f32) (ix2 0 k) = W.lnb k
  ws : ∀ g t s, (L.ws g : FVec Ideal S1x128x128 .f32) (ix3 0 t s) = W.ws g t s
  bs : ∀ t c, (L.bs : FVec Ideal S128x1024 .f32) (ix2 t c) = W.bs (grp c) t
  wa : ∀ e d, (L.wa : FVec Ideal S1x1280x1024 .bf16) (ix3 0 e d) = W.wa e d
  wb : ∀ k d, (L.wb : FVec Ideal S1x1024x1024 .bf16) (ix3 0 k d) = W.wb k d
  wo : ∀ k d, (L.wo : FVec Ideal S1x1024x1024 .bf16) (ix3 0 k d) = W.wo k d

theorem sig_eq (z : EReal) : Ideal.logistic z = sig z := rfl

theorem xpad_add (W : Wts) (X : ℕ → Fin 1024 → EReal) (p : ℕ) (e : Fin 1280) :
    xpad W X (p + 3) e = proj W (X p) (colX e) := by
  unfold xpad; rw [if_pos (by omega), Nat.add_sub_cancel]

/-- A row through a block-diagonal matrix is its block through the block's matrix. -/
theorem diag_sum (x : Fin 256 → EReal) (w : Fin 64 → EReal) (q : Fin 4) :
    (∑ k : Fin 256, x k * (if k.val / 64 = q.val then w ⟨k.val % 64, by omega⟩ else 0))
      = ∑ i : Fin 64, w i * x ⟨q.val * 64 + i.val, by have := q.isLt; have := i.isLt; omega⟩ := by
  rw [← Equiv.sum_comp (finProdFinEquiv : Fin 4 × Fin 64 ≃ Fin (4 * 64)), Fintype.sum_prod_type,
    Finset.sum_eq_single q]
  · refine Finset.sum_congr rfl fun i _ => ?_
    have hv : (finProdFinEquiv (q, i) : Fin (4 * 64)).val = i.val + 64 * q.val := rfl
    have hi := i.isLt
    have hq := q.isLt
    have e1 : (finProdFinEquiv (q, i) : Fin (4 * 64)) = ⟨q.val * 64 + i.val, by omega⟩ := Fin.ext (by rw [hv]; show _ = q.val * 64 + i.val; omega)
    rw [e1, if_pos (by show (q.val * 64 + i.val) / 64 = q.val; omega), mul_comm]
    congr 2
    exact Fin.ext (by show (q.val * 64 + i.val) % 64 = i.val; omega)
  · intro p _ hp
    refine Finset.sum_eq_zero fun i _ => ?_
    have hv : (finProdFinEquiv (p, i) : Fin (4 * 64)).val = i.val + 64 * p.val := rfl
    have hi := i.isLt
    rw [if_neg (by rw [hv]; intro h; exact hp (Fin.ext (by omega))), mul_zero]
  · intro h; exact absurd (Finset.mem_univ q) h

section tile
variable {L : Lds Ideal} {W : Wts} {X : ℕ → Fin 1024 → EReal} {B : ℕ} (R : Reads L W X B)
  (T : FVec Ideal S24x1280 .f32) (H : Fin 5 → FVec Ideal S8x256 .f32)
include R

theorem hTok_row (r : Fin 512) (k : Fin 1024) : hTok (F := Ideal) L.x L.g (ix2 r k) = rmsRow (X (B + r.val)) W.g k := by
  rw [hTok_apply]
  simp only [R.x, R.g]

theorem hStep_row (s : Fin 64) (c : Fin 8) (k : Fin 1024) :
    hStep (F := Ideal) L.x L.g (ix2 (stp s c) k) = rmsRow (X (B + (c.val * 64 + s.val))) W.g k := by
  rw [hStep_apply]
  simp only [R.x, R.g, tok]

theorem pay9_row (s : Fin 64) (c : Fin 8) (e : Fin 1280) :
    k0_pay9 (F := Ideal) (hStep L.x L.g) L.wx (ix2 (stp s c) e) = xpad W X (B + (c.val * 64 + s.val + 3)) e := by
  rw [pay9_apply]
  simp only [hStep_row R, R.wx]
  rw [show B + (c.val * 64 + s.val + 3) = B + (c.val * 64 + s.val) + 3 by omega, xpad_add]
  rfl

theorem tileTail_apply (q : Fin 3) (e : Fin 1280) :
    tileTail (F := Ideal) L (hStep L.x L.g) (ix2 (row8 3 q 7) e) = xpad W X (B + 512 + q.val) e := by
  unfold tileTail
  rw [pay11_apply, pay9_row R]
  congr 1
  show B + (7 * 64 + (61 + q.val) + 3) = _
  omega

variable (hT : ∀ (q : Fin 3) (e : Fin 1280), T (ix2 (row8 3 q 7) e) = xpad W X (B + q.val) e)
  (hH : ∀ b (c : Fin 8) (e : Fin 256), H b (ix2 c e) = hst W X B (col b e))
include hT

theorem tileXr_apply (s : Fin 64) (c : Fin 8) (e : Fin 1280) :
    tileXr (F := Ideal) L (hStep L.x L.g) T (ix2 (stp s c) e) = conv W X (B + (c.val * 64 + s.val)) e := by
  have h13 := fun j => pay13_apply (hStep L.x L.g) L.wx T e (fun n => xpad W X (B + n) e)
    (fun s c => pay9_row R s c e) (fun q => hT q e) j c
  unfold tileXr conv
  rw [pay14_apply, h13, h13, h13, h13, R.cb, R.cw, R.cw, R.cw, R.cw]
  have e1 : B + (c.val * 64 + (1 + s.val)) = 1 + (B + (c.val * 64 + s.val)) := by omega
  have e2 : B + (c.val * 64 + (2 + s.val)) = 2 + (B + (c.val * 64 + s.val)) := by omega
  have e3 : B + (c.val * 64 + (3 + s.val)) = 3 + (B + (c.val * 64 + s.val)) := by omega
  show _ + xpad W X (B + (c.val * 64 + s.val)) e * _ + xpad W X (B + (c.val * 64 + (1 + s.val))) e * _
    + xpad W X (B + (c.val * 64 + (2 + s.val))) e * _ + xpad W X (B + (c.val * 64 + (3 + s.val))) e * _ = _
  rw [e1, e2, e3]

theorem gateSum (w : Fin 20 → Fin 64 → Fin 64 → EReal) (v : FVec Ideal S1x256x512 .bf16) (b : Fin 5) (j : Fin 256) (j' : Fin 512)
    (hw : ∀ k : Fin 256, v (ix3 0 k j') = if k.val / 64 = j.val / 64 then w (hd (col b j)) ⟨k.val % 64, by omega⟩ (hi (col b j)) else 0)
    (s : Fin 64) (c : Fin 8) :
    (∑ k, xb (F := Ideal) b (tileXr L (hStep L.x L.g) T) (ix2 (stp s c) k) * v (ix3 0 k j'))
      = ∑ i : Fin 64, w (hd (col b j)) i (hi (col b j)) * conv W X (B + (c.val * 64 + s.val))
          ⟨(hd (col b j)).val * 64 + i.val, by have := (hd (col b j)).isLt; have := i.isLt; omega⟩ := by
  have hj := j.isLt
  have hb := b.isLt
  simp only [xb_apply, tileXr_apply R T hT, hw]
  refine (diag_sum (fun k => conv W X (B + (c.val * 64 + s.val)) (col b k)) (fun i => w (hd (col b j)) i (hi (col b j)))
    ⟨j.val / 64, by omega⟩).trans ?_
  refine Finset.sum_congr rfl fun i _ => ?_
  congr 2
  have hi := i.isLt
  exact Fin.ext (by show 256 * b.val + (j.val / 64 * 64 + i.val) = (256 * b.val + j.val) / 64 * 64 + i.val; omega)

theorem nla_row (b : Fin 5) (s : Fin 64) (c : Fin 8) (e : Fin 256) :
    nla (F := Ideal) (gz (xb b (tileXr L (hStep L.x L.g) T)) (L.gw b) (L.gb b)) (rb b (k0_pay19 L.lam)) (ix2 (stp s c) e)
      = nlg W X (B + (c.val * 64 + s.val)) (col b e) := by
  rw [nla_apply, gz_apply, gateSum R T hT W.wr (L.gw b) b e _ (fun k => R.gwr b k e), R.gbr, rb_apply, pay19_apply, R.lam]
  unfold nlg gate spl
  simp only [zero_sub]
  rfl

theorem tileA_eq (b : Fin 5) (s : Fin 64) (c : Fin 8) (e : Fin 256) :
    tileA (F := Ideal) L (hStep L.x L.g) T b (ix2 (stp s c) e)
      = Ideal.exp (0 - nlg W X (B + (c.val * 64 + s.val)) (col b e)) := by
  unfold tileA blkA
  rw [dec_apply, nla_row R T hT]

theorem tileA_apply (b : Fin 5) (s : Fin 64) (c : Fin 8) (e : Fin 256) :
    tileA (F := Ideal) L (hStep L.x L.g) T b (ix2 (stp s c) e) = dcy W X (B + (c.val * 64 + s.val)) (col b e) := by
  rw [tileA_eq R T hT, dcy_eq]

theorem tileU_apply (b : Fin 5) (s : Fin 64) (c : Fin 8) (e : Fin 256) :
    tileU (F := Ideal) L (hStep L.x L.g) T b (ix2 (stp s c) e) = rin W X (B + (c.val * 64 + s.val)) (col b e) := by
  have hA := tileA_eq R T hT b s c e
  unfold tileA at hA
  unfold tileU blkU
  rw [inp_apply, oms_apply, nla_row R T hT, hA, scale_eq (nlg_nonneg W X _ _), gz_apply,
    gateSum R T hT W.wi (L.gw b) b e _ (fun k => R.gwi b k e), R.gbi, xb_apply, tileXr_apply R T hT, ← lgd_eq]
  rfl

omit hT R in
theorem row_stp (r : Fin 512) : ∃ s c, r = stp s c := by
  have hr := r.isLt
  exact ⟨⟨r.val / 8, by omega⟩, ⟨r.val % 8, by omega⟩, Fin.ext (by show r.val = r.val / 8 * 8 + r.val % 8; omega)⟩

theorem tileA_unit (b : Fin 5) (r : Fin 512) (e : Fin 256) :
    Unit01 (tileA (F := Ideal) L (hStep L.x L.g) T b (ix2 r e)) := by
  obtain ⟨s, c, rfl⟩ := row_stp r
  rw [tileA_apply R T hT]
  exact dcy_unit W X _ _

theorem tileStep (b : Fin 5) (s : Fin 64) (c : Fin 8) (e : Fin 256) :
    hst W X (B + (c.val * 64 + s.val + 1)) (col b e)
      = tileA (F := Ideal) L (hStep L.x L.g) T b (ix2 (stp s c) e) * hst W X (B + (c.val * 64 + s.val)) (col b e)
        + tileU (F := Ideal) L (hStep L.x L.g) T b (ix2 (stp s c) e) := by
  rw [tileA_apply R T hT, tileU_apply R T hT]
  rfl

include hH

/-- The states the tile carries out are those after its last token. -/
theorem tileCarry_apply (b : Fin 5) (c : Fin 8) (e : Fin 256) :
    tileCarry (F := Ideal) L (hStep L.x L.g) T H b (ix2 c e) = hst W X (B + 512) (col b e) :=
  carry_apply _ _ _ (fun n e => hst W X (B + n) (col b e)) (tileA_unit R T hT b) (tileStep R T hT b) (fun c e => hH b c e) c e

theorem blkYa_row (b : Fin 5) (s : Fin 64) (c : Fin 8) (e : Fin 256) :
    blkYa (F := Ideal) (tileA L (hStep L.x L.g) T b) (tileU L (hStep L.x L.g) T b) (k0_pay23 (hStep L.x L.g) (L.wg b)) (H b) (ix2 (stp s c) e)
      = hst W X (B + (c.val * 64 + s.val + 1)) (col b e) * gel (proj W (X (B + (c.val * 64 + s.val))) (col6 1280 1280 (by decide) (col b e))) := by
  have e0 : blkYa (F := Ideal) (tileA L (hStep L.x L.g) T b) (tileU L (hStep L.x L.g) T b) (k0_pay23 (hStep L.x L.g) (L.wg b)) (H b) (ix2 (stp s c) e)
      = states (F := Ideal) (tileA L (hStep L.x L.g) T b) (tileU L (hStep L.x L.g) T b) (H b) (ix2 (stp s c) e)
        * geluV (F := Ideal) (k0_pay23 (hStep L.x L.g) (L.wg b)) (ix2 (stp s c) e) := rfl
  rw [e0, states_apply _ _ _ (fun n e => hst W X (B + n) (col b e)) (tileA_unit R T hT b) (tileStep R T hT b) (fun c e => hH b c e),
    geluV_apply, pay23_apply]
  simp only [hStep_row R, R.wg]
  rfl

theorem ya_row (r : Fin 512) (e : Fin 1280) :
    yaTok (F := Ideal) (fun b => blkYa (tileA L (hStep L.x L.g) T b) (tileU L (hStep L.x L.g) T b) (k0_pay23 (hStep L.x L.g) (L.wg b)) (H b)) (ix2 r e)
      = hst W X (B + r.val + 1) e * gel (proj W (X (B + r.val)) (col6 1280 1280 (by decide) e)) := by
  have hr := r.isLt
  have he := e.isLt
  obtain ⟨b, e', rfl⟩ : ∃ b e', e = col b e' :=
    ⟨⟨e.val / 256, by omega⟩, ⟨e.val % 256, by omega⟩, Fin.ext (by show e.val = 256 * (e.val / 256) + e.val % 256; omega)⟩
  obtain ⟨s, c, rfl⟩ : ∃ s c, r = tok s c :=
    ⟨⟨r.val % 64, by omega⟩, ⟨r.val / 64, by omega⟩, Fin.ext (by show r.val = r.val / 64 * 64 + r.val % 64; omega)⟩
  rw [yaTok_apply, toTok_apply, blkYa_row R T H hT hH]
  rfl

omit hH hT

theorem vln_row (r : Fin 512) (c : Fin 1024) :
    k0_pay17 (F := Ideal) (k0_pay15 (k0_pay10 (hTok L.x L.g) L.wv)) (k0_pay16 (k0_pay10 (hTok L.x L.g) L.wv)) L.lng L.lnb (ix2 r c)
      = vln W (X (B + r.val)) c := by
  have hv : ∀ c, k0_pay15 (F := Ideal) (k0_pay10 (hTok L.x L.g) L.wv) (ix2 r c) = gvc W (X (B + r.val)) c := by
    intro c
    rw [pay15_apply]
    simp only [pay10_apply, hTok_row R, R.wv]
    rfl
  rw [pay17_apply (k0_pay10 (hTok L.x L.g) L.wv), pay16_apply]
  simp only [hv, R.lng, R.lnb]
  rfl

omit R in
theorem row_blk (r : Fin 512) : ∃ (n : Fin 4) (t : Fin 128), r = ⟨128 * n.val + t.val, by have := n.isLt; have := t.isLt; omega⟩ :=
  ⟨⟨r.val / 128, by have := r.isLt; omega⟩, ⟨r.val % 128, by omega⟩, Fin.ext (by show r.val = 128 * (r.val / 128) + r.val % 128; omega)⟩

omit R in
theorem col_blk (c : Fin 1024) : ∃ (g : Fin 8) (c' : Fin 128), c = ⟨128 * g.val + c'.val, by have := g.isLt; have := c'.isLt; omega⟩ :=
  ⟨⟨c.val / 128, by have := c.isLt; omega⟩, ⟨c.val % 128, by omega⟩, Fin.ext (by show c.val = 128 * (c.val / 128) + c.val % 128; omega)⟩

theorem mixed_row (r : Fin 512) (c : Fin 1024) :
    mixed (F := Ideal) (k0_pay17 (k0_pay15 (k0_pay10 (hTok L.x L.g) L.wv)) (k0_pay16 (k0_pay10 (hTok L.x L.g) L.wv)) L.lng L.lnb)
        (fun g => wsm (L.ws g)) L.bs (ix2 r c)
      = mixedS W maskS (fun s => X (B + (r.val / 128 * 128 + s.val))) ⟨r.val % 128, by omega⟩ c := by
  obtain ⟨n, t, rfl⟩ := row_blk r
  obtain ⟨g, c', rfl⟩ := col_blk c
  have hn := n.isLt
  have ht := t.isLt
  have hc' := c'.isLt
  have hg : grp ⟨128 * g.val + c'.val, by have := g.isLt; omega⟩ = g := Fin.ext (by show (128 * g.val + c'.val) / 128 = g.val; omega)
  rw [mixed_apply, mixBlk_apply, mixCol_apply, R.bs]
  simp only [wsm_apply, R.ws, vln_row R]
  unfold mixedS
  rw [hg]
  have htt : (⟨(128 * n.val + t.val) % 128, by omega⟩ : Fin 128) = t := Fin.ext (by show (128 * n.val + t.val) % 128 = t.val; omega)
  show _ = (∑ s : Fin 128, vln W (X (B + ((128 * n.val + t.val) / 128 * 128 + s.val))) ⟨128 * g.val + c'.val, _⟩ *
    (W.ws g ⟨(128 * n.val + t.val) % 128, _⟩ s * maskS ⟨(128 * n.val + t.val) % 128, _⟩ s)) + W.bs g ⟨(128 * n.val + t.val) % 128, _⟩
  rw [htt]
  congr 1
  refine Finset.sum_congr rfl fun s _ => ?_
  rw [mul_comm]
  have : (128 * n.val + t.val) / 128 * 128 = 128 * n.val := by omega
  rw [this]

theorem gate_row (o : Fin 2) (r : Fin 512) (j : Fin 1024) :
    gateCat (F := Ideal) (fun b => k0_pay24 (hTok L.x L.g) (L.wt ⟨b.val + 4 * o.val, by have := b.isLt; have := o.isLt; omega⟩)) (ix2 r j)
      = proj W (X (B + r.val)) (col6 1024 (4608 + 1024 * o.val) (by have := o.isLt; omega) j) := by
  have hj := j.isLt
  have ho := o.isLt
  obtain ⟨b, e, rfl⟩ : ∃ b e, j = col4 b e :=
    ⟨⟨j.val / 256, by omega⟩, ⟨j.val % 256, by omega⟩, Fin.ext (by show j.val = 256 * (j.val / 256) + j.val % 256; omega)⟩
  have hb := b.isLt
  have he := e.isLt
  rw [gateCat_apply, pay24_apply]
  simp only [hTok_row R, R.wt]
  unfold proj
  refine Finset.sum_congr rfl fun k _ => ?_
  congr 2
  exact Fin.ext (by show 4608 + (256 * (b.val + 4 * o.val) + e.val) = 4608 + 1024 * o.val + (256 * b.val + e.val); omega)

include hT hH

/-- The tile's result at a token. -/
theorem tileOut_apply (r : Fin 512) (d : Fin 1024) :
    tileOut (F := Ideal) L (hTok L.x L.g) (hStep L.x L.g) T H (ix2 r d)
      = outS W maskS (X (B + r.val)) (fun s => X (B + (r.val / 128 * 128 + s.val))) ⟨r.val % 128, by omega⟩
          (hst W X (B + r.val + 1)) d := by
  unfold tileOut outV
  rw [pay1_apply, pay4_apply, R.x]
  have hg0 := fun j => gate_row R 0 r j
  have hg1 := fun j => gate_row R 1 r j
  have h18 : ∀ c, k0_pay18 (F := Ideal) (hTok L.x L.g) L.wu (ix2 r c) = proj W (X (B + r.val)) (col6 1024 2560 (by decide) c) := by
    intro c
    rw [pay18_apply]
    simp only [hTok_row R, R.wu]
    rfl
  unfold outS
  refine congrArg (X (B + r.val) d + ·) (Finset.sum_congr rfl fun j _ => ?_)
  rw [R.wo, pay1126_apply]
  simp only [h18, mixed_row R, ya_row R T H hT hH, R.wa, R.wb]
  have g0 : gateCat (F := Ideal) (fun j => k0_pay24 (hTok L.x L.g) (L.wt ⟨j.val, by have := j.isLt; omega⟩)) (ix2 r j)
      = proj W (X (B + r.val)) (col6 1024 4608 (by decide) j) := hg0 j
  have g1 : gateCat (F := Ideal) (fun j => k0_pay24 (hTok L.x L.g) (L.wt ⟨j.val + 4, by have := j.isLt; omega⟩)) (ix2 r j)
      = proj W (X (B + r.val)) (col6 1024 5632 (by decide) j) := hg1 j
  rw [g0, g1, sig_eq, sig_eq]

end tile

end Cert.Layer.Mix

end
-- ==== Proof.MixHost.lean ====
/- The arrays the mixer's kernel is called on, and the blocks of them a grid point reads, as functions of the launch's
   arguments. -/
module

public import proofs.«01_k».proof.Proof.MixTileEq
public import proofs.«01_k».proof.Proof.Gen.KernelIdeal.Value

@[expose] public section

set_option maxRecDepth 16384

noncomputable section

namespace Cert.Layer.Mix

open Cert.KernelIdeal Cert.KernelIdeal.Gen Cert.KernelIdeal.Value Idealize.ShloMosaic Idealize.ShloMosaic.TcCoe
open Idealize.SL.Sem
open Idealize.ShloMosaic.Pointwise

variable (m : (ℓ : Loc nD τ Cert.KernelIdeal.sig) → Buf (Elt Ideal) ℓ)

/-- The launch contents of argument `a`. -/
abbrev arg (c : Dev nD) (b : Ref Cert.KernelIdeal.sig .tc) : Buf (Elt Ideal) ((c : Thread nD τ).loc b) := m ((c : Thread nD τ).loc b)

/-- The 4 by 4 identity. -/
def eyeK : FVec Ideal S4x4 .f32 :=
  uitofp .f32 (cmpi .eq (addi (iotaInDim S4x4 32 0) (broadcastInDim S4x4 ![] bcast_S_S4x4 (constantI S_ 32 0#32))) (iotaInDim S4x4 32 1))

/-- Four blocks of 64 columns on the diagonal. -/
def bdK (w : FVec Ideal S20x64x64 .f32) : FVec Ideal S5x256x256 .f32 :=
  shapeCast S5x256x256 (mulf
    (broadcastInDim S5x4x64x4x64 ![0, 1, 2, 3, 4] bcast_S5x4x64x1x64_S5x4x64x4x64_0_1_2_3_4
      (broadcastInDim S5x4x64x1x64 ![0, 1, 2, 4] bcast_S5x4x64x64_S5x4x64x1x64_0_1_2_4 (shapeCast S5x4x64x64 w shapeCasts_S20x64x64_S5x4x64x64)))
    (broadcastInDim S5x4x64x4x64 ![0, 1, 2, 3, 4] bcast_S1x4x1x4x1_S5x4x64x4x64_0_1_2_3_4
      (broadcastInDim S1x4x1x4x1 ![1, 3] bcast_S4x4_S1x4x1x4x1_1_3 eyeK))) shapeCasts_S5x4x64x4x64_S5x256x256

/-- The second layer's gate matrices. -/
def wgK (a : FVec Ideal S2x20x64x64 .f32) : FVec Ideal S20x64x64 .f32 :=
  shapeCast S20x64x64 (extractStridedSlice S1x20x64x64 ![1, 0, 0, 0] a slices_S2x20x64x64_S1x20x64x64_1_0_0_0) shapeCasts_S1x20x64x64_S20x64x64

/-- The second layer's gate offsets. -/
def bgK (a : FVec Ideal S2x20x64 .f32) : FVec Ideal S5x1x256 .f32 :=
  shapeCast S5x1x256 (shapeCast S20x64 (extractStridedSlice S1x20x64 ![1, 0, 0] a slices_S2x20x64_S1x20x64_1_0_0) shapeCasts_S1x20x64_S20x64) shapeCasts_S20x64_S5x1x256

theorem eyeK_apply (p q : Fin 4) : eyeK (ix2 p q) = if p.val = q.val then 1 else 0 := by
  have h : ∀ p q : Fin 4, IntOp.cmpi .eq (IntOp.addi (BitVec.ofNat 32 p.val) 0#32) (BitVec.ofNat 32 q.val)
      = if p.val = q.val then 1#1 else 0#1 := by decide +kernel
  have e : eyeK (ix2 p q) = FloatOps.uitofp (F := Ideal) .f32 (IntOp.cmpi .eq (IntOp.addi (BitVec.ofNat 32 p.val) 0#32) (BitVec.ofNat 32 q.val)) := by
    pointwise [eyeK]
  rw [e, h]
  split
  · show (((1#1 : BitVec 1).toNat : ℝ) : EReal) = 1
    simp
  · show (((0#1 : BitVec 1).toNat : ℝ) : EReal) = 0
    simp

theorem wgK_apply (a : FVec Ideal S2x20x64x64 .f32) (h : Fin 20) (i e : Fin 64) : wgK a (ix3 h i e) = a (ix4 1 h i e) := by
  pointwise [wgK]

theorem bgK_apply (a : FVec Ideal S2x20x64 .f32) (b : Fin 5) (j : Fin 256) :
    bgK a (ix3 b 0 j) = a (ix3 1 (hd (col b j)) (hi (col b j))) := by
  have hj := j.isLt
  pointwise [bgK, hd, hi, col]
  congr 1
  funext a; apply Fin.ext
  match a with
  | ⟨0, _⟩ => rfl
  | ⟨1, _⟩ => show b.val * 4 + j.val / 64 = (256 * b.val + j.val) / 64; omega
  | ⟨2, _⟩ => show j.val % 64 = (256 * b.val + j.val) % 64; omega

theorem flat_apply (x : FVec Ideal S4x4096x1024 .f32) (n : Fin 16384) (k : Fin 1024) :
    shapeCast S16384x1024 x shapeCasts_S4x4096x1024_S16384x1024 (ix2 n k)
      = x (ix3 ⟨n.val / 4096, by have := n.isLt; omega⟩ ⟨n.val % 4096, by omega⟩ k) := by
  pointwise

theorem bdK_apply (w : FVec Ideal S20x64x64 .f32) (b : Fin 5) (k j : Fin 256) :
    bdK w (ix3 b k j) = if k.val / 64 = j.val / 64 then w (ix3 (hd (col b j)) ⟨k.val % 64, by omega⟩ (hi (col b j))) else 0 := by
  have hj := j.isLt
  pointwise [bdK, eyeK_apply, hd, hi, col]
  split
  · rw [mul_one]
    congr 1
    funext a; apply Fin.ext
    match a with
    | ⟨0, _⟩ => show b.val * 4 + k.val / 64 = (256 * b.val + j.val) / 64; omega
    | ⟨1, _⟩ => rfl
    | ⟨2, _⟩ => show j.val % 64 = (256 * b.val + j.val) % 64; omega
  · rw [mul_zero]

theorem V_v0 (c : Dev nD) : V m c main_v0 = shapeCast S16384x1024 (arg m c main_arg0 : FVec Ideal S4x4096x1024 .f32) shapeCasts_S4x4096x1024_S16384x1024 := by
  dsimp only [V, hostOps0]; after_results <;> rfl

theorem V_v1 (c : Dev nD) : V m c main_v1 = (truncf .bf16 (arg m c main_arg2 : FVec Ideal S2x1024x6656 .f32) bitsLt_bf16_f32 : FVec Ideal S2x1024x6656 .bf16) := by
  dsimp only [V, hostOps0]; after_results <;> rfl

theorem V_v2 (c : Dev nD) : V m c main_v2 = (truncf .bf16 (arg m c main_arg14 : FVec Ideal S2x1280x1024 .f32) bitsLt_bf16_f32 : FVec Ideal S2x1280x1024 .bf16) := by
  dsimp only [V, hostOps0]; after_results <;> rfl

theorem V_v3 (c : Dev nD) : V m c main_v3 = (truncf .bf16 (arg m c main_arg15 : FVec Ideal S2x1024x1024 .f32) bitsLt_bf16_f32 : FVec Ideal S2x1024x1024 .bf16) := by
  dsimp only [V, hostOps0]; after_results <;> rfl

theorem V_v4 (c : Dev nD) : V m c main_v4 = (truncf .bf16 (arg m c main_arg16 : FVec Ideal S2x1024x1024 .f32) bitsLt_bf16_f32 : FVec Ideal S2x1024x1024 .bf16) := by
  dsimp only [V, hostOps0]; after_results <;> rfl

theorem V_v34 (c : Dev nD) : V m c main_v34 = (truncf .bf16 (concatenate S5x256x512 2 [⟨S5x256x256, bdK (wgK (arg m c main_arg5))⟩, ⟨S5x256x256, bdK (wgK (arg m c main_arg7))⟩] concatenates_S5x256x256_S5x256x256_S5x256x512_d2 : FVec Ideal S5x256x512 .f32) bitsLt_bf16_f32 : FVec Ideal S5x256x512 .bf16) := by
  dsimp only [V, hostOps0]; after_results <;> rfl

theorem V_v37 (c : Dev nD) : V m c main_v37 = (concatenate S5x1x512 2 [⟨S5x1x256, bgK (arg m c main_arg6)⟩, ⟨S5x1x256, bgK (arg m c main_arg8)⟩] concatenates_S5x1x256_S5x1x256_S5x1x512_d2 : FVec Ideal S5x1x512 .f32) := by
  dsimp only [V, hostOps0]; after_results <;> rfl

theorem V_v42 (c : Dev nD) : V m c main_v42 = shapeCast S128x1024 (broadcastInDim S128x8x128 ![0, 1] bcast_S128x8_S128x8x128_0_1 (transpose S128x8 [1, 0] (shapeCast S8x128 (extractStridedSlice S1x8x128 ![1, 0, 0] (arg m c main_arg13 : FVec Ideal S2x8x128 .f32) slices_S2x8x128_S1x8x128_1_0_0) shapeCasts_S1x8x128_S8x128) transposes_S8x128_S128x8_1_0)) shapeCasts_S128x8x128_S128x1024 := by
  dsimp only [V, hostOps0]; after_results <;> rfl

theorem V_v43 (c : Dev nD) : V m c main_v43 = extractStridedSlice S1x1024 ![1, 0] (arg m c main_arg1 : FVec Ideal S2x1024 .f32) slices_S2x1024_S1x1024_1_0 := by
  dsimp only [V, hostOps0]; after_results <;> rfl

theorem V_v45 (c : Dev nD) : V m c main_v45 = shapeCast S4x1280 (extractStridedSlice S1x4x1280 ![1, 0, 0] (arg m c main_arg3 : FVec Ideal S2x4x1280 .f32) slices_S2x4x1280_S1x4x1280_1_0_0) shapeCasts_S1x4x1280_S4x1280 := by
  dsimp only [V, hostOps0]; after_results <;> rfl

theorem V_v46 (c : Dev nD) : V m c main_v46 = extractStridedSlice S1x1280 ![1, 0] (arg m c main_arg4 : FVec Ideal S2x1280 .f32) slices_S2x1280_S1x1280_1_0 := by
  dsimp only [V, hostOps0]; after_results <;> rfl

theorem V_v47 (c : Dev nD) : V m c main_v47 = extractStridedSlice S1x1280 ![1, 0] (arg m c main_arg9 : FVec Ideal S2x1280 .f32) slices_S2x1280_S1x1280_1_0 := by
  dsimp only [V, hostOps0]; after_results <;> rfl

theorem V_v48 (c : Dev nD) : V m c main_v48 = extractStridedSlice S1x1024 ![1, 0] (arg m c main_arg10 : FVec Ideal S2x1024 .f32) slices_S2x1024_S1x1024_1_0 := by
  dsimp only [V, hostOps0]; after_results <;> rfl

theorem V_v49 (c : Dev nD) : V m c main_v49 = extractStridedSlice S1x1024 ![1, 0] (arg m c main_arg11 : FVec Ideal S2x1024 .f32) slices_S2x1024_S1x1024_1_0 := by
  dsimp only [V, hostOps0]; after_results <;> rfl

theorem V_v51 (c : Dev nD) : V m c main_v51 = shapeCast S8x128x128 (extractStridedSlice S1x8x128x128 ![1, 0, 0, 0] (arg m c main_arg12 : FVec Ideal S2x8x128x128 .f32) slices_S2x8x128x128_S1x8x128x128_1_0_0_0) shapeCasts_S1x8x128x128_S8x128x128 := by
  dsimp only [V, hostOps0]; after_results <;> rfl

theorem idx0 : ∀ t : Fin cfg0.N, win0_0.index t (0 : Fin 2) = t.val ∧ win0_0.index t (1 : Fin 2) = 0 :=
  (by decide +kernel : ∀ t : Fin grid0.N, _)

theorem blk0 (c : Dev nD) (t : Fin cfg0.N) (r : Fin 512) (k : Fin 1024) :
    iblk (F := Ideal) m c 0 t (ix2 r k) = ((arg m c main_arg0 : FVec Ideal S4x4096x1024 .f32) (ix3 ⟨(t.val * 512 + r.val) / 4096, by have h : t.val < 32 := t.isLt; have := r.isLt; omega⟩ ⟨(t.val * 512 + r.val) % 4096, by omega⟩ k)) := by
  obtain ⟨e0, e1⟩ := idx0 t
  show V m c main_v0 (((cfg0.win 0).blk t).view.emb (ix2 r k)) = _
  rw [V_v0]
  have he : ((cfg0.win 0).blk t).view.emb (ix2 r k) = (ix2 (⟨t.val * 512 + r.val, by have h : t.val < 32 := t.isLt; have := r.isLt; omega⟩ : Fin 16384) k : S16384x1024.Idx) := by
    funext a; apply Fin.ext
    match a with
    | ⟨0, _⟩ => show win0_0.index t (0 : Fin 2) * 512 + 1 * r.val = t.val * 512 + r.val; omega
    | ⟨1, _⟩ => show win0_0.index t (1 : Fin 2) * 1024 + 1 * k.val = k.val; omega
  refine (congrArg (shapeCast S16384x1024 (arg m c main_arg0 : FVec Ideal S4x4096x1024 .f32) shapeCasts_S4x4096x1024_S16384x1024) he).trans ?_
  exact flat_apply _ _ _

theorem idx1 : ∀ t : Fin cfg0.N, win0_1.index t (0 : Fin 2) = 0 ∧ win0_1.index t (1 : Fin 2) = 0 :=
  (by decide +kernel : ∀ t : Fin grid0.N, _)

theorem blk1 (c : Dev nD) (t : Fin cfg0.N) (k : Fin 1024) :
    iblk (F := Ideal) m c 1 t (ix2 0 k) = ((arg m c main_arg1 : FVec Ideal S2x1024 .f32) (ix2 1 k)) := by
  obtain ⟨e0, e1⟩ := idx1 t
  show V m c main_v43 (((cfg0.win 1).blk t).view.emb (ix2 0 k)) = _
  rw [V_v43]
  have he : ((cfg0.win 1).blk t).view.emb (ix2 0 k) = (ix2 0 k : S1x1024.Idx) := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  refine (congrArg (extractStridedSlice S1x1024 ![1, 0] (arg m c main_arg1 : FVec Ideal S2x1024 .f32) slices_S2x1024_S1x1024_1_0) he).trans ?_
  pointwise

theorem idx2 : ∀ t : Fin cfg0.N, win0_2.index t (0 : Fin 3) = 1 ∧ win0_2.index t (1 : Fin 3) = 0 ∧ win0_2.index t (2 : Fin 3) = 0 :=
  (by decide +kernel : ∀ t : Fin grid0.N, _)

theorem blk2 (c : Dev nD) (t : Fin cfg0.N) (k : Fin 1024) (e : Fin 6656) :
    iblk (F := Ideal) m c 2 t (ix3 0 k e) = ((arg m c main_arg2 : FVec Ideal S2x1024x6656 .f32) (ix3 1 k e)) := by
  obtain ⟨e0, e1, e2⟩ := idx2 t
  show V m c main_v1 (((cfg0.win 2).blk t).view.emb (ix3 0 k e)) = _
  rw [V_v1]
  have he : ((cfg0.win 2).blk t).view.emb (ix3 0 k e) = (ix3 1 k e : S2x1024x6656.Idx) := by
    funext a; apply Fin.ext
    match a with
    | ⟨0, _⟩ => show win0_2.index t (0 : Fin 3) * 1 + 1 * 0 = 1; omega
    | ⟨1, _⟩ => show win0_2.index t (1 : Fin 3) * 1024 + 1 * k.val = k.val; omega
    | ⟨2, _⟩ => show win0_2.index t (2 : Fin 3) * 6656 + 1 * e.val = e.val; omega
  refine (congrArg ((truncf .bf16 (arg m c main_arg2 : FVec Ideal S2x1024x6656 .f32) bitsLt_bf16_f32 : FVec Ideal S2x1024x6656 .bf16)) he).trans ?_
  rfl

theorem idx3 : ∀ t : Fin cfg0.N, win0_3.index t (0 : Fin 2) = 0 ∧ win0_3.index t (1 : Fin 2) = 0 :=
  (by decide +kernel : ∀ t : Fin grid0.N, _)

theorem blk3 (c : Dev nD) (t : Fin cfg0.N) (k : Fin 4) (e : Fin 1280) :
    iblk (F := Ideal) m c 3 t (ix2 k e) = ((arg m c main_arg3 : FVec Ideal S2x4x1280 .f32) (ix3 1 k e)) := by
  obtain ⟨e0, e1⟩ := idx3 t
  show V m c main_v45 (((cfg0.win 3).blk t).view.emb (ix2 k e)) = _
  rw [V_v45]
  have he : ((cfg0.win 3).blk t).view.emb (ix2 k e) = (ix2 k e : S4x1280.Idx) := by
    funext a; apply Fin.ext
    match a with
    | ⟨0, _⟩ => show win0_3.index t (0 : Fin 2) * 4 + 1 * k.val = k.val; omega
    | ⟨1, _⟩ => show win0_3.index t (1 : Fin 2) * 1280 + 1 * e.val = e.val; omega
  refine (congrArg (shapeCast S4x1280 (extractStridedSlice S1x4x1280 ![1, 0, 0] (arg m c main_arg3 : FVec Ideal S2x4x1280 .f32) slices_S2x4x1280_S1x4x1280_1_0_0) shapeCasts_S1x4x1280_S4x1280) he).trans ?_
  pointwise

theorem idx4 : ∀ t : Fin cfg0.N, win0_4.index t (0 : Fin 2) = 0 ∧ win0_4.index t (1 : Fin 2) = 0 :=
  (by decide +kernel : ∀ t : Fin grid0.N, _)

theorem blk4 (c : Dev nD) (t : Fin cfg0.N) (e : Fin 1280) :
    iblk (F := Ideal) m c 4 t (ix2 0 e) = ((arg m c main_arg4 : FVec Ideal S2x1280 .f32) (ix2 1 e)) := by
  obtain ⟨e0, e1⟩ := idx4 t
  show V m c main_v46 (((cfg0.win 4).blk t).view.emb (ix2 0 e)) = _
  rw [V_v46]
  have he : ((cfg0.win 4).blk t).view.emb (ix2 0 e) = (ix2 0 e : S1x1280.Idx) := by
    funext a; apply Fin.ext
    match a with
    | ⟨0, _⟩ => show win0_4.index t (0 : Fin 2) * 1 + 1 * 0 = 0; omega
    | ⟨1, _⟩ => show win0_4.index t (1 : Fin 2) * 1280 + 1 * e.val = e.val; omega
  refine (congrArg (extractStridedSlice S1x1280 ![1, 0] (arg m c main_arg4 : FVec Ideal S2x1280 .f32) slices_S2x1280_S1x1280_1_0) he).trans ?_
  pointwise

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

theorem blk5 (c : Dev nD) (t : Fin cfg0.N) (b : Fin 5) (k : Fin 256) (j : Fin 512) :
    iblk (F := Ideal) m c 5 t (ix3 b k j) = (if h : j.val < 256 then bdK (wgK (arg m c main_arg5)) (ix3 b k ⟨j.val, h⟩) else bdK (wgK (arg m c main_arg7)) (ix3 b k ⟨j.val - 256, by have := j.isLt; omega⟩)) := by
  obtain ⟨e0, e1, e2⟩ := idx5 t
  show V m c main_v34 (((cfg0.win 5).blk t).view.emb (ix3 b k j)) = _
  rw [V_v34]
  have he : ((cfg0.win 5).blk t).view.emb (ix3 b k j) = (ix3 b k j : S5x256x512.Idx) := by
    funext a; apply Fin.ext
    match a with
    | ⟨0, _⟩ => show win0_5.index t (0 : Fin 3) * 5 + 1 * b.val = b.val; omega
    | ⟨1, _⟩ => show win0_5.index t (1 : Fin 3) * 256 + 1 * k.val = k.val; omega
    | ⟨2, _⟩ => show win0_5.index t (2 : Fin 3) * 512 + 1 * j.val = j.val; omega
  refine (congrArg ((truncf .bf16 (concatenate S5x256x512 2 [⟨S5x256x256, bdK (wgK (arg m c main_arg5))⟩, ⟨S5x256x256, bdK (wgK (arg m c main_arg7))⟩] concatenates_S5x256x256_S5x256x256_S5x256x512_d2 : FVec Ideal S5x256x512 .f32) bitsLt_bf16_f32 : FVec Ideal S5x256x512 .bf16)) he).trans ?_
  pointwise

theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

theorem blk6 (c : Dev nD) (t : Fin cfg0.N) (b : Fin 5) (j : Fin 512) :
    iblk (F := Ideal) m c 6 t (ix3 b 0 j) = (if h : j.val < 256 then bgK (arg m c main_arg6) (ix3 b 0 ⟨j.val, h⟩) else bgK (arg m c main_arg8) (ix3 b 0 ⟨j.val - 256, by have := j.isLt; omega⟩)) := by
  obtain ⟨e0, e1, e2⟩ := idx6 t
  show V m c main_v37 (((cfg0.win 6).blk t).view.emb (ix3 b 0 j)) = _
  rw [V_v37]
  have he : ((cfg0.win 6).blk t).view.emb (ix3 b 0 j) = (ix3 b 0 j : S5x1x512.Idx) := by
    funext a; apply Fin.ext
    match a with
    | ⟨0, _⟩ => show win0_6.index t (0 : Fin 3) * 5 + 1 * b.val = b.val; omega
    | ⟨1, _⟩ => show win0_6.index t (1 : Fin 3) * 1 + 1 * 0 = 0; omega
    | ⟨2, _⟩ => show win0_6.index t (2 : Fin 3) * 512 + 1 * j.val = j.val; omega
  refine (congrArg ((concatenate S5x1x512 2 [⟨S5x1x256, bgK (arg m c main_arg6)⟩, ⟨S5x1x256, bgK (arg m c main_arg8)⟩] concatenates_S5x1x256_S5x1x256_S5x1x512_d2 : FVec Ideal S5x1x512 .f32)) he).trans ?_
  pointwise

theorem idx7 : ∀ t : Fin cfg0.N, win0_7.index t (0 : Fin 2) = 0 ∧ win0_7.index t (1 : Fin 2) = 0 :=
  (by decide +kernel : ∀ t : Fin grid0.N, _)

theorem blk7 (c : Dev nD) (t : Fin cfg0.N) (e : Fin 1280) :
    iblk (F := Ideal) m c 7 t (ix2 0 e) = ((arg m c main_arg9 : FVec Ideal S2x1280 .f32) (ix2 1 e)) := by
  obtain ⟨e0, e1⟩ := idx7 t
  show V m c main_v47 (((cfg0.win 7).blk t).view.emb (ix2 0 e)) = _
  rw [V_v47]
  have he : ((cfg0.win 7).blk t).view.emb (ix2 0 e) = (ix2 0 e : S1x1280.Idx) := by
    funext a; apply Fin.ext
    match a with
    | ⟨0, _⟩ => show win0_7.index t (0 : Fin 2) * 1 + 1 * 0 = 0; omega
    | ⟨1, _⟩ => show win0_7.index t (1 : Fin 2) * 1280 + 1 * e.val = e.val; omega
  refine (congrArg (extractStridedSlice S1x1280 ![1, 0] (arg m c main_arg9 : FVec Ideal S2x1280 .f32) slices_S2x1280_S1x1280_1_0) he).trans ?_
  pointwise

theorem idx8 : ∀ t : Fin cfg0.N, win0_8.index t (0 : Fin 2) = 0 ∧ win0_8.index t (1 : Fin 2) = 0 :=
  (by decide +kernel : ∀ t : Fin grid0.N, _)

theorem blk8 (c : Dev nD) (t : Fin cfg0.N) (k : Fin 1024) :
    iblk (F := Ideal) m c 8 t (ix2 0 k) = ((arg m c main_arg10 : FVec Ideal S2x1024 .f32) (ix2 1 k)) := by
  obtain ⟨e0, e1⟩ := idx8 t
  show V m c main_v48 (((cfg0.win 8).blk t).view.emb (ix2 0 k)) = _
  rw [V_v48]
  have he : ((cfg0.win 8).blk t).view.emb (ix2 0 k) = (ix2 0 k : S1x1024.Idx) := by
    funext a; apply Fin.ext
    match a with
    | ⟨0, _⟩ => show win0_8.index t (0 : Fin 2) * 1 + 1 * 0 = 0; omega
    | ⟨1, _⟩ => show win0_8.index t (1 : Fin 2) * 1024 + 1 * k.val = k.val; omega
  refine (congrArg (extractStridedSlice S1x1024 ![1, 0] (arg m c main_arg10 : FVec Ideal S2x1024 .f32) slices_S2x1024_S1x1024_1_0) he).trans ?_
  pointwise

theorem idx9 : ∀ t : Fin cfg0.N, win0_9.index t (0 : Fin 2) = 0 ∧ win0_9.index t (1 : Fin 2) = 0 :=
  (by decide +kernel : ∀ t : Fin grid0.N, _)

theorem blk9 (c : Dev nD) (t : Fin cfg0.N) (k : Fin 1024) :
    iblk (F := Ideal) m c 9 t (ix2 0 k) = ((arg m c main_arg11 : FVec Ideal S2x1024 .f32) (ix2 1 k)) := by
  obtain ⟨e0, e1⟩ := idx9 t
  show V m c main_v49 (((cfg0.win 9).blk t).view.emb (ix2 0 k)) = _
  rw [V_v49]
  have he : ((cfg0.win 9).blk t).view.emb (ix2 0 k) = (ix2 0 k : S1x1024.Idx) := by
    funext a; apply Fin.ext
    match a with
    | ⟨0, _⟩ => show win0_9.index t (0 : Fin 2) * 1 + 1 * 0 = 0; omega
    | ⟨1, _⟩ => show win0_9.index t (1 : Fin 2) * 1024 + 1 * k.val = k.val; omega
  refine (congrArg (extractStridedSlice S1x1024 ![1, 0] (arg m c main_arg11 : FVec Ideal S2x1024 .f32) slices_S2x1024_S1x1024_1_0) he).trans ?_
  pointwise

theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)

theorem blk10 (c : Dev nD) (t : Fin cfg0.N) (g : Fin 8) (u v : Fin 128) :
    iblk (F := Ideal) m c 10 t (ix3 g u v) = ((arg m c main_arg12 : FVec Ideal S2x8x128x128 .f32) (ix4 1 g u v)) := by
  obtain ⟨e0, e1, e2⟩ := idx10 t
  show V m c main_v51 (((cfg0.win 10).blk t).view.emb (ix3 g u v)) = _
  rw [V_v51]
  have he : ((cfg0.win 10).blk t).view.emb (ix3 g u v) = (ix3 g u v : S8x128x128.Idx) := by
    funext a; apply Fin.ext
    match a with
    | ⟨0, _⟩ => show win0_10.index t (0 : Fin 3) * 8 + 1 * g.val = g.val; omega
    | ⟨1, _⟩ => show win0_10.index t (1 : Fin 3) * 128 + 1 * u.val = u.val; omega
    | ⟨2, _⟩ => show win0_10.index t (2 : Fin 3) * 128 + 1 * v.val = v.val; omega
  refine (congrArg (shapeCast S8x128x128 (extractStridedSlice S1x8x128x128 ![1, 0, 0, 0] (arg m c main_arg12 : FVec Ideal S2x8x128x128 .f32) slices_S2x8x128x128_S1x8x128x128_1_0_0_0) shapeCasts_S1x8x128x128_S8x128x128) he).trans ?_
  pointwise

theorem idx11 : ∀ t : Fin cfg0.N, win0_11.index t (0 : Fin 2) = 0 ∧ win0_11.index t (1 : Fin 2) = 0 :=
  (by decide +kernel : ∀ t : Fin grid0.N, _)

theorem blk11 (c : Dev nD) (t : Fin cfg0.N) (u : Fin 128) (k : Fin 1024) :
    iblk (F := Ideal) m c 11 t (ix2 u k) = ((arg m c main_arg13 : FVec Ideal S2x8x128 .f32) (ix3 1 (grp k) u)) := by
  obtain ⟨e0, e1⟩ := idx11 t
  show V m c main_v42 (((cfg0.win 11).blk t).view.emb (ix2 u k)) = _
  rw [V_v42]
  have he : ((cfg0.win 11).blk t).view.emb (ix2 u k) = (ix2 u k : S128x1024.Idx) := by
    funext a; apply Fin.ext
    match a with
    | ⟨0, _⟩ => show win0_11.index t (0 : Fin 2) * 128 + 1 * u.val = u.val; omega
    | ⟨1, _⟩ => show win0_11.index t (1 : Fin 2) * 1024 + 1 * k.val = k.val; omega
  refine (congrArg (shapeCast S128x1024 (broadcastInDim S128x8x128 ![0, 1] bcast_S128x8_S128x8x128_0_1 (transpose S128x8 [1, 0] (shapeCast S8x128 (extractStridedSlice S1x8x128 ![1, 0, 0] (arg m c main_arg13 : FVec Ideal S2x8x128 .f32) slices_S2x8x128_S1x8x128_1_0_0) shapeCasts_S1x8x128_S8x128) transposes_S8x128_S128x8_1_0)) shapeCasts_S128x8x128_S128x1024) he).trans ?_
  pointwise [grp]

theorem idx12 : ∀ t : Fin cfg0.N, win0_12.index t (0 : Fin 3) = 1 ∧ win0_12.index t (1 : Fin 3) = 0 ∧ win0_12.index t (2 : Fin 3) = 0 :=
  (by decide +kernel : ∀ t : Fin grid0.N, _)

theorem blk12 (c : Dev nD) (t : Fin cfg0.N) (k : Fin 1280) (e : Fin 1024) :
    iblk (F := Ideal) m c 12 t (ix3 0 k e) = ((arg m c main_arg14 : FVec Ideal S2x1280x1024 .f32) (ix3 1 k e)) := by
  obtain ⟨e0, e1, e2⟩ := idx12 t
  show V m c main_v2 (((cfg0.win 12).blk t).view.emb (ix3 0 k e)) = _
  rw [V_v2]
  have he : ((cfg0.win 12).blk t).view.emb (ix3 0 k e) = (ix3 1 k e : S2x1280x1024.Idx) := by
    funext a; apply Fin.ext
    match a with
    | ⟨0, _⟩ => show win0_12.index t (0 : Fin 3) * 1 + 1 * 0 = 1; omega
    | ⟨1, _⟩ => show win0_12.index t (1 : Fin 3) * 1280 + 1 * k.val = k.val; omega
    | ⟨2, _⟩ => show win0_12.index t (2 : Fin 3) * 1024 + 1 * e.val = e.val; omega
  refine (congrArg ((truncf .bf16 (arg m c main_arg14 : FVec Ideal S2x1280x1024 .f32) bitsLt_bf16_f32 : FVec Ideal S2x1280x1024 .bf16)) he).trans ?_
  rfl

theorem idx13 : ∀ t : Fin cfg0.N, win0_13.index t (0 : Fin 3) = 1 ∧ win0_13.index t (1 : Fin 3) = 0 ∧ win0_13.index t (2 : Fin 3) = 0 :=
  (by decide +kernel : ∀ t : Fin grid0.N, _)

theorem blk13 (c : Dev nD) (t : Fin cfg0.N) (k : Fin 1024) (e : Fin 1024) :
    iblk (F := Ideal) m c 13 t (ix3 0 k e) = ((arg m c main_arg15 : FVec Ideal S2x1024x1024 .f32) (ix3 1 k e)) := by
  obtain ⟨e0, e1, e2⟩ := idx13 t
  show V m c main_v3 (((cfg0.win 13).blk t).view.emb (ix3 0 k e)) = _
  rw [V_v3]
  have he : ((cfg0.win 13).blk t).view.emb (ix3 0 k e) = (ix3 1 k e : S2x1024x1024.Idx) := by
    funext a; apply Fin.ext
    match a with
    | ⟨0, _⟩ => show win0_13.index t (0 : Fin 3) * 1 + 1 * 0 = 1; omega
    | ⟨1, _⟩ => show win0_13.index t (1 : Fin 3) * 1024 + 1 * k.val = k.val; omega
    | ⟨2, _⟩ => show win0_13.index t (2 : Fin 3) * 1024 + 1 * e.val = e.val; omega
  refine (congrArg ((truncf .bf16 (arg m c main_arg15 : FVec Ideal S2x1024x1024 .f32) bitsLt_bf16_f32 : FVec Ideal S2x1024x1024 .bf16)) he).trans ?_
  rfl

theorem idx14 : ∀ t : Fin cfg0.N, win0_14.index t (0 : Fin 3) = 1 ∧ win0_14.index t (1 : Fin 3) = 0 ∧ win0_14.index t (2 : Fin 3) = 0 :=
  (by decide +kernel : ∀ t : Fin grid0.N, _)

theorem blk14 (c : Dev nD) (t : Fin cfg0.N) (k : Fin 1024) (e : Fin 1024) :
    iblk (F := Ideal) m c 14 t (ix3 0 k e) = ((arg m c main_arg16 : FVec Ideal S2x1024x1024 .f32) (ix3 1 k e)) := by
  obtain ⟨e0, e1, e2⟩ := idx14 t
  show V m c main_v4 (((cfg0.win 14).blk t).view.emb (ix3 0 k e)) = _
  rw [V_v4]
  have he : ((cfg0.win 14).blk t).view.emb (ix3 0 k e) = (ix3 1 k e : S2x1024x1024.Idx) := by
    funext a; apply Fin.ext
    match a with
    | ⟨0, _⟩ => show win0_14.index t (0 : Fin 3) * 1 + 1 * 0 = 1; omega
    | ⟨1, _⟩ => show win0_14.index t (1 : Fin 3) * 1024 + 1 * k.val = k.val; omega
    | ⟨2, _⟩ => show win0_14.index t (2 : Fin 3) * 1024 + 1 * e.val = e.val; omega
  refine (congrArg ((truncf .bf16 (arg m c main_arg16 : FVec Ideal S2x1024x1024 .f32) bitsLt_bf16_f32 : FVec Ideal S2x1024x1024 .bf16)) he).trans ?_
  rfl

end Cert.Layer.Mix

end
-- ==== Proof.MixReads.lean ====
/- A grid point's operands are the layer's weights and the tokens of its tile. -/
module

public import proofs.«01_k».proof.Proof.MixHost
public import Idealize.ShloMosaic.Lib.Pipeline.ValueKit.Tiles

@[expose] public section

set_option maxRecDepth 16384

noncomputable section

namespace Cert.Layer.Mix

open Cert.KernelIdeal Cert.KernelIdeal.Gen Cert.KernelIdeal.Value Idealize.ShloMosaic Idealize.ShloMosaic.TcCoe
open Idealize.SL.Sem
open Idealize.ShloMosaic.Pointwise

variable (m : (ℓ : Loc nD τ Cert.KernelIdeal.sig) → Buf (Elt Ideal) ℓ)

/-- The second layer's weights. -/
def WK (c : Dev nD) : Wts where
  g k := (arg m c main_arg1 : FVec Ideal S2x1024 .f32) (ix2 1 k)
  win k e := (arg m c main_arg2 : FVec Ideal S2x1024x6656 .f32) (ix3 1 k e)
  cw k e := (arg m c main_arg3 : FVec Ideal S2x4x1280 .f32) (ix3 1 k e)
  cb e := (arg m c main_arg4 : FVec Ideal S2x1280 .f32) (ix2 1 e)
  wr h i e := (arg m c main_arg5 : FVec Ideal S2x20x64x64 .f32) (ix4 1 h i e)
  br h e := (arg m c main_arg6 : FVec Ideal S2x20x64 .f32) (ix3 1 h e)
  wi h i e := (arg m c main_arg7 : FVec Ideal S2x20x64x64 .f32) (ix4 1 h i e)
  bi h e := (arg m c main_arg8 : FVec Ideal S2x20x64 .f32) (ix3 1 h e)
  lam e := (arg m c main_arg9 : FVec Ideal S2x1280 .f32) (ix2 1 e)
  lng k := (arg m c main_arg10 : FVec Ideal S2x1024 .f32) (ix2 1 k)
  lnb k := (arg m c main_arg11 : FVec Ideal S2x1024 .f32) (ix2 1 k)
  ws g t s := (arg m c main_arg12 : FVec Ideal S2x8x128x128 .f32) (ix4 1 g t s)
  bs g t := (arg m c main_arg13 : FVec Ideal S2x8x128 .f32) (ix3 1 g t)
  wa e d := (arg m c main_arg14 : FVec Ideal S2x1280x1024 .f32) (ix3 1 e d)
  wb k d := (arg m c main_arg15 : FVec Ideal S2x1024x1024 .f32) (ix3 1 k d)
  wo k d := (arg m c main_arg16 : FVec Ideal S2x1024x1024 .f32) (ix3 1 k d)

/-- The rows of sequence `b`. -/
def XK (c : Dev nD) (b p : ℕ) (k : Fin 1024) : EReal :=
  if h : b < 4 ∧ p < 4096 then (arg m c main_arg0 : FVec Ideal S4x4096x1024 .f32) (ix3 ⟨b, h.1⟩ ⟨p, h.2⟩ k) else 0

/-- A grid point's operands. -/
abbrev ldsK (c : Dev nD) (t : Fin cfg0.N) : Lds Ideal :=
  lds (iblk (F := Ideal) m c 0 t) (iblk (F := Ideal) m c 1 t) (iblk (F := Ideal) m c 2 t) (iblk (F := Ideal) m c 3 t)
    (iblk (F := Ideal) m c 4 t) (iblk (F := Ideal) m c 5 t) (iblk (F := Ideal) m c 6 t) (iblk (F := Ideal) m c 7 t)
    (iblk (F := Ideal) m c 8 t) (iblk (F := Ideal) m c 9 t) (iblk (F := Ideal) m c 10 t) (iblk (F := Ideal) m c 11 t)
    (iblk (F := Ideal) m c 12 t) (iblk (F := Ideal) m c 13 t) (iblk (F := Ideal) m c 14 t)

theorem ldCols (x : FVec Ideal S1x1024x6656 .bf16) (n o : ℕ) (inb) (k : Fin 1024) (e : Fin n) (h : o + e.val < 6656) :
    View.ld (Val := Elt Ideal) (e' := .bf16) x (Rect.unit ![0, 0, o] ![1, 1024, n] inb) (ix3 0 k e) = x (ix3 0 k ⟨o + e.val, h⟩) :=
  View.ld_unit_apply_of _ _ _ _ _ _ (fun a => match a with
    | ⟨0, _⟩ => rfl
    | ⟨1, _⟩ => by show k.val = 0 + k.val; omega
    | ⟨2, _⟩ => rfl)

theorem ldRow (x : FVec Ideal S4x1280 .f32) (k : Fin 4) (e : Fin 1280) (inb) :
    View.ld (Val := Elt Ideal) (e' := .f32) x (Rect.unit ![k.val, 0] ![1, 1280] inb) (ix2 0 e) = x (ix2 k e) :=
  View.ld_unit_apply_of _ _ _ _ _ _ (fun a => match a with
    | ⟨0, _⟩ => rfl
    | ⟨1, _⟩ => by show e.val = 0 + e.val; omega)

theorem ldGw (x : FVec Ideal S5x256x512 .bf16) (b : Fin 5) (k : Fin 256) (j : Fin 512) (inb) :
    View.ld (Val := Elt Ideal) (e' := .bf16) x (Rect.unit ![b.val, 0, 0] ![1, 256, 512] inb) (ix3 0 k j) = x (ix3 b k j) :=
  View.ld_unit_apply_of _ _ _ _ _ _ (fun a => match a with
    | ⟨0, _⟩ => rfl
    | ⟨1, _⟩ => by show k.val = 0 + k.val; omega
    | ⟨2, _⟩ => by show j.val = 0 + j.val; omega)

theorem ldGb (x : FVec Ideal S5x1x512 .f32) (b : Fin 5) (j : Fin 512) (inb) :
    View.ld (Val := Elt Ideal) (e' := .f32) x (Rect.unit ![b.val, 0, 0] ![1, 1, 512] inb) (ix3 0 0 j) = x (ix3 b 0 j) :=
  View.ld_unit_apply_of _ _ _ _ _ _ (fun a => match a with
    | ⟨0, _⟩ => rfl
    | ⟨1, _⟩ => rfl
    | ⟨2, _⟩ => by show j.val = 0 + j.val; omega)

theorem ldWs (x : FVec Ideal S8x128x128 .f32) (b : Fin 8) (k j : Fin 128) (inb) :
    View.ld (Val := Elt Ideal) (e' := .f32) x (Rect.unit ![b.val, 0, 0] ![1, 128, 128] inb) (ix3 0 k j) = x (ix3 b k j) :=
  View.ld_unit_apply_of _ _ _ _ _ _ (fun a => match a with
    | ⟨0, _⟩ => rfl
    | ⟨1, _⟩ => by show k.val = 0 + k.val; omega
    | ⟨2, _⟩ => by show j.val = 0 + j.val; omega)

/-- What the operands' entries are makes them a tile's readings. -/
theorem reads_of (W : Wts) (X : ℕ → Fin 1024 → EReal) (B : ℕ)
    (x0 : FVec Ideal S512x1024 .f32) (x1 : FVec Ideal S1x1024 .f32) (x2 : FVec Ideal S1x1024x6656 .bf16)
    (x3 : FVec Ideal S4x1280 .f32) (x4 : FVec Ideal S1x1280 .f32) (x5 : FVec Ideal S5x256x512 .bf16)
    (x6 : FVec Ideal S5x1x512 .f32) (x7 : FVec Ideal S1x1280 .f32) (x8 x9 : FVec Ideal S1x1024 .f32)
    (x10 : FVec Ideal S8x128x128 .f32) (x11 : FVec Ideal S128x1024 .f32) (x12 : FVec Ideal S1x1280x1024 .bf16)
    (x13 x14 : FVec Ideal S1x1024x1024 .bf16)
    (h0 : ∀ (r : Fin 512) k, x0 (ix2 r k) = X (B + r.val) k) (h1 : ∀ k, x1 (ix2 0 k) = W.g k)
    (h2 : ∀ k e, x2 (ix3 0 k e) = W.win k e) (h3 : ∀ k e, x3 (ix2 k e) = W.cw k e) (h4 : ∀ e, x4 (ix2 0 e) = W.cb e)
    (h5r : ∀ b (k j : Fin 256), x5 (ix3 b k ⟨j.val, by have := j.isLt; omega⟩)
      = if k.val / 64 = j.val / 64 then W.wr (hd (col b j)) ⟨k.val % 64, by omega⟩ (hi (col b j)) else 0)
    (h5i : ∀ b (k j : Fin 256), x5 (ix3 b k ⟨256 + j.val, by have := j.isLt; omega⟩)
      = if k.val / 64 = j.val / 64 then W.wi (hd (col b j)) ⟨k.val % 64, by omega⟩ (hi (col b j)) else 0)
    (h6r : ∀ b (j : Fin 256), x6 (ix3 b 0 ⟨j.val, by have := j.isLt; omega⟩) = W.br (hd (col b j)) (hi (col b j)))
    (h6i : ∀ b (j : Fin 256), x6 (ix3 b 0 ⟨256 + j.val, by have := j.isLt; omega⟩) = W.bi (hd (col b j)) (hi (col b j)))
    (h7 : ∀ e, x7 (ix2 0 e) = W.lam e) (h8 : ∀ k, x8 (ix2 0 k) = W.lng k) (h9 : ∀ k, x9 (ix2 0 k) = W.lnb k)
    (h10 : ∀ g t s, x10 (ix3 g t s) = W.ws g t s) (h11 : ∀ t c, x11 (ix2 t c) = W.bs (grp c) t)
    (h12 : ∀ e d, x12 (ix3 0 e d) = W.wa e d) (h13 : ∀ k d, x13 (ix3 0 k d) = W.wb k d)
    (h14 : ∀ k d, x14 (ix3 0 k d) = W.wo k d) :
    Reads (lds x0 x1 x2 x3 x4 x5 x6 x7 x8 x9 x10 x11 x12 x13 x14) W X B where
  x := h0
  g := h1
  wx k e := (ldCols _ 1280 0 _ k e (by have := e.isLt; omega)).trans ((h2 k _).trans (congrArg (W.win k) (Fin.ext (Nat.zero_add _))))
  wv k e := (ldCols _ 1024 3584 _ k e (by have := e.isLt; omega)).trans (h2 k _)
  wu k e := (ldCols _ 1024 2560 _ k e (by have := e.isLt; omega)).trans (h2 k _)
  wg b k e := (ldCols _ 256 (1280 + 256 * b.val) _ k e (by have := b.isLt; have := e.isLt; omega)).trans
    ((h2 k _).trans (congrArg (W.win k) (Fin.ext (Nat.add_assoc _ _ _))))
  wt b k e := (ldCols _ 256 (4608 + 256 * b.val) _ k e (by have := b.isLt; have := e.isLt; omega)).trans
    ((h2 k _).trans (congrArg (W.win k) (Fin.ext (Nat.add_assoc _ _ _))))
  cb := h4
  cw k e := (ldRow _ k e _).trans (h3 k e)
  gwr b k j := (ldGw _ b k _ _).trans (h5r b k j)
  gwi b k j := (ldGw _ b k _ _).trans (h5i b k j)
  gbr b j := (ldGb _ b _ _).trans (h6r b j)
  gbi b j := (ldGb _ b _ _).trans (h6i b j)
  lam := h7
  lng := h8
  lnb := h9
  ws g u v := (ldWs _ g u v _).trans (h10 g u v)
  bs := h11
  wa := h12
  wb := h13
  wo := h14

theorem x_blk (c : Dev nD) (t : Fin cfg0.N) (r : Fin 512) (k : Fin 1024) :
    (iblk (F := Ideal) m c 0 t : FVec Ideal S512x1024 .f32) (ix2 r k) = XK m c (t.val / 8) (512 * (t.val % 8) + r.val) k := by
  have ht : t.val < 32 := t.isLt
  have hr := r.isLt
  refine (blk0 m c t r k).trans ?_
  unfold XK
  rw [dif_pos ⟨by omega, by omega⟩]
  refine congrArg _ (funext fun a => Fin.ext ?_)
  match a with
  | ⟨0, _⟩ => show (t.val * 512 + r.val) / 4096 = t.val / 8; omega
  | ⟨1, _⟩ => show (t.val * 512 + r.val) % 4096 = 512 * (t.val % 8) + r.val; omega
  | ⟨2, _⟩ => rfl

theorem gr_blk (c : Dev nD) (t : Fin cfg0.N) (b : Fin 5) (k j : Fin 256) :
    (iblk (F := Ideal) m c 5 t : FVec Ideal S5x256x512 .bf16) (ix3 b k ⟨j.val, by have := j.isLt; omega⟩)
      = if k.val / 64 = j.val / 64 then (WK m c).wr (hd (col b j)) ⟨k.val % 64, by omega⟩ (hi (col b j)) else 0 := by
  have hj := j.isLt
  refine (blk5 m c t b k _).trans ((dif_pos hj).trans ((bdK_apply _ _ _ _).trans ?_))
  rw [wgK_apply]; rfl

theorem gi_blk (c : Dev nD) (t : Fin cfg0.N) (b : Fin 5) (k j : Fin 256) :
    (iblk (F := Ideal) m c 5 t : FVec Ideal S5x256x512 .bf16) (ix3 b k ⟨256 + j.val, by have := j.isLt; omega⟩)
      = if k.val / 64 = j.val / 64 then (WK m c).wi (hd (col b j)) ⟨k.val % 64, by omega⟩ (hi (col b j)) else 0 := by
  have hj := j.isLt
  have e : (⟨256 + j.val - 256, by omega⟩ : Fin 256) = j := Fin.ext (by show 256 + j.val - 256 = j.val; omega)
  refine (blk5 m c t b k _).trans ((dif_neg (show ¬256 + j.val < 256 by omega)).trans
    ((congrArg (fun j => bdK _ (ix3 b k j)) e).trans ((bdK_apply _ _ _ _).trans ?_)))
  rw [wgK_apply]; rfl

theorem br_blk (c : Dev nD) (t : Fin cfg0.N) (b : Fin 5) (j : Fin 256) :
    (iblk (F := Ideal) m c 6 t : FVec Ideal S5x1x512 .f32) (ix3 b 0 ⟨j.val, by have := j.isLt; omega⟩)
      = (WK m c).br (hd (col b j)) (hi (col b j)) :=
  (blk6 m c t b _).trans ((dif_pos j.isLt).trans (bgK_apply _ b j))

theorem bi_blk (c : Dev nD) (t : Fin cfg0.N) (b : Fin 5) (j : Fin 256) :
    (iblk (F := Ideal) m c 6 t : FVec Ideal S5x1x512 .f32) (ix3 b 0 ⟨256 + j.val, by have := j.isLt; omega⟩)
      = (WK m c).bi (hd (col b j)) (hi (col b j)) := by
  have hj := j.isLt
  have e : (⟨256 + j.val - 256, by omega⟩ : Fin 256) = j := Fin.ext (by show 256 + j.val - 256 = j.val; omega)
  exact (blk6 m c t b _).trans ((dif_neg (show ¬256 + j.val < 256 by omega)).trans
    ((congrArg (fun j => bgK _ (ix3 b 0 j)) e).trans (bgK_apply _ b j)))

/-- A grid point reads the layer's weights, and 512 rows of its sequence. -/
theorem reads (c : Dev nD) (t : Fin cfg0.N) :
    Reads (ldsK m c t) (WK m c) (XK m c (t.val / 8)) (512 * (t.val % 8)) :=
  reads_of _ _ _ _ _ _ _ _ _ _ _ _ _ _ _ _ _ _ (x_blk m c t) (blk1 m c t) (blk2 m c t) (blk3 m c t) (blk4 m c t)
    (gr_blk m c t) (gi_blk m c t) (br_blk m c t) (bi_blk m c t) (blk7 m c t) (blk8 m c t) (blk9 m c t) (blk10 m c t)
    (blk11 m c t) (blk12 m c t) (blk13 m c t) (blk14 m c t)

end Cert.Layer.Mix

end
-- ==== Proof.MixRun.lean ====
/- The kernel's runs at a grid point, as the functions of Proof/MixTile.lean: the block it stores, and what it leaves
   in the two carried buffers. -/
module

public import proofs.«01_k».proof.Proof.MixTile

@[expose] public section

noncomputable section

namespace Cert.Layer.Mix

open Cert.KernelIdeal Cert.KernelIdeal.Gen Cert.KernelIdeal.Value Idealize.ShloMosaic Idealize.ShloMosaic.TcCoe
open Idealize.SL.Sem

variable {F : FTy → Type} [FloatOps F] [Named F]
variable (c : Dev nD) (i : grid0.Coords) (hc0 : cond0_0 i) (hn0 : ¬cond0_0 i) (arg1 : Memref sig .tc .vmem S512x1024 .f32) (harg1 : arg1.IsWhole) (arg2 : Memref sig .tc .vmem S1x1024 .f32) (harg2 : arg2.IsWhole) (arg3 : Memref sig .tc .vmem S1x1024x6656 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S5x256x512 .bf16) (harg6 : arg6.IsWhole) (arg7 : Memref sig .tc .vmem S5x1x512 .f32) (harg7 : arg7.IsWhole) (arg8 : Memref sig .tc .vmem S1x1280 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S1x1280x1024 .bf16) (harg13 : arg13.IsWhole) (arg14 : Memref sig .tc .vmem S1x1024x1024 .bf16) (harg14 : arg14.IsWhole) (arg15 : Memref sig .tc .vmem S1x1024x1024 .bf16) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S24x1280 .f32) (harg19 : arg19.IsWhole) (arg20 : Memref sig .tc .vmem S8x1280 .f32) (harg20 : arg20.IsWhole)
  (x0 : Vec F S512x1024 .f32) (x1 : Vec F S1x1024 .f32) (x2 : Vec F S1x1024x6656 .bf16) (x3 : Vec F S4x1280 .f32) (x4 : Vec F S1x1280 .f32) (x5 : Vec F S5x256x512 .bf16) (x6 : Vec F S5x1x512 .f32) (x7 : Vec F S1x1280 .f32) (x8 : Vec F S1x1024 .f32) (x9 : Vec F S1x1024 .f32) (x10 : Vec F S8x128x128 .f32) (x11 : Vec F S128x1024 .f32) (x12 : Vec F S1x1280x1024 .bf16) (x13 : Vec F S1x1024x1024 .bf16) (x14 : Vec F S1x1024x1024 .bf16) (xs2 : Vec F S24x1280 .f32) (xs3 : Vec F S8x1280 .f32)

/-- The loads as the run states them. -/
def rawLds : Lds F where
  x := (View.readAt (Elt F) arg1.view (Rect.unit ![0, 0] S512x1024.size inb_S512x1024_S512x1024_0_0 : Rect S512x1024).toLoadRect (harg1.unread x0))
  g := (View.readAt (Elt F) arg2.view (Rect.unit ![0, 0] S1x1024.size inb_S1x1024_S1x1024_0_0 : Rect S1x1024).toLoadRect (harg2.unread x1))
  wx := (View.readAt (Elt F) arg3.view (Rect.unit ![0, 0, 0] S1x1024x1280.size inb_S1x1024x6656_S1x1024x1280_0_0_0 : Rect S1x1024x6656).toLoadRect (harg3.unread x2))
  wv := (View.readAt (Elt F) arg3.view (Rect.unit ![0, 0, 3584] S1x1024x1024.size inb_S1x1024x6656_S1x1024x1024_0_0_3584 : Rect S1x1024x6656).toLoadRect (harg3.unread x2))
  wu := (View.readAt (Elt F) arg3.view (Rect.unit ![0, 0, 2560] S1x1024x1024.size inb_S1x1024x6656_S1x1024x1024_0_0_2560 : Rect S1x1024x6656).toLoadRect (harg3.unread x2))
  wg b := View.readAt (Elt F) arg3.view (Rect.unit ![0, 0, 1280 + 256 * b.val] S1x1024x256.size (inbG b) : Rect S1x1024x6656).toLoadRect (harg3.unread x2)
  wt b := View.readAt (Elt F) arg3.view (Rect.unit ![0, 0, 4608 + 256 * b.val] S1x1024x256.size (inbT b) : Rect S1x1024x6656).toLoadRect (harg3.unread x2)
  cb := (View.readAt (Elt F) arg5.view (Rect.unit ![0, 0] S1x1280.size inb_S1x1280_S1x1280_0_0 : Rect S1x1280).toLoadRect (harg5.unread x4))
  cw k := View.readAt (Elt F) arg4.view (Rect.unit ![k.val, 0] S1x1280.size (inbC k) : Rect S4x1280).toLoadRect (harg4.unread x3)
  gw b := View.readAt (Elt F) arg6.view (Rect.unit ![b.val, 0, 0] S1x256x512.size (inbW b) : Rect S5x256x512).toLoadRect (harg6.unread x5)
  gb b := View.readAt (Elt F) arg7.view (Rect.unit ![b.val, 0, 0] S1x1x512.size (inbB b) : Rect S5x1x512).toLoadRect (harg7.unread x6)
  lam := (View.readAt (Elt F) arg8.view (Rect.unit ![0, 0] S1x1280.size inb_S1x1280_S1x1280_0_0 : Rect S1x1280).toLoadRect (harg8.unread x7))
  lng := (View.readAt (Elt F) arg9.view (Rect.unit ![0, 0] S1x1024.size inb_S1x1024_S1x1024_0_0 : Rect S1x1024).toLoadRect (harg9.unread x8))
  lnb := (View.readAt (Elt F) arg10.view (Rect.unit ![0, 0] S1x1024.size inb_S1x1024_S1x1024_0_0 : Rect S1x1024).toLoadRect (harg10.unread x9))
  ws g := View.readAt (Elt F) arg11.view (Rect.unit ![g.val, 0, 0] S1x128x128.size (inbS g) : Rect S8x128x128).toLoadRect (harg11.unread x10)
  bs := (View.readAt (Elt F) arg12.view (Rect.unit ![0, 0] S128x1024.size inb_S128x1024_S128x1024_0_0 : Rect S128x1024).toLoadRect (harg12.unread x11))
  wa := (View.readAt (Elt F) arg13.view (Rect.unit ![0, 0, 0] S1x1280x1024.size inb_S1x1280x1024_S1x1280x1024_0_0_0 : Rect S1x1280x1024).toLoadRect (harg13.unread x12))
  wb := (View.readAt (Elt F) arg14.view (Rect.unit ![0, 0, 0] S1x1024x1024.size inb_S1x1024x1024_S1x1024x1024_0_0_0 : Rect S1x1024x1024).toLoadRect (harg14.unread x13))
  wo := (View.readAt (Elt F) arg15.view (Rect.unit ![0, 0, 0] S1x1024x1024.size inb_S1x1024x1024_S1x1024x1024_0_0_0 : Rect S1x1024x1024).toLoadRect (harg15.unread x14))

theorem hz2 : (![0, 0] : Fin 2 → Nat) = fun _ => 0 := funext fun a => by fin_cases a <;> rfl
theorem hz3 : (![0, 0, 0] : Fin 3 → Nat) = fun _ => 0 := funext fun a => by fin_cases a <;> rfl

theorem rawLds_eq : rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 = lds x0 x1 x2 x3 x4 x5 x6 x7 x8 x9 x10 x11 x12 x13 x14 := by
  simp only [rawLds, lds, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp only [View.ld_unit_zero (S := S512x1024) hz2, View.ld_unit_zero (S := S1x1024) hz2, View.ld_unit_zero (S := S1x1280) hz2,
    View.ld_unit_zero (S := S128x1024) hz2, View.ld_unit_zero (S := S1x1280x1024) hz3, View.ld_unit_zero (S := S1x1024x1024) hz3]
theorem r_xA : (kernelRun0_A.sl.v14 c arg1 harg1 x0)
    = k0_pay4 (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).x := by
  rfl

theorem r_uA : (kernelRun0_A.sl.v138 c arg1 harg1 arg2 harg2 arg3 harg3 arg17 x0 x1 x2)
    = k0_pay18 (kernelRun0_A.sl.v44 c arg1 harg1 arg2 harg2 arg17 x0 x1) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wu := by
  rfl

theorem r_gaA : (kernelRun0_A.sl.r_19 c arg1 harg1 arg2 harg2 arg3 harg3 arg17 x0 x1 x2)
    = gateCat fun j => k0_pay24 (kernelRun0_A.sl.v44 c arg1 harg1 arg2 harg2 arg17 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wt ⟨j.val, by have := j.isLt; omega⟩) := by
  rfl

theorem r_gbA : (kernelRun0_A.sl.r_20 c arg1 harg1 arg2 harg2 arg3 harg3 arg17 x0 x1 x2)
    = gateCat fun j => k0_pay24 (kernelRun0_A.sl.v44 c arg1 harg1 arg2 harg2 arg17 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wt ⟨j.val + 4, by have := j.isLt; omega⟩) := by
  rfl

theorem r_cuA : (kernelRun0_A.sl.r_22 c arg1 harg1 arg2 harg2 arg3 harg3 arg17 x0 x1 x2)
    = k0_pay1127 (k0_pay18 (kernelRun0_A.sl.v44 c arg1 harg1 arg2 harg2 arg17 x0 x1) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wu) := by
  rfl

theorem r_vA : (kernelRun0_A.sl.v134 c arg1 harg1 arg2 harg2 arg3 harg3 arg9 harg9 arg10 harg10 arg17 x0 x1 x2 x8 x9)
    = k0_pay17 (k0_pay15 (k0_pay10 (kernelRun0_A.sl.v44 c arg1 harg1 arg2 harg2 arg17 x0 x1) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wv)) (k0_pay16 (k0_pay10 (kernelRun0_A.sl.v44 c arg1 harg1 arg2 harg2 arg17 x0 x1) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wv)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).lng (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).lnb := by
  rfl

set_option maxHeartbeats 1000000 in
theorem r_m0A : (kernelRun0_A.sl.v2373 c arg1 harg1 arg2 harg2 arg3 harg3 arg9 harg9 arg10 harg10 arg11 harg11 arg12 harg12 arg17 x0 x1 x2 x8 x9 x10 x11)
    = mixBlk (kernelRun0_A.sl.v134 c arg1 harg1 arg2 harg2 arg3 harg3 arg9 harg9 arg10 harg10 arg17 x0 x1 x2 x8 x9) (fun g => wsm ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).ws g)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).bs 0 := by
  rfl

set_option maxHeartbeats 1000000 in
theorem r_m1A : (kernelRun0_A.sl.v2393 c arg1 harg1 arg2 harg2 arg3 harg3 arg9 harg9 arg10 harg10 arg11 harg11 arg12 harg12 arg17 x0 x1 x2 x8 x9 x10 x11)
    = mixBlk (kernelRun0_A.sl.v134 c arg1 harg1 arg2 harg2 arg3 harg3 arg9 harg9 arg10 harg10 arg17 x0 x1 x2 x8 x9) (fun g => wsm ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).ws g)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).bs 1 := by
  rfl

set_option maxHeartbeats 1000000 in
theorem r_m2A : (kernelRun0_A.sl.v2413 c arg1 harg1 arg2 harg2 arg3 harg3 arg9 harg9 arg10 harg10 arg11 harg11 arg12 harg12 arg17 x0 x1 x2 x8 x9 x10 x11)
    = mixBlk (kernelRun0_A.sl.v134 c arg1 harg1 arg2 harg2 arg3 harg3 arg9 harg9 arg10 harg10 arg17 x0 x1 x2 x8 x9) (fun g => wsm ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).ws g)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).bs 2 := by
  rfl

set_option maxHeartbeats 1000000 in
theorem r_m3A : (kernelRun0_A.sl.v2433 c arg1 harg1 arg2 harg2 arg3 harg3 arg9 harg9 arg10 harg10 arg11 harg11 arg12 harg12 arg17 x0 x1 x2 x8 x9 x10 x11)
    = mixBlk (kernelRun0_A.sl.v134 c arg1 harg1 arg2 harg2 arg3 harg3 arg9 harg9 arg10 harg10 arg17 x0 x1 x2 x8 x9) (fun g => wsm ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).ws g)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).bs 3 := by
  rfl

theorem r_mxA : (kernelRun0_A.sl.v2434 c arg1 harg1 arg2 harg2 arg3 harg3 arg9 harg9 arg10 harg10 arg11 harg11 arg12 harg12 arg17 x0 x1 x2 x8 x9 x10 x11)
    = mixed (k0_pay17 (k0_pay15 (k0_pay10 (kernelRun0_A.sl.v44 c arg1 harg1 arg2 harg2 arg17 x0 x1) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wv)) (k0_pay16 (k0_pay10 (kernelRun0_A.sl.v44 c arg1 harg1 arg2 harg2 arg17 x0 x1) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wv)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).lng (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).lnb) (fun g => wsm ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).ws g)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).bs := by
  rw [← r_vA]; unfold kernelRun0_A.sl.v2434; rw [r_m0A, r_m1A, r_m2A, r_m3A]; rfl

theorem r_xrA : (kernelRun0_A.sl.r_1 c arg1 harg1 arg2 harg2 arg3 harg3 arg4 harg4 arg5 harg5 arg18 arg19 x0 x1 x2 x3 x4)
    = tileXr (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) := by
  rfl

set_option maxHeartbeats 1000000 in
theorem r_y0A : (kernelRun0_A.sl.r_5 c arg1 harg1 arg2 harg2 arg3 harg3 arg4 harg4 arg5 harg5 arg6 harg6 arg7 harg7 arg8 harg8 arg18 arg19 arg20 x0 x1 x2 x3 x4 x5 x6 x7)
    = blkYa (blkA 0 (kernelRun0_A.sl.r_1 c arg1 harg1 arg2 harg2 arg3 harg3 arg4 harg4 arg5 harg5 arg18 arg19 x0 x1 x2 x3 x4) (kernelRun0_A.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 0) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 0)) (blkU 0 (kernelRun0_A.sl.r_1 c arg1 harg1 arg2 harg2 arg3 harg3 arg4 harg4 arg5 harg5 arg18 arg19 x0 x1 x2 x3 x4) (kernelRun0_A.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 0) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 0)) (k0_pay23 (kernelRun0_A.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 0)) (![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 0) := by
  rfl

set_option maxHeartbeats 1000000 in
theorem r_y1A : (kernelRun0_A.sl.r_8 c arg1 harg1 arg2 harg2 arg3 harg3 arg4 harg4 arg5 harg5 arg6 harg6 arg7 harg7 arg8 harg8 arg18 arg19 arg20 x0 x1 x2 x3 x4 x5 x6 x7)
    = blkYa (blkA 1 (kernelRun0_A.sl.r_1 c arg1 harg1 arg2 harg2 arg3 harg3 arg4 harg4 arg5 harg5 arg18 arg19 x0 x1 x2 x3 x4) (kernelRun0_A.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 1)) (blkU 1 (kernelRun0_A.sl.r_1 c arg1 harg1 arg2 harg2 arg3 harg3 arg4 harg4 arg5 harg5 arg18 arg19 x0 x1 x2 x3 x4) (kernelRun0_A.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 1)) (k0_pay23 (kernelRun0_A.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 1)) (![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 1) := by
  rfl

set_option maxHeartbeats 1000000 in
theorem r_y2A : (kernelRun0_A.sl.r_11 c arg1 harg1 arg2 harg2 arg3 harg3 arg4 harg4 arg5 harg5 arg6 harg6 arg7 harg7 arg8 harg8 arg18 arg19 arg20 x0 x1 x2 x3 x4 x5 x6 x7)
    = blkYa (blkA 2 (kernelRun0_A.sl.r_1 c arg1 harg1 arg2 harg2 arg3 harg3 arg4 harg4 arg5 harg5 arg18 arg19 x0 x1 x2 x3 x4) (kernelRun0_A.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 2) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 2)) (blkU 2 (kernelRun0_A.sl.r_1 c arg1 harg1 arg2 harg2 arg3 harg3 arg4 harg4 arg5 harg5 arg18 arg19 x0 x1 x2 x3 x4) (kernelRun0_A.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 2) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 2)) (k0_pay23 (kernelRun0_A.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 2)) (![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 2) := by
  rfl

set_option maxHeartbeats 1000000 in
theorem r_y3A : (kernelRun0_A.sl.r_15 c arg1 harg1 arg2 harg2 arg3 harg3 arg4 harg4 arg5 harg5 arg6 harg6 arg7 harg7 arg8 harg8 arg18 arg19 arg20 x0 x1 x2 x3 x4 x5 x6 x7)
    = blkYa (blkA 3 (kernelRun0_A.sl.r_1 c arg1 harg1 arg2 harg2 arg3 harg3 arg4 harg4 arg5 harg5 arg18 arg19 x0 x1 x2 x3 x4) (kernelRun0_A.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 3) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 3)) (blkU 3 (kernelRun0_A.sl.r_1 c arg1 harg1 arg2 harg2 arg3 harg3 arg4 harg4 arg5 harg5 arg18 arg19 x0 x1 x2 x3 x4) (kernelRun0_A.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 3) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 3)) (k0_pay23 (kernelRun0_A.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 3)) (![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 3) := by
  rfl

set_option maxHeartbeats 1000000 in
theorem r_y4A : (kernelRun0_A.sl.r_18 c arg1 harg1 arg2 harg2 arg3 harg3 arg4 harg4 arg5 harg5 arg6 harg6 arg7 harg7 arg8 harg8 arg18 arg19 arg20 x0 x1 x2 x3 x4 x5 x6 x7)
    = blkYa (blkA 4 (kernelRun0_A.sl.r_1 c arg1 harg1 arg2 harg2 arg3 harg3 arg4 harg4 arg5 harg5 arg18 arg19 x0 x1 x2 x3 x4) (kernelRun0_A.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 4) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 4)) (blkU 4 (kernelRun0_A.sl.r_1 c arg1 harg1 arg2 harg2 arg3 harg3 arg4 harg4 arg5 harg5 arg18 arg19 x0 x1 x2 x3 x4) (kernelRun0_A.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 4) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 4)) (k0_pay23 (kernelRun0_A.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 4)) (![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 4) := by
  rfl

theorem r_rtA : (kernelRun0_A.sl.v152 c arg8 harg8 x7)
    = k0_pay19 (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).lam := by
  rfl

theorem r_t0A : (kernelRun0_A.sl.r_5 c arg1 harg1 arg2 harg2 arg3 harg3 arg4 harg4 arg5 harg5 arg6 harg6 arg7 harg7 arg8 harg8 arg18 arg19 arg20 x0 x1 x2 x3 x4 x5 x6 x7)
    = blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) 0) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) 0) (k0_pay23 (kernelRun0_A.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 0)) (![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 0) := by
  rw [r_y0A, r_xrA, r_rtA]; rfl

theorem r_t1A : (kernelRun0_A.sl.r_8 c arg1 harg1 arg2 harg2 arg3 harg3 arg4 harg4 arg5 harg5 arg6 harg6 arg7 harg7 arg8 harg8 arg18 arg19 arg20 x0 x1 x2 x3 x4 x5 x6 x7)
    = blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) 1) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) 1) (k0_pay23 (kernelRun0_A.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 1)) (![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 1) := by
  rw [r_y1A, r_xrA, r_rtA]; rfl

theorem r_t2A : (kernelRun0_A.sl.r_11 c arg1 harg1 arg2 harg2 arg3 harg3 arg4 harg4 arg5 harg5 arg6 harg6 arg7 harg7 arg8 harg8 arg18 arg19 arg20 x0 x1 x2 x3 x4 x5 x6 x7)
    = blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) 2) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) 2) (k0_pay23 (kernelRun0_A.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 2)) (![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 2) := by
  rw [r_y2A, r_xrA, r_rtA]; rfl

theorem r_t3A : (kernelRun0_A.sl.r_15 c arg1 harg1 arg2 harg2 arg3 harg3 arg4 harg4 arg5 harg5 arg6 harg6 arg7 harg7 arg8 harg8 arg18 arg19 arg20 x0 x1 x2 x3 x4 x5 x6 x7)
    = blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) 3) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) 3) (k0_pay23 (kernelRun0_A.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 3)) (![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 3) := by
  rw [r_y3A, r_xrA, r_rtA]; rfl

theorem r_t4A : (kernelRun0_A.sl.r_18 c arg1 harg1 arg2 harg2 arg3 harg3 arg4 harg4 arg5 harg5 arg6 harg6 arg7 harg7 arg8 harg8 arg18 arg19 arg20 x0 x1 x2 x3 x4 x5 x6 x7)
    = blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) 4) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) 4) (k0_pay23 (kernelRun0_A.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 4)) (![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 4) := by
  rw [r_y4A, r_xrA, r_rtA]; rfl

theorem r_ytA : (kernelRun0_A.sl.v2455 c arg1 harg1 arg2 harg2 arg3 harg3 arg4 harg4 arg5 harg5 arg6 harg6 arg7 harg7 arg8 harg8 arg18 arg19 arg20 x0 x1 x2 x3 x4 x5 x6 x7)
    = yaTok fun b => blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) b) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) b) (k0_pay23 (kernelRun0_A.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg b)) (![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] b) := by
  have e : (kernelRun0_A.sl.v2455 c arg1 harg1 arg2 harg2 arg3 harg3 arg4 harg4 arg5 harg5 arg6 harg6 arg7 harg7 arg8 harg8 arg18 arg19 arg20 x0 x1 x2 x3 x4 x5 x6 x7) = yaTok ![(kernelRun0_A.sl.r_5 c arg1 harg1 arg2 harg2 arg3 harg3 arg4 harg4 arg5 harg5 arg6 harg6 arg7 harg7 arg8 harg8 arg18 arg19 arg20 x0 x1 x2 x3 x4 x5 x6 x7), (kernelRun0_A.sl.r_8 c arg1 harg1 arg2 harg2 arg3 harg3 arg4 harg4 arg5 harg5 arg6 harg6 arg7 harg7 arg8 harg8 arg18 arg19 arg20 x0 x1 x2 x3 x4 x5 x6 x7), (kernelRun0_A.sl.r_11 c arg1 harg1 arg2 harg2 arg3 harg3 arg4 harg4 arg5 harg5 arg6 harg6 arg7 harg7 arg8 harg8 arg18 arg19 arg20 x0 x1 x2 x3 x4 x5 x6 x7), (kernelRun0_A.sl.r_15 c arg1 harg1 arg2 harg2 arg3 harg3 arg4 harg4 arg5 harg5 arg6 harg6 arg7 harg7 arg8 harg8 arg18 arg19 arg20 x0 x1 x2 x3 x4 x5 x6 x7), (kernelRun0_A.sl.r_18 c arg1 harg1 arg2 harg2 arg3 harg3 arg4 harg4 arg5 harg5 arg6 harg6 arg7 harg7 arg8 harg8 arg18 arg19 arg20 x0 x1 x2 x3 x4 x5 x6 x7)] := rfl
  rw [e, r_t0A, r_t1A, r_t2A, r_t3A, r_t4A]; rfl

theorem r_yaA : (kernelRun0_A.sl.r_21 c arg1 harg1 arg2 harg2 arg3 harg3 arg4 harg4 arg5 harg5 arg6 harg6 arg7 harg7 arg8 harg8 arg13 harg13 arg18 arg19 arg20 x0 x1 x2 x3 x4 x5 x6 x7 x12)
    = k0_pay1126 (yaTok fun b => blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) b) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) b) (k0_pay23 (kernelRun0_A.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg b)) (![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] b)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wa := by
  unfold kernelRun0_A.sl.r_21; rw [r_ytA]; rfl

theorem rawA : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14
    = tileOut (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v44 c arg1 harg1 arg2 harg2 arg17 x0 x1) (kernelRun0_A.sl.v40 c arg1 harg1 arg2 harg2 arg18 x0 x1) (kernelRun0_A.sl.v50 c arg19)
      ![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] := by
  unfold out0_A_15
  rw [View.read_writes_junk_eq_canon]
  unfold kernelRun0_A; dsimp only
  rw [View.canon_unit_zero hz2, r_xA, r_uA, r_gaA, r_gbA, r_mxA, r_yaA, r_cuA]; rfl

theorem rawTA : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14
    = tileTail (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) := by
  unfold sout0_A_2
  rw [View.read_writes_junk_eq_canon]
  unfold kernelRun0_A; dsimp only
  rw [View.canon_cons_unit_zero hz2]; rfl

set_option maxHeartbeats 2000000 in
theorem rawHA : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14
    = View.canon (Val := Elt F) (s := S8x1280) (e := .f32) [⟨Rect.unit ![0, 1024] S8x256.size inb_S8x1280_S8x256_0_1024, tileCarry (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) ![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 4⟩, ⟨Rect.unit ![0, 768] S8x256.size inb_S8x1280_S8x256_0_768, tileCarry (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) ![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 3⟩, ⟨Rect.unit ![0, 512] S8x256.size inb_S8x1280_S8x256_0_512, tileCarry (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) ![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 2⟩, ⟨Rect.unit ![0, 256] S8x256.size inb_S8x1280_S8x256_0_256, tileCarry (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) ![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 1⟩, ⟨Rect.unit ![0, 0] S8x256.size inb_S8x1280_S8x256_0_0, tileCarry (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_A.sl.v40 c arg1 harg1 arg2 harg2 arg18 x0 x1) (kernelRun0_A.sl.v50 c arg19) ![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)] 0⟩, ⟨Rect.unit ![0, 0] S8x1280.size inb_S8x1280_S8x1280_0_0, k0_pay3⟩] := by
  unfold sout0_A_3
  rw [View.read_writes_junk_eq_canon]
  unfold kernelRun0_A; dsimp only
  rfl

theorem r_xB : (kernelRun0_B.sl.v14 c arg1 harg1 x0)
    = k0_pay4 (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).x := by
  rfl

theorem r_uB : (kernelRun0_B.sl.v138 c arg1 harg1 arg2 harg2 arg3 harg3 arg17 x0 x1 x2)
    = k0_pay18 (kernelRun0_B.sl.v44 c arg1 harg1 arg2 harg2 arg17 x0 x1) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wu := by
  rfl

theorem r_gaB : (kernelRun0_B.sl.r_19 c arg1 harg1 arg2 harg2 arg3 harg3 arg17 x0 x1 x2)
    = gateCat fun j => k0_pay24 (kernelRun0_B.sl.v44 c arg1 harg1 arg2 harg2 arg17 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wt ⟨j.val, by have := j.isLt; omega⟩) := by
  rfl

theorem r_gbB : (kernelRun0_B.sl.r_20 c arg1 harg1 arg2 harg2 arg3 harg3 arg17 x0 x1 x2)
    = gateCat fun j => k0_pay24 (kernelRun0_B.sl.v44 c arg1 harg1 arg2 harg2 arg17 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wt ⟨j.val + 4, by have := j.isLt; omega⟩) := by
  rfl

theorem r_cuB : (kernelRun0_B.sl.r_22 c arg1 harg1 arg2 harg2 arg3 harg3 arg17 x0 x1 x2)
    = k0_pay1127 (k0_pay18 (kernelRun0_B.sl.v44 c arg1 harg1 arg2 harg2 arg17 x0 x1) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wu) := by
  rfl

theorem r_vB : (kernelRun0_B.sl.v134 c arg1 harg1 arg2 harg2 arg3 harg3 arg9 harg9 arg10 harg10 arg17 x0 x1 x2 x8 x9)
    = k0_pay17 (k0_pay15 (k0_pay10 (kernelRun0_B.sl.v44 c arg1 harg1 arg2 harg2 arg17 x0 x1) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wv)) (k0_pay16 (k0_pay10 (kernelRun0_B.sl.v44 c arg1 harg1 arg2 harg2 arg17 x0 x1) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wv)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).lng (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).lnb := by
  rfl

set_option maxHeartbeats 1000000 in
theorem r_m0B : (kernelRun0_B.sl.v2373 c arg1 harg1 arg2 harg2 arg3 harg3 arg9 harg9 arg10 harg10 arg11 harg11 arg12 harg12 arg17 x0 x1 x2 x8 x9 x10 x11)
    = mixBlk (kernelRun0_B.sl.v134 c arg1 harg1 arg2 harg2 arg3 harg3 arg9 harg9 arg10 harg10 arg17 x0 x1 x2 x8 x9) (fun g => wsm ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).ws g)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).bs 0 := by
  rfl

set_option maxHeartbeats 1000000 in
theorem r_m1B : (kernelRun0_B.sl.v2393 c arg1 harg1 arg2 harg2 arg3 harg3 arg9 harg9 arg10 harg10 arg11 harg11 arg12 harg12 arg17 x0 x1 x2 x8 x9 x10 x11)
    = mixBlk (kernelRun0_B.sl.v134 c arg1 harg1 arg2 harg2 arg3 harg3 arg9 harg9 arg10 harg10 arg17 x0 x1 x2 x8 x9) (fun g => wsm ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).ws g)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).bs 1 := by
  rfl

set_option maxHeartbeats 1000000 in
theorem r_m2B : (kernelRun0_B.sl.v2413 c arg1 harg1 arg2 harg2 arg3 harg3 arg9 harg9 arg10 harg10 arg11 harg11 arg12 harg12 arg17 x0 x1 x2 x8 x9 x10 x11)
    = mixBlk (kernelRun0_B.sl.v134 c arg1 harg1 arg2 harg2 arg3 harg3 arg9 harg9 arg10 harg10 arg17 x0 x1 x2 x8 x9) (fun g => wsm ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).ws g)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).bs 2 := by
  rfl

set_option maxHeartbeats 1000000 in
theorem r_m3B : (kernelRun0_B.sl.v2433 c arg1 harg1 arg2 harg2 arg3 harg3 arg9 harg9 arg10 harg10 arg11 harg11 arg12 harg12 arg17 x0 x1 x2 x8 x9 x10 x11)
    = mixBlk (kernelRun0_B.sl.v134 c arg1 harg1 arg2 harg2 arg3 harg3 arg9 harg9 arg10 harg10 arg17 x0 x1 x2 x8 x9) (fun g => wsm ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).ws g)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).bs 3 := by
  rfl

theorem r_mxB : (kernelRun0_B.sl.v2434 c arg1 harg1 arg2 harg2 arg3 harg3 arg9 harg9 arg10 harg10 arg11 harg11 arg12 harg12 arg17 x0 x1 x2 x8 x9 x10 x11)
    = mixed (k0_pay17 (k0_pay15 (k0_pay10 (kernelRun0_B.sl.v44 c arg1 harg1 arg2 harg2 arg17 x0 x1) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wv)) (k0_pay16 (k0_pay10 (kernelRun0_B.sl.v44 c arg1 harg1 arg2 harg2 arg17 x0 x1) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wv)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).lng (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).lnb) (fun g => wsm ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).ws g)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).bs := by
  rw [← r_vB]; unfold kernelRun0_B.sl.v2434; rw [r_m0B, r_m1B, r_m2B, r_m3B]; rfl

theorem r_xrB : (kernelRun0_B.sl.r_1 c arg1 harg1 arg2 harg2 arg3 harg3 arg4 harg4 arg5 harg5 arg18 arg19 harg19 x0 x1 x2 x3 x4 xs2)
    = tileXr (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) := by
  rfl

set_option maxHeartbeats 1000000 in
theorem r_y0B : (kernelRun0_B.sl.r_5 c arg1 harg1 arg2 harg2 arg3 harg3 arg4 harg4 arg5 harg5 arg6 harg6 arg7 harg7 arg8 harg8 arg18 arg19 harg19 arg20 harg20 x0 x1 x2 x3 x4 x5 x6 x7 xs2 xs3)
    = blkYa (blkA 0 (kernelRun0_B.sl.r_1 c arg1 harg1 arg2 harg2 arg3 harg3 arg4 harg4 arg5 harg5 arg18 arg19 harg19 x0 x1 x2 x3 x4 xs2) (kernelRun0_B.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 0) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 0)) (blkU 0 (kernelRun0_B.sl.r_1 c arg1 harg1 arg2 harg2 arg3 harg3 arg4 harg4 arg5 harg5 arg18 arg19 harg19 x0 x1 x2 x3 x4 xs2) (kernelRun0_B.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 0) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 0)) (k0_pay23 (kernelRun0_B.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 0)) ((fun b => View.readAt (Elt F) arg20.view (Rect.unit ![0, 256 * b.val] S8x256.size (inbH b) : Rect S8x1280).toLoadRect (harg20.unread xs3)) 0) := by
  rfl

set_option maxHeartbeats 1000000 in
theorem r_y1B : (kernelRun0_B.sl.r_8 c arg1 harg1 arg2 harg2 arg3 harg3 arg4 harg4 arg5 harg5 arg6 harg6 arg7 harg7 arg8 harg8 arg18 arg19 harg19 arg20 harg20 x0 x1 x2 x3 x4 x5 x6 x7 xs2 xs3)
    = blkYa (blkA 1 (kernelRun0_B.sl.r_1 c arg1 harg1 arg2 harg2 arg3 harg3 arg4 harg4 arg5 harg5 arg18 arg19 harg19 x0 x1 x2 x3 x4 xs2) (kernelRun0_B.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 1)) (blkU 1 (kernelRun0_B.sl.r_1 c arg1 harg1 arg2 harg2 arg3 harg3 arg4 harg4 arg5 harg5 arg18 arg19 harg19 x0 x1 x2 x3 x4 xs2) (kernelRun0_B.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 1)) (k0_pay23 (kernelRun0_B.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 1)) ((fun b => View.readAt (Elt F) arg20.view (Rect.unit ![0, 256 * b.val] S8x256.size (inbH b) : Rect S8x1280).toLoadRect (harg20.unread xs3)) 1) := by
  rfl

set_option maxHeartbeats 1000000 in
theorem r_y2B : (kernelRun0_B.sl.r_11 c arg1 harg1 arg2 harg2 arg3 harg3 arg4 harg4 arg5 harg5 arg6 harg6 arg7 harg7 arg8 harg8 arg18 arg19 harg19 arg20 harg20 x0 x1 x2 x3 x4 x5 x6 x7 xs2 xs3)
    = blkYa (blkA 2 (kernelRun0_B.sl.r_1 c arg1 harg1 arg2 harg2 arg3 harg3 arg4 harg4 arg5 harg5 arg18 arg19 harg19 x0 x1 x2 x3 x4 xs2) (kernelRun0_B.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 2) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 2)) (blkU 2 (kernelRun0_B.sl.r_1 c arg1 harg1 arg2 harg2 arg3 harg3 arg4 harg4 arg5 harg5 arg18 arg19 harg19 x0 x1 x2 x3 x4 xs2) (kernelRun0_B.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 2) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 2)) (k0_pay23 (kernelRun0_B.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 2)) ((fun b => View.readAt (Elt F) arg20.view (Rect.unit ![0, 256 * b.val] S8x256.size (inbH b) : Rect S8x1280).toLoadRect (harg20.unread xs3)) 2) := by
  rfl

set_option maxHeartbeats 1000000 in
theorem r_y3B : (kernelRun0_B.sl.r_15 c arg1 harg1 arg2 harg2 arg3 harg3 arg4 harg4 arg5 harg5 arg6 harg6 arg7 harg7 arg8 harg8 arg18 arg19 harg19 arg20 harg20 x0 x1 x2 x3 x4 x5 x6 x7 xs2 xs3)
    = blkYa (blkA 3 (kernelRun0_B.sl.r_1 c arg1 harg1 arg2 harg2 arg3 harg3 arg4 harg4 arg5 harg5 arg18 arg19 harg19 x0 x1 x2 x3 x4 xs2) (kernelRun0_B.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 3) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 3)) (blkU 3 (kernelRun0_B.sl.r_1 c arg1 harg1 arg2 harg2 arg3 harg3 arg4 harg4 arg5 harg5 arg18 arg19 harg19 x0 x1 x2 x3 x4 xs2) (kernelRun0_B.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 3) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 3)) (k0_pay23 (kernelRun0_B.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 3)) ((fun b => View.readAt (Elt F) arg20.view (Rect.unit ![0, 256 * b.val] S8x256.size (inbH b) : Rect S8x1280).toLoadRect (harg20.unread xs3)) 3) := by
  rfl

set_option maxHeartbeats 1000000 in
theorem r_y4B : (kernelRun0_B.sl.r_18 c arg1 harg1 arg2 harg2 arg3 harg3 arg4 harg4 arg5 harg5 arg6 harg6 arg7 harg7 arg8 harg8 arg18 arg19 harg19 arg20 harg20 x0 x1 x2 x3 x4 x5 x6 x7 xs2 xs3)
    = blkYa (blkA 4 (kernelRun0_B.sl.r_1 c arg1 harg1 arg2 harg2 arg3 harg3 arg4 harg4 arg5 harg5 arg18 arg19 harg19 x0 x1 x2 x3 x4 xs2) (kernelRun0_B.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 4) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 4)) (blkU 4 (kernelRun0_B.sl.r_1 c arg1 harg1 arg2 harg2 arg3 harg3 arg4 harg4 arg5 harg5 arg18 arg19 harg19 x0 x1 x2 x3 x4 xs2) (kernelRun0_B.sl.v152 c arg8 harg8 x7) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gw 4) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).gb 4)) (k0_pay23 (kernelRun0_B.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 4)) ((fun b => View.readAt (Elt F) arg20.view (Rect.unit ![0, 256 * b.val] S8x256.size (inbH b) : Rect S8x1280).toLoadRect (harg20.unread xs3)) 4) := by
  rfl

theorem r_rtB : (kernelRun0_B.sl.v152 c arg8 harg8 x7)
    = k0_pay19 (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).lam := by
  rfl

theorem r_t0B : (kernelRun0_B.sl.r_5 c arg1 harg1 arg2 harg2 arg3 harg3 arg4 harg4 arg5 harg5 arg6 harg6 arg7 harg7 arg8 harg8 arg18 arg19 harg19 arg20 harg20 x0 x1 x2 x3 x4 x5 x6 x7 xs2 xs3)
    = blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) 0) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) 0) (k0_pay23 (kernelRun0_B.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 0)) ((fun b => View.readAt (Elt F) arg20.view (Rect.unit ![0, 256 * b.val] S8x256.size (inbH b) : Rect S8x1280).toLoadRect (harg20.unread xs3)) 0) := by
  rw [r_y0B, r_xrB, r_rtB]; rfl

theorem r_t1B : (kernelRun0_B.sl.r_8 c arg1 harg1 arg2 harg2 arg3 harg3 arg4 harg4 arg5 harg5 arg6 harg6 arg7 harg7 arg8 harg8 arg18 arg19 harg19 arg20 harg20 x0 x1 x2 x3 x4 x5 x6 x7 xs2 xs3)
    = blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) 1) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) 1) (k0_pay23 (kernelRun0_B.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 1)) ((fun b => View.readAt (Elt F) arg20.view (Rect.unit ![0, 256 * b.val] S8x256.size (inbH b) : Rect S8x1280).toLoadRect (harg20.unread xs3)) 1) := by
  rw [r_y1B, r_xrB, r_rtB]; rfl

theorem r_t2B : (kernelRun0_B.sl.r_11 c arg1 harg1 arg2 harg2 arg3 harg3 arg4 harg4 arg5 harg5 arg6 harg6 arg7 harg7 arg8 harg8 arg18 arg19 harg19 arg20 harg20 x0 x1 x2 x3 x4 x5 x6 x7 xs2 xs3)
    = blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) 2) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) 2) (k0_pay23 (kernelRun0_B.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 2)) ((fun b => View.readAt (Elt F) arg20.view (Rect.unit ![0, 256 * b.val] S8x256.size (inbH b) : Rect S8x1280).toLoadRect (harg20.unread xs3)) 2) := by
  rw [r_y2B, r_xrB, r_rtB]; rfl

theorem r_t3B : (kernelRun0_B.sl.r_15 c arg1 harg1 arg2 harg2 arg3 harg3 arg4 harg4 arg5 harg5 arg6 harg6 arg7 harg7 arg8 harg8 arg18 arg19 harg19 arg20 harg20 x0 x1 x2 x3 x4 x5 x6 x7 xs2 xs3)
    = blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) 3) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) 3) (k0_pay23 (kernelRun0_B.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 3)) ((fun b => View.readAt (Elt F) arg20.view (Rect.unit ![0, 256 * b.val] S8x256.size (inbH b) : Rect S8x1280).toLoadRect (harg20.unread xs3)) 3) := by
  rw [r_y3B, r_xrB, r_rtB]; rfl

theorem r_t4B : (kernelRun0_B.sl.r_18 c arg1 harg1 arg2 harg2 arg3 harg3 arg4 harg4 arg5 harg5 arg6 harg6 arg7 harg7 arg8 harg8 arg18 arg19 harg19 arg20 harg20 x0 x1 x2 x3 x4 x5 x6 x7 xs2 xs3)
    = blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) 4) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) 4) (k0_pay23 (kernelRun0_B.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg 4)) ((fun b => View.readAt (Elt F) arg20.view (Rect.unit ![0, 256 * b.val] S8x256.size (inbH b) : Rect S8x1280).toLoadRect (harg20.unread xs3)) 4) := by
  rw [r_y4B, r_xrB, r_rtB]; rfl

theorem r_ytB : (kernelRun0_B.sl.v2455 c arg1 harg1 arg2 harg2 arg3 harg3 arg4 harg4 arg5 harg5 arg6 harg6 arg7 harg7 arg8 harg8 arg18 arg19 harg19 arg20 harg20 x0 x1 x2 x3 x4 x5 x6 x7 xs2 xs3)
    = yaTok fun b => blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) b) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) b) (k0_pay23 (kernelRun0_B.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg b)) ((fun b => View.readAt (Elt F) arg20.view (Rect.unit ![0, 256 * b.val] S8x256.size (inbH b) : Rect S8x1280).toLoadRect (harg20.unread xs3)) b) := by
  have e : (kernelRun0_B.sl.v2455 c arg1 harg1 arg2 harg2 arg3 harg3 arg4 harg4 arg5 harg5 arg6 harg6 arg7 harg7 arg8 harg8 arg18 arg19 harg19 arg20 harg20 x0 x1 x2 x3 x4 x5 x6 x7 xs2 xs3) = yaTok ![(kernelRun0_B.sl.r_5 c arg1 harg1 arg2 harg2 arg3 harg3 arg4 harg4 arg5 harg5 arg6 harg6 arg7 harg7 arg8 harg8 arg18 arg19 harg19 arg20 harg20 x0 x1 x2 x3 x4 x5 x6 x7 xs2 xs3), (kernelRun0_B.sl.r_8 c arg1 harg1 arg2 harg2 arg3 harg3 arg4 harg4 arg5 harg5 arg6 harg6 arg7 harg7 arg8 harg8 arg18 arg19 harg19 arg20 harg20 x0 x1 x2 x3 x4 x5 x6 x7 xs2 xs3), (kernelRun0_B.sl.r_11 c arg1 harg1 arg2 harg2 arg3 harg3 arg4 harg4 arg5 harg5 arg6 harg6 arg7 harg7 arg8 harg8 arg18 arg19 harg19 arg20 harg20 x0 x1 x2 x3 x4 x5 x6 x7 xs2 xs3), (kernelRun0_B.sl.r_15 c arg1 harg1 arg2 harg2 arg3 harg3 arg4 harg4 arg5 harg5 arg6 harg6 arg7 harg7 arg8 harg8 arg18 arg19 harg19 arg20 harg20 x0 x1 x2 x3 x4 x5 x6 x7 xs2 xs3), (kernelRun0_B.sl.r_18 c arg1 harg1 arg2 harg2 arg3 harg3 arg4 harg4 arg5 harg5 arg6 harg6 arg7 harg7 arg8 harg8 arg18 arg19 harg19 arg20 harg20 x0 x1 x2 x3 x4 x5 x6 x7 xs2 xs3)] := rfl
  rw [e, r_t0B, r_t1B, r_t2B, r_t3B, r_t4B]; rfl

theorem r_yaB : (kernelRun0_B.sl.r_21 c arg1 harg1 arg2 harg2 arg3 harg3 arg4 harg4 arg5 harg5 arg6 harg6 arg7 harg7 arg8 harg8 arg13 harg13 arg18 arg19 harg19 arg20 harg20 x0 x1 x2 x3 x4 x5 x6 x7 x12 xs2 xs3)
    = k0_pay1126 (yaTok fun b => blkYa (tileA (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) b) (tileU (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) b) (k0_pay23 (kernelRun0_B.sl.v40 c arg1 harg1 arg2 harg2 arg18 x0 x1) ((rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wg b)) ((fun b => View.readAt (Elt F) arg20.view (Rect.unit ![0, 256 * b.val] S8x256.size (inbH b) : Rect S8x1280).toLoadRect (harg20.unread xs3)) b)) (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14).wa := by
  unfold kernelRun0_B.sl.r_21; rw [r_ytB]; rfl

theorem rawB : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn0 x0 x1 x2 x3 x4 x5 x6 x7 x8 x9 x10 x11 x12 x13 x14 xs2 xs3
    = tileOut (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v44 c arg1 harg1 arg2 harg2 arg17 x0 x1) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2))
      (fun b => View.readAt (Elt F) arg20.view (Rect.unit ![0, 256 * b.val] S8x256.size (inbH b) : Rect S8x1280).toLoadRect (harg20.unread xs3)) := by
  unfold out0_B_15
  rw [View.read_writes_junk_eq_canon]
  unfold kernelRun0_B; dsimp only
  rw [View.canon_unit_zero hz2, r_xB, r_uB, r_gaB, r_gbB, r_mxB, r_yaB, r_cuB]; rfl

theorem rawTB : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn0 x0 x1 x2 x3 x4 x5 x6 x7 x8 x9 x10 x11 x12 x13 x14 xs2 xs3
    = tileTail (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) := by
  unfold sout0_B_2
  rw [View.read_writes_junk_eq_canon]
  unfold kernelRun0_B; dsimp only
  rw [View.canon_unit_zero hz2]; rfl

set_option maxHeartbeats 2000000 in
theorem rawHB : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn0 x0 x1 x2 x3 x4 x5 x6 x7 x8 x9 x10 x11 x12 x13 x14 xs2 xs3
    = View.canon (Val := Elt F) (s := S8x1280) (e := .f32) [⟨Rect.unit ![0, 1024] S8x256.size inb_S8x1280_S8x256_0_1024, tileCarry (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) (fun b => View.readAt (Elt F) arg20.view (Rect.unit ![0, 256 * b.val] S8x256.size (inbH b) : Rect S8x1280).toLoadRect (harg20.unread xs3)) 4⟩, ⟨Rect.unit ![0, 768] S8x256.size inb_S8x1280_S8x256_0_768, tileCarry (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) (fun b => View.readAt (Elt F) arg20.view (Rect.unit ![0, 256 * b.val] S8x256.size (inbH b) : Rect S8x1280).toLoadRect (harg20.unread xs3)) 3⟩, ⟨Rect.unit ![0, 512] S8x256.size inb_S8x1280_S8x256_0_512, tileCarry (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) (fun b => View.readAt (Elt F) arg20.view (Rect.unit ![0, 256 * b.val] S8x256.size (inbH b) : Rect S8x1280).toLoadRect (harg20.unread xs3)) 2⟩, ⟨Rect.unit ![0, 256] S8x256.size inb_S8x1280_S8x256_0_256, tileCarry (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) (fun b => View.readAt (Elt F) arg20.view (Rect.unit ![0, 256 * b.val] S8x256.size (inbH b) : Rect S8x1280).toLoadRect (harg20.unread xs3)) 1⟩, ⟨Rect.unit ![0, 0] S8x256.size inb_S8x1280_S8x256_0_0, tileCarry (rawLds arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (kernelRun0_B.sl.v40 c arg1 harg1 arg2 harg2 arg18 x0 x1) (View.readAt (Elt F) arg19.view (Rect.unit ![0, 0] S24x1280.size inb_S24x1280_S24x1280_0_0 : Rect S24x1280).toLoadRect (harg19.unread xs2)) (fun b => View.readAt (Elt F) arg20.view (Rect.unit ![0, 256 * b.val] S8x256.size (inbH b) : Rect S8x1280).toLoadRect (harg20.unread xs3)) 0⟩] := by
  unfold sout0_B_3
  rw [View.read_writes_junk_eq_canon]
  unfold kernelRun0_B; dsimp only
  rfl

end Cert.Layer.Mix
end
-- ==== Proof.MixPoint.lean ====
/- The block a grid point stores and what it leaves in the two carried buffers, as functions of the point's blocks and
   of the buffers' contents before it. -/
module

public import proofs.«01_k».proof.Proof.MixRun
public import Idealize.ShloMosaic.Lib.Pipeline.ReadBack

@[expose] public section

noncomputable section

namespace Cert.Layer.Mix

open Cert.KernelIdeal Cert.KernelIdeal.Gen Cert.KernelIdeal.Value Idealize.ShloMosaic Idealize.ShloMosaic.TcCoe
open Idealize.SL.Sem

variable {F : FTy → Type} [FloatOps F] [Named F]
variable (c : Dev nD) (i : grid0.Coords) (hc0 : cond0_0 i) (hn0 : ¬cond0_0 i) (arg1 : Memref sig .tc .vmem S512x1024 .f32) (harg1 : arg1.IsWhole) (arg2 : Memref sig .tc .vmem S1x1024 .f32) (harg2 : arg2.IsWhole) (arg3 : Memref sig .tc .vmem S1x1024x6656 .bf16) (harg3 : arg3.IsWhole) (arg4 : Memref sig .tc .vmem S4x1280 .f32) (harg4 : arg4.IsWhole) (arg5 : Memref sig .tc .vmem S1x1280 .f32) (harg5 : arg5.IsWhole) (arg6 : Memref sig .tc .vmem S5x256x512 .bf16) (harg6 : arg6.IsWhole) (arg7 : Memref sig .tc .vmem S5x1x512 .f32) (harg7 : arg7.IsWhole) (arg8 : Memref sig .tc .vmem S1x1280 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x1024 .f32) (harg12 : arg12.IsWhole) (arg13 : Memref sig .tc .vmem S1x1280x1024 .bf16) (harg13 : arg13.IsWhole) (arg14 : Memref sig .tc .vmem S1x1024x1024 .bf16) (harg14 : arg14.IsWhole) (arg15 : Memref sig .tc .vmem S1x1024x1024 .bf16) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S24x1280 .f32) (harg19 : arg19.IsWhole) (arg20 : Memref sig .tc .vmem S8x1280 .f32) (harg20 : arg20.IsWhole)
  (x0 : Vec F S512x1024 .f32) (x1 : Vec F S1x1024 .f32) (x2 : Vec F S1x1024x6656 .bf16) (x3 : Vec F S4x1280 .f32) (x4 : Vec F S1x1280 .f32) (x5 : Vec F S5x256x512 .bf16) (x6 : Vec F S5x1x512 .f32) (x7 : Vec F S1x1280 .f32) (x8 : Vec F S1x1024 .f32) (x9 : Vec F S1x1024 .f32) (x10 : Vec F S8x128x128 .f32) (x11 : Vec F S128x1024 .f32) (x12 : Vec F S1x1280x1024 .bf16) (x13 : Vec F S1x1024x1024 .bf16) (x14 : Vec F S1x1024x1024 .bf16) (xs2 : Vec F S24x1280 .f32) (xs3 : Vec F S8x1280 .f32)
theorem l_hA : (kernelRun0_A.sl.v44 c arg1 harg1 arg2 harg2 arg17 x0 x1)
    = hTok x0 x1 := by
  unfold kernelRun0_A.sl.v44 kernelRun0_A.sl.HS0_1; refine (View.readCov_unit_zero (Val := Elt F) (S := S512x1024) _ hz2 _ _).trans ?_
  exact (show _ = hTok ((View.readAt (Elt F) arg1.view (Rect.unit ![0, 0] S512x1024.size inb_S512x1024_S512x1024_0_0 : Rect S512x1024).toLoadRect (harg1.unread x0))) ((View.readAt (Elt F) arg2.view (Rect.unit ![0, 0] S1x1024.size inb_S1x1024_S1x1024_0_0 : Rect S1x1024).toLoadRect (harg2.unread x1))) from rfl).trans (by
    rw [View.readAt_eq_ld, View.readAt_eq_ld, harg1.read_unread, harg2.read_unread, View.ld_unit_zero (S := S512x1024) hz2, View.ld_unit_zero (S := S1x1024) hz2])

theorem l_pA : (kernelRun0_A.sl.v40 c arg1 harg1 arg2 harg2 arg18 x0 x1)
    = hStep x0 x1 := by
  unfold kernelRun0_A.sl.v40 kernelRun0_A.sl.HS1_1; refine (View.readCov_unit_zero (Val := Elt F) (S := S512x1024) _ hz2 _ _).trans ?_
  exact (show _ = hStep ((View.readAt (Elt F) arg1.view (Rect.unit ![0, 0] S512x1024.size inb_S512x1024_S512x1024_0_0 : Rect S512x1024).toLoadRect (harg1.unread x0))) ((View.readAt (Elt F) arg2.view (Rect.unit ![0, 0] S1x1024.size inb_S1x1024_S1x1024_0_0 : Rect S1x1024).toLoadRect (harg2.unread x1))) from rfl).trans (by
    rw [View.readAt_eq_ld, View.readAt_eq_ld, harg1.read_unread, harg2.read_unread, View.ld_unit_zero (S := S512x1024) hz2, View.ld_unit_zero (S := S1x1024) hz2])

theorem l_tA : (kernelRun0_A.sl.v50 c arg19)
    = (k0_pay2 (F := F)) := by
  unfold kernelRun0_A.sl.v50; exact View.readCov_unit_zero (S := S24x1280) _ hz2 _ _

theorem l_c0A : (kernelRun0_A.sl.v548 c arg20)
    = cyBlk (k0_pay3 (F := F)) 0 := by
  unfold kernelRun0_A.sl.v548;  unfold kernelRun0_A.sl.HS3_1; exact View.readCov_fill _ _ _ _ _ (fun a => by rw [hz2])

theorem l_c1A : (kernelRun0_A.sl.v971 c arg1 harg1 arg2 harg2 arg3 harg3 arg4 harg4 arg5 harg5 arg6 harg6 arg7 harg7 arg8 harg8 arg18 arg19 arg20 x0 x1 x2 x3 x4 x5 x6 x7)
    = cyBlk (k0_pay3 (F := F)) 1 := by
  unfold kernelRun0_A.sl.v971; unfold kernelRun0_A.sl.HS3_2; rw [View.readCov_skip _ _ _ _ _ (by decide +kernel)]; unfold kernelRun0_A.sl.HS3_1; exact View.readCov_fill _ _ _ _ _ (fun a => by rw [hz2])

theorem l_c2A : (kernelRun0_A.sl.v1394 c arg1 harg1 arg2 harg2 arg3 harg3 arg4 harg4 arg5 harg5 arg6 harg6 arg7 harg7 arg8 harg8 arg18 arg19 arg20 x0 x1 x2 x3 x4 x5 x6 x7)
    = cyBlk (k0_pay3 (F := F)) 2 := by
  unfold kernelRun0_A.sl.v1394; unfold kernelRun0_A.sl.HS3_3; rw [View.readCov_skip _ _ _ _ _ (by decide +kernel)]; unfold kernelRun0_A.sl.HS3_2; rw [View.readCov_skip _ _ _ _ _ (by decide +kernel)]; unfold kernelRun0_A.sl.HS3_1; exact View.readCov_fill _ _ _ _ _ (fun a => by rw [hz2])

theorem l_c3A : (kernelRun0_A.sl.v1817 c arg1 harg1 arg2 harg2 arg3 harg3 arg4 harg4 arg5 harg5 arg6 harg6 arg7 harg7 arg8 harg8 arg18 arg19 arg20 x0 x1 x2 x3 x4 x5 x6 x7)
    = cyBlk (k0_pay3 (F := F)) 3 := by
  unfold kernelRun0_A.sl.v1817; unfold kernelRun0_A.sl.HS3_4; rw [View.readCov_skip _ _ _ _ _ (by decide +kernel)]; unfold kernelRun0_A.sl.HS3_3; rw [View.readCov_skip _ _ _ _ _ (by decide +kernel)]; unfold kernelRun0_A.sl.HS3_2; rw [View.readCov_skip _ _ _ _ _ (by decide +kernel)]; unfold kernelRun0_A.sl.HS3_1; exact View.readCov_fill _ _ _ _ _ (fun a => by rw [hz2])

theorem l_c4A : (kernelRun0_A.sl.v2232 c arg1 harg1 arg2 harg2 arg3 harg3 arg4 harg4 arg5 harg5 arg6 harg6 arg7 harg7 arg8 harg8 arg18 arg19 arg20 x0 x1 x2 x3 x4 x5 x6 x7)
    = cyBlk (k0_pay3 (F := F)) 4 := by
  unfold kernelRun0_A.sl.v2232; unfold kernelRun0_A.sl.HS3_5; rw [View.readCov_skip _ _ _ _ _ (by decide +kernel)]; unfold kernelRun0_A.sl.HS3_4; rw [View.readCov_skip _ _ _ _ _ (by decide +kernel)]; unfold kernelRun0_A.sl.HS3_3; rw [View.readCov_skip _ _ _ _ _ (by decide +kernel)]; unfold kernelRun0_A.sl.HS3_2; rw [View.readCov_skip _ _ _ _ _ (by decide +kernel)]; unfold kernelRun0_A.sl.HS3_1; exact View.readCov_fill _ _ _ _ _ (fun a => by rw [hz2])

theorem l_HA : ![
      (kernelRun0_A.sl.v548 c arg20),
      (kernelRun0_A.sl.v971 c arg1 harg1 arg2 harg2 arg3 harg3 arg4 harg4 arg5 harg5 arg6 harg6 arg7 harg7 arg8 harg8 arg18 arg19 arg20 x0 x1 x2 x3 x4 x5 x6 x7),
      (kernelRun0_A.sl.v1394 c arg1 harg1 arg2 harg2 arg3 harg3 arg4 harg4 arg5 harg5 arg6 harg6 arg7 harg7 arg8 harg8 arg18 arg19 arg20 x0 x1 x2 x3 x4 x5 x6 x7),
      (kernelRun0_A.sl.v1817 c arg1 harg1 arg2 harg2 arg3 harg3 arg4 harg4 arg5 harg5 arg6 harg6 arg7 harg7 arg8 harg8 arg18 arg19 arg20 x0 x1 x2 x3 x4 x5 x6 x7),
      (kernelRun0_A.sl.v2232 c arg1 harg1 arg2 harg2 arg3 harg3 arg4 harg4 arg5 harg5 arg6 harg6 arg7 harg7 arg8 harg8 arg18 arg19 arg20 x0 x1 x2 x3 x4 x5 x6 x7)]
    = (cyBlk (k0_pay3 (F := F))) := by
  rw [l_c0A, l_c1A, l_c2A, l_c3A, l_c4A]; funext b; fin_cases b <;> rfl

/-- The block a point of this case stores. -/
theorem outA : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14
    = tileOut (lds x0 x1 x2 x3 x4 x5 x6 x7 x8 x9 x10 x11 x12 x13 x14) (hTok x0 x1) (hStep x0 x1) (k0_pay2 (F := F)) (cyBlk (k0_pay3 (F := F))) := by
  rw [rawA, rawLds_eq, l_hA, l_pA, l_tA, l_HA]

/-- What a point of this case leaves for the next convolution. -/
theorem tailA : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14
    = tileTail (lds x0 x1 x2 x3 x4 x5 x6 x7 x8 x9 x10 x11 x12 x13 x14) (hStep x0 x1) := by
  rw [rawTA, rawLds_eq, l_pA]

/-- What a point of this case leaves in the carried states. -/
theorem carryA : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14
    = View.canon (Val := Elt F) (s := S8x1280) (e := .f32) [⟨Rect.unit ![0, 1024] S8x256.size inb_S8x1280_S8x256_0_1024, tileCarry (lds x0 x1 x2 x3 x4 x5 x6 x7 x8 x9 x10 x11 x12 x13 x14) (hStep x0 x1) (k0_pay2 (F := F)) (cyBlk (k0_pay3 (F := F))) 4⟩, ⟨Rect.unit ![0, 768] S8x256.size inb_S8x1280_S8x256_0_768, tileCarry (lds x0 x1 x2 x3 x4 x5 x6 x7 x8 x9 x10 x11 x12 x13 x14) (hStep x0 x1) (k0_pay2 (F := F)) (cyBlk (k0_pay3 (F := F))) 3⟩, ⟨Rect.unit ![0, 512] S8x256.size inb_S8x1280_S8x256_0_512, tileCarry (lds x0 x1 x2 x3 x4 x5 x6 x7 x8 x9 x10 x11 x12 x13 x14) (hStep x0 x1) (k0_pay2 (F := F)) (cyBlk (k0_pay3 (F := F))) 2⟩, ⟨Rect.unit ![0, 256] S8x256.size inb_S8x1280_S8x256_0_256, tileCarry (lds x0 x1 x2 x3 x4 x5 x6 x7 x8 x9 x10 x11 x12 x13 x14) (hStep x0 x1) (k0_pay2 (F := F)) (cyBlk (k0_pay3 (F := F))) 1⟩, ⟨Rect.unit ![0, 0] S8x256.size inb_S8x1280_S8x256_0_0, tileCarry (lds x0 x1 x2 x3 x4 x5 x6 x7 x8 x9 x10 x11 x12 x13 x14) (hStep x0 x1) (k0_pay2 (F := F)) (cyBlk (k0_pay3 (F := F))) 0⟩, ⟨Rect.unit ![0, 0] S8x1280.size inb_S8x1280_S8x1280_0_0, k0_pay3⟩] := by
  rw [rawHA, rawLds_eq, l_pA, l_tA, l_HA]

theorem l_hB : (kernelRun0_B.sl.v44 c arg1 harg1 arg2 harg2 arg17 x0 x1)
    = hTok x0 x1 := by
  unfold kernelRun0_B.sl.v44 kernelRun0_B.sl.HS0_1; refine (View.readCov_unit_zero (Val := Elt F) (S := S512x1024) _ hz2 _ _).trans ?_
  exact (show _ = hTok ((View.readAt (Elt F) arg1.view (Rect.unit ![0, 0] S512x1024.size inb_S512x1024_S512x1024_0_0 : Rect S512x1024).toLoadRect (harg1.unread x0))) ((View.readAt (Elt F) arg2.view (Rect.unit ![0, 0] S1x1024.size inb_S1x1024_S1x1024_0_0 : Rect S1x1024).toLoadRect (harg2.unread x1))) from rfl).trans (by
    rw [View.readAt_eq_ld, View.readAt_eq_ld, harg1.read_unread, harg2.read_unread, View.ld_unit_zero (S := S512x1024) hz2, View.ld_unit_zero (S := S1x1024) hz2])

theorem l_pB : (kernelRun0_B.sl.v40 c arg1 harg1 arg2 harg2 arg18 x0 x1)
    = hStep x0 x1 := by
  unfold kernelRun0_B.sl.v40 kernelRun0_B.sl.HS1_1; refine (View.readCov_unit_zero (Val := Elt F) (S := S512x1024) _ hz2 _ _).trans ?_
  exact (show _ = hStep ((View.readAt (Elt F) arg1.view (Rect.unit ![0, 0] S512x1024.size inb_S512x1024_S512x1024_0_0 : Rect S512x1024).toLoadRect (harg1.unread x0))) ((View.readAt (Elt F) arg2.view (Rect.unit ![0, 0] S1x1024.size inb_S1x1024_S1x1024_0_0 : Rect S1x1024).toLoadRect (harg2.unread x1))) from rfl).trans (by
    rw [View.readAt_eq_ld, View.readAt_eq_ld, harg1.read_unread, harg2.read_unread, View.ld_unit_zero (S := S512x1024) hz2, View.ld_unit_zero (S := S1x1024) hz2])

theorem l_tB : (View.readAt (Elt F) arg19.view (Rect.unit ![0, 0] S24x1280.size inb_S24x1280_S24x1280_0_0 : Rect S24x1280).toLoadRect (harg19.unread xs2))
    = xs2 := by
  rw [View.readAt_eq_ld, harg19.read_unread]; exact View.ld_unit_zero (S := S24x1280) hz2 _ _

theorem l_HB : (fun b => View.readAt (Elt F) arg20.view (Rect.unit ![0, 256 * b.val] S8x256.size (inbH b) : Rect S8x1280).toLoadRect (harg20.unread xs3))
    = (cyBlk xs3) := by
  funext b; rw [View.readAt_eq_ld, harg20.read_unread]; rfl

/-- The block a point of this case stores. -/
theorem outB : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn0 x0 x1 x2 x3 x4 x5 x6 x7 x8 x9 x10 x11 x12 x13 x14 xs2 xs3
    = tileOut (lds x0 x1 x2 x3 x4 x5 x6 x7 x8 x9 x10 x11 x12 x13 x14) (hTok x0 x1) (hStep x0 x1) xs2 (cyBlk xs3) := by
  rw [rawB, rawLds_eq, l_hB, l_pB, l_tB, l_HB]

/-- What a point of this case leaves for the next convolution. -/
theorem tailB : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn0 x0 x1 x2 x3 x4 x5 x6 x7 x8 x9 x10 x11 x12 x13 x14 xs2 xs3
    = tileTail (lds x0 x1 x2 x3 x4 x5 x6 x7 x8 x9 x10 x11 x12 x13 x14) (hStep x0 x1) := by
  rw [rawTB, rawLds_eq, l_pB]

/-- What a point of this case leaves in the carried states. -/
theorem carryB : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hn0 x0 x1 x2 x3 x4 x5 x6 x7 x8 x9 x10 x11 x12 x13 x14 xs2 xs3
    = View.canon (Val := Elt F) (s := S8x1280) (e := .f32) [⟨Rect.unit ![0, 1024] S8x256.size inb_S8x1280_S8x256_0_1024, tileCarry (lds x0 x1 x2 x3 x4 x5 x6 x7 x8 x9 x10 x11 x12 x13 x14) (hStep x0 x1) xs2 (cyBlk xs3) 4⟩, ⟨Rect.unit ![0, 768] S8x256.size inb_S8x1280_S8x256_0_768, tileCarry (lds x0 x1 x2 x3 x4 x5 x6 x7 x8 x9 x10 x11 x12 x13 x14) (hStep x0 x1) xs2 (cyBlk xs3) 3⟩, ⟨Rect.unit ![0, 512] S8x256.size inb_S8x1280_S8x256_0_512, tileCarry (lds x0 x1 x2 x3 x4 x5 x6 x7 x8 x9 x10 x11 x12 x13 x14) (hStep x0 x1) xs2 (cyBlk xs3) 2⟩, ⟨Rect.unit ![0, 256] S8x256.size inb_S8x1280_S8x256_0_256, tileCarry (lds x0 x1 x2 x3 x4 x5 x6 x7 x8 x9 x10 x11 x12 x13 x14) (hStep x0 x1) xs2 (cyBlk xs3) 1⟩, ⟨Rect.unit ![0, 0] S8x256.size inb_S8x1280_S8x256_0_0, tileCarry (lds x0 x1 x2 x3 x4 x5 x6 x7 x8 x9 x10 x11 x12 x13 x14) (hStep x0 x1) xs2 (cyBlk xs3) 0⟩] := by
  rw [rawHB, rawLds_eq, l_pB, l_tB, l_HB]

end Cert.Layer.Mix
end
-- ==== Proof.MixValue.lean ====
/- What the mixer's run leaves: the carried buffers hold the recurrence at every tile's end, and the output buffer the
   layer's rows. -/
module

public import proofs.«01_k».proof.Proof.MixReads
public import proofs.«01_k».proof.Proof.MixPoint

@[expose] public section

set_option maxRecDepth 16384

noncomputable section

namespace Cert.Layer.Mix

open Cert.KernelIdeal Cert.KernelIdeal.Gen Cert.KernelIdeal.Value Idealize.ShloMosaic Idealize.ShloMosaic.TcCoe
open Idealize.SL.Sem
open Idealize.ShloMosaic.Pointwise

theorem zeroTail (x : S24x1280.Idx) : (k0_pay2 (F := Ideal)) x = (0 : EReal) := by pointwise [k0_pay2]

theorem zeroCarry (x : S8x1280.Idx) : (k0_pay3 (F := Ideal)) x = (0 : EReal) := by pointwise [k0_pay3]

theorem cyBlk_apply (H : FVec Ideal S8x1280 .f32) (b : Fin 5) (c : Fin 8) (e : Fin 256) :
    (cyBlk (F := Ideal) H b : FVec Ideal S8x256 .f32) (ix2 c e) = H (ix2 c (col b e)) :=
  View.ld_unit_apply_of (Val := Elt Ideal) (S := S8x1280) (e := .f32) H ![0, 256 * b.val] S8x256.size (inbH b) (ix2 c e) (ix2 c (col b e)) (fun a => match a with
    | ⟨0, _⟩ => by show c.val = 0 + c.val; omega
    | ⟨1, _⟩ => rfl)

/-- A store of 256 columns holds the index whose column is one of them, -/
theorem piece_hit (o : ℕ) (inb) (w : FVec Ideal S8x256 .f32) (L : List (View.Piece (Elt Ideal) S8x1280 .f32))
    (c : Fin 8) (e : Fin 256) (k : Fin 1280) (hk : k.val = o + e.val) :
    View.canon (Val := Elt Ideal) (s := S8x1280) (e := .f32) (⟨Rect.unit ![0, o] S8x256.size inb, w⟩ :: L) (ix2 c k) = w (ix2 c e) := by
  have h : (ix2 c k : S8x1280.Idx) = (Rect.unit (s := S8x1280) ![0, o] S8x256.size inb).emb (ix2 c e) := by
    funext a; apply Fin.ext
    match a with
    | ⟨0, _⟩ => exact (Rect.emb_apply _ _ _).trans (by show 0 + 1 * c.val = c.val; omega) |>.symm
    | ⟨1, _⟩ => exact (Rect.emb_apply _ _ _).trans (by show o + 1 * e.val = k.val; omega) |>.symm
  rw [h]; exact View.canon_cons_emb _ _ _ _

/-- and does not hold the others. -/
theorem piece_miss (o : ℕ) (inb) (w : FVec Ideal S8x256 .f32) (L : List (View.Piece (Elt Ideal) S8x1280 .f32))
    (c : Fin 8) (k : Fin 1280) (hk : k.val < o ∨ o + 256 ≤ k.val) :
    View.canon (Val := Elt Ideal) (s := S8x1280) (e := .f32) (⟨Rect.unit ![0, o] S8x256.size inb, w⟩ :: L) (ix2 c k)
      = View.canon L (ix2 c k) := by
  refine View.canon_cons_of_not_mem _ _ fun hm => ?_
  have h := (Rect.mem_set_unit (s := S8x1280) (off := ![0, o]) (size := S8x256.size) (inb := inb)).mp hm 1
  have h1 : o ≤ k.val := h.1
  have h2 : k.val < o + 256 := h.2
  omega

/-- Five stores of 256 columns, read back at a column. -/
theorem pieces (f : Fin 5 → FVec Ideal S8x256 .f32) (L : List (View.Piece (Elt Ideal) S8x1280 .f32))
    (b : Fin 5) (c : Fin 8) (e : Fin 256) :
    View.canon (Val := Elt Ideal) (s := S8x1280) (e := .f32)
      (⟨Rect.unit ![0, 1024] S8x256.size inb_S8x1280_S8x256_0_1024, f 4⟩ ::
       ⟨Rect.unit ![0, 768] S8x256.size inb_S8x1280_S8x256_0_768, f 3⟩ ::
       ⟨Rect.unit ![0, 512] S8x256.size inb_S8x1280_S8x256_0_512, f 2⟩ ::
       ⟨Rect.unit ![0, 256] S8x256.size inb_S8x1280_S8x256_0_256, f 1⟩ ::
       ⟨Rect.unit ![0, 0] S8x256.size inb_S8x1280_S8x256_0_0, f 0⟩ :: L) (ix2 c (col b e)) = f b (ix2 c e) := by
  have he := e.isLt
  match b with
  | ⟨0, _⟩ => exact (piece_miss 1024 _ _ _ c (col 0 e) (Or.inl (by show 256 * 0 + e.val < 1024; omega))).trans ((piece_miss 768 _ _ _ c (col 0 e) (Or.inl (by show 256 * 0 + e.val < 768; omega))).trans ((piece_miss 512 _ _ _ c (col 0 e) (Or.inl (by show 256 * 0 + e.val < 512; omega))).trans ((piece_miss 256 _ _ _ c (col 0 e) (Or.inl (by show 256 * 0 + e.val < 256; omega))).trans (piece_hit 0 _ _ _ c e (col 0 e) rfl))))
  | ⟨1, _⟩ => exact (piece_miss 1024 _ _ _ c (col 1 e) (Or.inl (by show 256 * 1 + e.val < 1024; omega))).trans ((piece_miss 768 _ _ _ c (col 1 e) (Or.inl (by show 256 * 1 + e.val < 768; omega))).trans ((piece_miss 512 _ _ _ c (col 1 e) (Or.inl (by show 256 * 1 + e.val < 512; omega))).trans (piece_hit 256 _ _ _ c e (col 1 e) rfl)))
  | ⟨2, _⟩ => exact (piece_miss 1024 _ _ _ c (col 2 e) (Or.inl (by show 256 * 2 + e.val < 1024; omega))).trans ((piece_miss 768 _ _ _ c (col 2 e) (Or.inl (by show 256 * 2 + e.val < 768; omega))).trans (piece_hit 512 _ _ _ c e (col 2 e) rfl))
  | ⟨3, _⟩ => exact (piece_miss 1024 _ _ _ c (col 3 e) (Or.inl (by show 256 * 3 + e.val < 1024; omega))).trans (piece_hit 768 _ _ _ c e (col 3 e) rfl)
  | ⟨4, _⟩ => exact piece_hit 1024 _ _ _ c e (col 4 e) rfl

variable (m : (ℓ : Loc nD τ Cert.KernelIdeal.sig) → Buf (Elt Ideal) ℓ)

/-- What a point leaves: its output rows, the last three projected tokens, and the state after its last token. -/
structure Holds (W : Wts) (X : ℕ → Fin 1024 → EReal) (B : ℕ) (o : FVec Ideal S512x1024 .f32) (T : FVec Ideal S24x1280 .f32)
    (H : FVec Ideal S8x1280 .f32) : Prop where
  out : ∀ (r : Fin 512) d, o (ix2 r d) = outS W maskS (X (B + r.val))
    (fun s => X (B + (r.val / 128 * 128 + s.val))) ⟨r.val % 128, by omega⟩ (hst W X (B + r.val + 1)) d
  tail : ∀ (q : Fin 3) (e : Fin 1280), T (ix2 (row8 3 q 7) e) = xpad W X (B + 512 + q.val) e
  carry : ∀ (k : Fin 8) (b : Fin 5) (e : Fin 256), H (ix2 k (col b e)) = hst W X (B + 512) (col b e)

/-- A point over buffers that hold its sequence's earlier tokens. -/
theorem point_holds {A : Lds Ideal} {W : Wts} {X : ℕ → Fin 1024 → EReal} {B : ℕ} (R : Reads A W X B)
    (T : FVec Ideal S24x1280 .f32) (H : FVec Ideal S8x1280 .f32) (L : List (View.Piece (Elt Ideal) S8x1280 .f32))
    (hT : ∀ (q : Fin 3) (e : Fin 1280), T (ix2 (row8 3 q 7) e) = xpad W X (B + q.val) e)
    (hH : ∀ (b : Fin 5) (k : Fin 8) (e : Fin 256), H (ix2 k (col b e)) = hst W X B (col b e)) :
    Holds W X B (tileOut (F := Ideal) A (hTok (F := Ideal) A.x A.g) (hStep (F := Ideal) A.x A.g) T (cyBlk (F := Ideal) H)) (tileTail (F := Ideal) A (hStep (F := Ideal) A.x A.g))
      (View.canon (Val := Elt Ideal) (s := S8x1280) (e := .f32)
      (⟨Rect.unit ![0, 1024] S8x256.size inb_S8x1280_S8x256_0_1024, tileCarry (F := Ideal) A (hStep (F := Ideal) A.x A.g) T (cyBlk (F := Ideal) H) 4⟩ ::
       ⟨Rect.unit ![0, 768] S8x256.size inb_S8x1280_S8x256_0_768, tileCarry (F := Ideal) A (hStep (F := Ideal) A.x A.g) T (cyBlk (F := Ideal) H) 3⟩ ::
       ⟨Rect.unit ![0, 512] S8x256.size inb_S8x1280_S8x256_0_512, tileCarry (F := Ideal) A (hStep (F := Ideal) A.x A.g) T (cyBlk (F := Ideal) H) 2⟩ ::
       ⟨Rect.unit ![0, 256] S8x256.size inb_S8x1280_S8x256_0_256, tileCarry (F := Ideal) A (hStep (F := Ideal) A.x A.g) T (cyBlk (F := Ideal) H) 1⟩ ::
       ⟨Rect.unit ![0, 0] S8x256.size inb_S8x1280_S8x256_0_0, tileCarry (F := Ideal) A (hStep (F := Ideal) A.x A.g) T (cyBlk (F := Ideal) H) 0⟩ :: L)) where
  out r d := tileOut_apply R T (cyBlk (F := Ideal) H) hT (fun b k e => (cyBlk_apply H b k e).trans (hH b k e)) r d
  tail q e := tileTail_apply R q e
  carry k b e := (pieces (fun b => tileCarry (F := Ideal) A (hStep (F := Ideal) A.x A.g) T (cyBlk (F := Ideal) H) b) L b k e).trans
    (tileCarry_apply R T (cyBlk (F := Ideal) H) hT (fun b k e => (cyBlk_apply H b k e).trans (hH b k e)) b k e)

/-- After grid point `n`. -/
abbrev After (c : Dev nD) (n : ℕ) (o : Vec Ideal S512x1024 .f32 × Vec Ideal S24x1280 .f32 × Vec Ideal S8x1280 .f32) : Prop :=
  Holds (WK m c) (XK m c (n / 8)) (512 * (n % 8)) o.1 o.2.1 o.2.2

theorem holds_congr {W : Wts} {X : ℕ → Fin 1024 → EReal} {B : ℕ}
    {o : Vec Ideal S512x1024 .f32 × Vec Ideal S24x1280 .f32 × Vec Ideal S8x1280 .f32}
    {a a' : Vec Ideal S512x1024 .f32} {b b' : Vec Ideal S24x1280 .f32} {d d' : Vec Ideal S8x1280 .f32}
    (h : o = (a, b, d)) (ha : a = a') (hb : b = b') (hd : d = d') (hp : Holds W X B a' b' d') :
    Holds W X B o.1 o.2.1 o.2.2 := by
  subst h ha hb hd; exact hp

theorem tail_zero (W : Wts) (X : ℕ → Fin 1024 → EReal) (B : ℕ) (h0 : B = 0) (q : Fin 3) (e : Fin 1280) :
    (k0_pay2 (F := Ideal)) (ix2 (row8 3 q 7) e) = xpad W X (B + q.val) e := by
  have hq := q.isLt
  refine (zeroTail _).trans ?_
  unfold xpad
  rw [h0, if_neg (by omega)]

theorem carry_zero (W : Wts) (X : ℕ → Fin 1024 → EReal) (B : ℕ) (h0 : B = 0) (b : Fin 5) (k : Fin 8) (e : Fin 256) :
    (k0_pay3 (F := Ideal)) (ix2 k (col b e)) = hst W X B (col b e) := by
  refine (zeroCarry _).trans ?_
  rw [h0]; rfl

theorem holds_A (c : Dev nD) (t : Fin cfg0.N) (h0 : t.val % 8 = 0) :
    After m c t.val (outsAt0 m c t.val t.isLt) :=
  holds_congr (outsAt0_A m c t h0) (by apply outA) (by apply tailA) (by apply carryA)
    (point_holds (A := ldsK m c t) (reads m c t) (k0_pay2 (F := Ideal)) (k0_pay3 (F := Ideal)) _
      (tail_zero _ _ _ (by omega)) (carry_zero _ _ _ (by omega)))

theorem tail_prev {W : Wts} {X X' : ℕ → Fin 1024 → EReal} {B B' : ℕ} {o T H} (ih : Holds W X' B' o T H) (hX : X' = X)
    (hB : B' + 512 = B) (q : Fin 3) (e : Fin 1280) : T (ix2 (row8 3 q 7) e) = xpad W X (B + q.val) e := by
  subst hX hB; exact ih.tail q e

theorem carry_prev {W : Wts} {X X' : ℕ → Fin 1024 → EReal} {B B' : ℕ} {o T H} (ih : Holds W X' B' o T H) (hX : X' = X)
    (hB : B' + 512 = B) (b : Fin 5) (k : Fin 8) (e : Fin 256) : H (ix2 k (col b e)) = hst W X B (col b e) := by
  subst hX hB; exact ih.carry k b e

theorem holds_B (c : Dev nD) (t : Fin cfg0.N) (h0 : ¬t.val % 8 = 0)
    (ih : After m c (t.val - 1) (outsAt0 m c (t.val - 1) (Nat.lt_of_le_of_lt (Nat.sub_le _ _) t.isLt))) :
    After m c t.val (outsAt0 m c t.val t.isLt) := by
  have e1 : (t.val - 1) / 8 = t.val / 8 := by omega
  have e2 : 512 * ((t.val - 1) % 8) + 512 = 512 * (t.val % 8) := by omega
  exact holds_congr (outsAt0_B m c t h0) (by apply outB) (by apply tailB) (by apply carryB)
    (point_holds (A := ldsK m c t) (reads m c t) (outsAt0 m c (t.val - 1) (Nat.lt_of_le_of_lt (Nat.sub_le _ _) t.isLt)).2.1
      (outsAt0 m c (t.val - 1) (Nat.lt_of_le_of_lt (Nat.sub_le _ _) t.isLt)).2.2 []
      (tail_prev ih (by rw [e1]) e2) (carry_prev ih (by rw [e1]) e2))

/-- Every point leaves what the layer says. -/
theorem holds (c : Dev nD) (n : ℕ) (hn : n < cfg0.N) :
    After m c n (outsAt0 m c n hn) := by
  induction n with
  | zero => exact holds_A m c ⟨0, hn⟩ rfl
  | succ n ih =>
    by_cases h0 : (n + 1) % 8 = 0
    · exact holds_A m c ⟨n + 1, hn⟩ h0
    · exact holds_B m c ⟨n + 1, hn⟩ h0 (ih _)

/-- The output buffer, row by row. -/
theorem G15_apply (c : Dev nD) (n : Fin 16384) (d : Fin 1024) :
    (G15 m c : FVec Ideal S16384x1024 .f32) (ix2 n d)
      = outS (WK m c) maskS (XK m c (n.val / 4096) (n.val % 4096))
          (fun s => XK m c (n.val / 4096) (n.val % 4096 / 128 * 128 + s.val)) ⟨n.val % 4096 % 128, by omega⟩
          (hst (WK m c) (XK m c (n.val / 4096)) (n.val % 4096 + 1)) d := by
  have hn := n.isLt
  have hd := d.isLt
  have hp : pt15Of (ix2 n d) = n.val / 512 := by
    show 1 * (n.val / 512 - 0) + 1 * (d.val / 1024 - 0) = n.val / 512
    omega
  have hl : pt15Of (ix2 n d) < cfg0.N := by rw [hp]; show n.val / 512 < 32; omega
  have hloc : loc15Of (ix2 n d) = ix2 (⟨n.val % 512, by omega⟩ : Fin 512) d := by
    funext a; apply Fin.ext
    match a with
    | ⟨0, _⟩ => rfl
    | ⟨1, _⟩ => exact Nat.mod_eq_of_lt hd
  unfold G15
  rw [dif_pos hl, ← outsAt0_sweep m c _ hl, hloc]
  refine ((holds m c _ hl).out ⟨n.val % 512, by omega⟩ d).trans ?_
  have a1 : pt15Of (ix2 n d) / 8 = n.val / 4096 := by rw [hp]; omega
  have a2 : 512 * (pt15Of (ix2 n d) % 8) + n.val % 512 = n.val % 4096 := by rw [hp]; omega
  have a3 : ∀ s : Fin 128, 512 * (pt15Of (ix2 n d) % 8) + (n.val % 512 / 128 * 128 + s.val) = n.val % 4096 / 128 * 128 + s.val := by
    intro s; rw [hp]; omega
  have a4 : (⟨n.val % 512 % 128, by omega⟩ : Fin 128) = ⟨n.val % 4096 % 128, by omega⟩ := Fin.ext (by show n.val % 512 % 128 = n.val % 4096 % 128; omega)
  simp only [a1, a2, a3, a4]

end Cert.Layer.Mix

end
-- ==== Proof.RefRun.lean ====
/-
  The run of the idealized reference in terms of a trip of its recurrence: the state of the recurrence before trip `k`
  is the `k`-th member of any sequence that goes on by `Step.step`, and the result is `Step.R_main_v254` of the last.
-/
module

public import proofs.«01_k».proof.Proof.Gen.ReferenceIdeal.Run
public import proofs.«01_k».proof.Proof.Gen.ReferenceIdeal.Step

@[expose] public section

noncomputable section

namespace Cert.Mixer.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The contents `W` of the buffers before trip `n`: the recurrence's state, its two inputs and the counter. -/
structure Before (W : Valuation τ sig (Elt F)) (s : State F) (n : ℕ) : Prop where
  state : W (Proc.devRef .tc main_v113_3) = s.main_v113_3
  states : W (Proc.devRef .tc main_v113_4) = s.main_v113_4
  decay : W (Proc.devRef .tc main_v113_0) = s.main_v113_0
  input : W (Proc.devRef .tc main_v113_1) = s.main_v113_1
  count : W (Proc.devRef .tc main_v113_2) = constantI S_ 32 (BitVec.ofNat 32 n)

variable {W : Valuation τ sig (Elt F)} {s : State F} {n : ℕ}

set_option maxRecDepth 8192 in
/-- The new state of a trip. -/
theorem new_state (h : Before W s n) : res_main_while0b_v258 W = Step.b9 n s := by
  unfold res_main_while0b_v258 Step.b9 Step.b8 Step.b7 Step.b3 Step.b6 Step.b2
  rw [h.state, h.decay, h.input, h.count]
  rfl

set_option maxRecDepth 8192 in
/-- The states so far, with the new one written in. -/
theorem new_states (h : Before W s n) : step_main_v113_4 W = Step.b13 n s := by
  unfold step_main_v113_4 Step.b13 Step.b10
  rw [← new_state h, ← h.states]
  have hc := h.count
  generalize W (Proc.devRef .tc main_v113_2) = w at hc ⊢
  subst hc
  rfl

/-- A trip keeps the correspondence, one trip on. -/
theorem Before.trip (h : Before W s n) : Before (STEP W) (step n s) (n + 1) where
  state := (STEP_main_v113_3 W).trans (new_state h)
  states := (STEP_main_v113_4 W).trans (new_states h)
  decay := (STEP_main_v113_0 W).trans h.decay
  input := (STEP_main_v113_1 W).trans h.input
  count := (STEP_main_v113_2 W).trans (by
    unfold step_main_v113_2
    rw [h.count]
    funext i
    show BitVec.ofNat 32 n + 1#32 = BitVec.ofNat 32 (n + 1)
    simp only [BitVec.ofNat_add])

variable (m : (ℓ : Loc nD τ sig) → Buf (Elt F) ℓ) (c : Dev nD)

/-- The state before the first trip, of the arguments. -/
abbrev first : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

set_option maxRecDepth 65536 in
set_option maxHeartbeats 600000 in
/-- The operations before the loop leave the first state. -/
theorem before_first : Before (entryContents preI m c) (first m c) 0 := by
  constructor <;> (simp only [entryContents, afterL_cons, afterL_nil]; after_reads_simp) <;> rfl

/-- Before trip `k` the buffers hold the `k`-th state. -/
theorem before_trip (seq : ℕ → State F) (h0 : seq 0 = first m c) (hs : ∀ k, seq (k + 1) = step k (seq k)) (k : ℕ) :
    Before (STEP^[k] (entryContents preI m c)) (seq k) k := by
  induction k with
  | zero => rw [h0]; exact before_first m c
  | succ k ih => rw [Function.iterate_succ_apply', hs k]; exact ih.trip

set_option maxRecDepth 8192 in
/-- The operations after the loop, of the last state and the arguments. -/
theorem result_of (h : Before W s n) {x_main_arg0 : (⟨S4x4096x1024, .f32⟩ : BufTy).Contents (Elt F)} (h_main_arg0 : W (Proc.devRef .tc main_arg0) = x_main_arg0) {x_main_arg1 : (⟨S2x1024, .f32⟩ : BufTy).Contents (Elt F)} (h_main_arg1 : W (Proc.devRef .tc main_arg1) = x_main_arg1) {x_main_arg2 : (⟨S2x1024x6656, .f32⟩ : BufTy).Contents (Elt F)} (h_main_arg2 : W (Proc.devRef .tc main_arg2) = x_main_arg2) {x_main_arg10 : (⟨S2x1024, .f32⟩ : BufTy).Contents (Elt F)} (h_main_arg10 : W (Proc.devRef .tc main_arg10) = x_main_arg10) {x_main_arg11 : (⟨S2x1024, .f32⟩ : BufTy).Contents (Elt F)} (h_main_arg11 : W (Proc.devRef .tc main_arg11) = x_main_arg11) {x_main_arg12 : (⟨S2x8x128x128, .f32⟩ : BufTy).Contents (Elt F)} (h_main_arg12 : W (Proc.devRef .tc main_arg12) = x_main_arg12) {x_main_arg13 : (⟨S2x8x128, .f32⟩ : BufTy).Contents (Elt F)} (h_main_arg13 : W (Proc.devRef .tc main_arg13) = x_main_arg13) {x_main_arg14 : (⟨S2x1280x1024, .f32⟩ : BufTy).Contents (Elt F)} (h_main_arg14 : W (Proc.devRef .tc main_arg14) = x_main_arg14) {x_main_arg15 : (⟨S2x1024x1024, .f32⟩ : BufTy).Contents (Elt F)} (h_main_arg15 : W (Proc.devRef .tc main_arg15) = x_main_arg15) {x_main_arg16 : (⟨S2x1024x1024, .f32⟩ : BufTy).Contents (Elt F)} (h_main_arg16 : W (Proc.devRef .tc main_arg16) = x_main_arg16) : out_main_v254 W = Cert.ReferenceIdeal.Step.R_main_v254 s x_main_arg0 x_main_arg1 x_main_arg2 x_main_arg10 x_main_arg11 x_main_arg12 x_main_arg13 x_main_arg14 x_main_arg15 x_main_arg16 := by
  unfold out_main_v254 Cert.ReferenceIdeal.Step.R_main_v254
  rw [h.states, h_main_arg0, h_main_arg1, h_main_arg2, h_main_arg10, h_main_arg11, h_main_arg12, h_main_arg13, h_main_arg14, h_main_arg15, h_main_arg16]
  try rfl

/-- The reference ends with its result made of the last state of the recurrence, its arguments unchanged. -/
theorem run (m : (ℓ : Loc nD τ sig) → Buf (Elt F) ℓ) (ρ : Dev nD → PrngReg) (seq : Dev nD → ℕ → State F)
    (h0 : ∀ c, seq c 0 = first m c) (hs : ∀ c n, seq c (n + 1) = step n (seq c n)) :
    θ_run (defs (F := F)) (onTc (τ := τ) (main (F := F))) ⟨m, fun _ => 0, ρ⟩ fun r => ∀ c : Dev nD,
      r.2.mem ((c.tc : Thread nD τ).loc main_v254) = Cert.ReferenceIdeal.Step.R_main_v254 (seq c 4096) (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
    have hk := before_trip m c (seq c) (h0 c) (hs c) 4096
    ⟨(h c).1.trans (result_of hk (iter_main_arg0 m c 4096) (iter_main_arg1 m c 4096) (iter_main_arg2 m c 4096) (iter_main_arg10 m c 4096) (iter_main_arg11 m c 4096) (iter_main_arg12 m c 4096) (iter_main_arg13 m c 4096) (iter_main_arg14 m c 4096) (iter_main_arg15 m c 4096) (iter_main_arg16 m c 4096)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩) (Value.run m ρ)

end Cert.Mixer.RefRun

end
-- ==== Proof.MixRef.lean ====
/- The mixer reference's values, read at an index: the decays and inputs of the recurrence are those of the sequence. -/
module

public import proofs.«01_k».proof.Proof.RefRun
public import proofs.«01_k».proof.Proof.MixSpec
public import Idealize.ShloMosaic.Lib.Pointwise

@[expose] public section

noncomputable section

namespace Cert.Layer.MixR

open Cert.ReferenceIdeal Cert.ReferenceIdeal.Gen Idealize.ShloMosaic Idealize.ShloMosaic.TcCoe
open Idealize.SL.Sem Idealize.ShloMosaic.StableHlo
open Idealize.ShloMosaic.Pointwise
open Cert.ReferenceIdeal.Step

/-- The reference's arguments. -/
structure Args where
  x : FVec Ideal S4x4096x1024 .f32
  g : FVec Ideal S2x1024 .f32
  win : FVec Ideal S2x1024x6656 .f32
  cw : FVec Ideal S2x4x1280 .f32
  cb : FVec Ideal S2x1280 .f32
  wr : FVec Ideal S2x20x64x64 .f32
  br : FVec Ideal S2x20x64 .f32
  wi : FVec Ideal S2x20x64x64 .f32
  bi : FVec Ideal S2x20x64 .f32
  lam : FVec Ideal S2x1280 .f32
  lng : FVec Ideal S2x1024 .f32
  lnb : FVec Ideal S2x1024 .f32
  ws : FVec Ideal S2x8x128x128 .f32
  bs : FVec Ideal S2x8x128 .f32
  wa : FVec Ideal S2x1280x1024 .f32
  wb : FVec Ideal S2x1024x1024 .f32
  wo : FVec Ideal S2x1024x1024 .f32

/-- The second layer's weights. -/
def Args.W (A : Args) : Wts where
  g k := A.g (ix2 1 k)
  win k e := A.win (ix3 1 k e)
  cw k e := A.cw (ix3 1 k e)
  cb e := A.cb (ix2 1 e)
  wr h i e := A.wr (ix4 1 h i e)
  br h e := A.br (ix3 1 h e)
  wi h i e := A.wi (ix4 1 h i e)
  bi h e := A.bi (ix3 1 h e)
  lam e := A.lam (ix2 1 e)
  lng k := A.lng (ix2 1 k)
  lnb k := A.lnb (ix2 1 k)
  ws g t s := A.ws (ix4 1 g t s)
  bs g t := A.bs (ix3 1 g t)
  wa e d := A.wa (ix3 1 e d)
  wb k d := A.wb (ix3 1 k d)
  wo k d := A.wo (ix3 1 k d)

/-- Row `p` of sequence `b`. -/
def Args.row (A : Args) (b : Fin 4) (p : Fin 4096) (k : Fin 1024) : EReal := A.x (ix3 b p k)

/-- The rows of sequence `b`. -/
def Args.X (A : Args) (b : Fin 4) (p : ℕ) (k : Fin 1024) : EReal := if h : p < 4096 then A.x (ix3 b ⟨p, h⟩ k) else 0

theorem Args.X_val (A : Args) (b : Fin 4) (p : Fin 4096) : A.X b p.val = A.row b p := by
  funext k; exact dif_pos p.isLt

variable (A : Args)

theorem v14_apply (b : Fin 4) (p : Fin 4096) (k : Fin 1024) :
    (A_main_v14 (F := Ideal) A.x A.g A.win A.cw A.cb A.wr A.br A.wi A.bi A.lam : FVec Ideal S4x4096x1024 .f32) (ix3 b p k)
      = rmsRow (fun k => A.x (ix3 b p k)) (fun k => A.g (ix2 1 k)) k := by
  pointwise [A_main_v14, A_main_v13, A_main_v12, A_main_v11, A_main_v10, A_main_v9, A_main_v8, A_main_v6, A_main_v4, A_main_v3, A_main_v2, A_main_v1, A_main_v0, K_main_cst, K_main_cst_0, K_main_v5, K_main_cst_1, K_main_v7, rmsRow]

theorem v18_apply (b : Fin 4) (p : Fin 4096) (e : Fin 1280) :
    (A_main_v18 (F := Ideal) A.x A.g A.win A.cw A.cb A.wr A.br A.wi A.bi A.lam : FVec Ideal S4x4096x1280 .f32) (ix3 b p e)
      = proj A.W (A.row b p) (colX e) := by
  pointwise [A_main_v18, A_main_v17, A_main_v16, A_main_v15, v14_apply]
  rfl

theorem v28_apply (b : Fin 4) (p : Fin 4099) (e : Fin 1280) :
    (A_main_v28 (F := Ideal) A.x A.g A.win A.cw A.cb A.wr A.br A.wi A.bi A.lam : FVec Ideal S4x4099x1280 .f32) (ix3 b p e)
      = xpad A.W (A.X b) p.val e := by
  pointwise [A_main_v28, K_main_call0_v0, K_main_c, v18_apply]
  have hp := p.isLt
  unfold xpad
  by_cases h : 3 ≤ p.val
  · rw [if_pos h, dif_pos ⟨h, by omega⟩]
    exact congrArg (fun r => proj A.W r (colX e)) (A.X_val b ⟨p.val - 3, by omega⟩).symm
  · rw [if_neg h, dif_neg (fun h' => h h'.1)]
    show (((0#32 : BitVec 32).toInt : ℝ) : EReal) = 0
    simp

theorem v58_apply (b : Fin 4) (p : Fin 4096) (e : Fin 1280) :
    (A_main_v58 (F := Ideal) A.x A.g A.win A.cw A.cb A.wr A.br A.wi A.bi A.lam : FVec Ideal S4x4096x1280 .f32) (ix3 b p e)
      = conv A.W (A.X b) p.val e := by
  pointwise [A_main_v58, A_main_v57, A_main_v56, A_main_v55, A_main_v54, A_main_v53, A_main_v52, A_main_v51, A_main_v50, A_main_v49,
    A_main_v48, A_main_v47, A_main_v46, A_main_v45, A_main_v44, A_main_v43, A_main_v42, A_main_v41, A_main_v40, A_main_v39, A_main_v38,
    A_main_v37, A_main_v36, A_main_v35, A_main_v34, A_main_v33, A_main_v32, A_main_v31, A_main_v30, A_main_v29, A_main_v27, A_main_v26,
    A_main_v25, A_main_v24, v28_apply]
  rfl

theorem v80_apply (b : Fin 4) (p : Fin 4096) (h : Fin 20) (e : Fin 64) :
    (A_main_v80 (F := Ideal) A.x A.g A.win A.cw A.cb A.wr A.br A.wi A.bi A.lam : FVec Ideal S4x4096x20x64 .f32) (ix4 b p h e)
      = gate A.W (A.X b) A.W.wr A.W.br p.val h e := by
  pointwise [A_main_v80, A_main_v78, A_main_v76, A_main_v75, A_main_v74, A_main_v73, A_main_v72, A_main_v71, A_main_v70, A_main_v69, A_main_v62, A_main_v61,
     A_main_v60, A_main_v59, K_main_v77, K_main_v79, K_main_cst_2, K_main_cst_3, v58_apply]
  rfl

theorem v92_apply (b : Fin 4) (p : Fin 4096) (h : Fin 20) (e : Fin 64) :
    (A_main_v92 (F := Ideal) A.x A.g A.win A.cw A.cb A.wr A.br A.wi A.bi A.lam : FVec Ideal S4x4096x20x64 .f32) (ix4 b p h e)
      = gate A.W (A.X b) A.W.wi A.W.bi p.val h e := by
  pointwise [A_main_v92, A_main_v90, A_main_v88, A_main_v87, A_main_v86, A_main_v85, A_main_v84, A_main_v83, A_main_v82, A_main_v69, A_main_v66, A_main_v65,
     A_main_v64, A_main_v63, K_main_v89, K_main_v91, K_main_cst_4, K_main_cst_5, v58_apply]
  rfl

theorem v97_apply (e : Fin 1280) :
    (A_main_v97 (F := Ideal) A.x A.g A.win A.cw A.cb A.wr A.br A.wi A.bi A.lam : FVec Ideal S1280 .f32) (ix1 e)
      = spl A.W e := by
  pointwise [A_main_v97, A_main_call1_v11, A_main_call1_v10, A_main_call1_v9, A_main_call1_v8, A_main_call1_v7, A_main_call1_v6, A_main_call1_v4, A_main_call1_v3, A_main_call1_v1, A_main_v96, A_main_v68, A_main_v67, K_main_call1_cst, K_main_call1_v0, K_main_call1_v2, K_main_call1_v5]
  exact if_neg (fun h => h rfl)

theorem v100_apply (b : Fin 4) (p : Fin 4096) (e : Fin 1280) :
    (A_main_v100 (F := Ideal) A.x A.g A.win A.cw A.cb A.wr A.br A.wi A.bi A.lam : FVec Ideal S4x4096x1280 .f32) (ix3 b p e)
      = lgd A.W (A.X b) p.val e := by
  pointwise [A_main_v100, A_main_v99, A_main_v98, A_main_v95, K_main_v94, K_main_cst_6, A_main_v81, v80_apply, v97_apply]
  rfl

/-- The decays. -/
theorem v110_apply (b : Fin 4) (p : Fin 4096) (e : Fin 1280) :
    (A_main_v110 (F := Ideal) A.x A.g A.win A.cw A.cb A.wr A.br A.wi A.bi A.lam : FVec Ideal S4096x4x1280 .f32) (ix3 p b e)
      = dcy A.W (A.X b) p.val e := by
  pointwise [A_main_v110, A_main_v101, v100_apply, dcy]

/-- The recurrence's inputs. -/
theorem v111_apply (b : Fin 4) (p : Fin 4096) (e : Fin 1280) :
    (A_main_v111 (F := Ideal) A.x A.g A.win A.cw A.cb A.wr A.br A.wi A.bi A.lam : FVec Ideal S4096x4x1280 .f32) (ix3 p b e)
      = rin A.W (A.X b) p.val e := by
  pointwise [A_main_v111, A_main_v108, A_main_v107, A_main_v106, A_main_v105, A_main_v104, A_main_v103, K_main_v102, K_main_cst_7, A_main_v93, v100_apply, v92_apply, v58_apply]
  rfl

/-- The reference's recurrence before trip `n`. -/
def seqS (A : Args) : ℕ → State Ideal
  | 0 => init A.x A.g A.win A.cw A.cb A.wr A.br A.wi A.bi A.lam
  | n + 1 => step n (seqS A n)

/-- Where a trip's slices begin. -/
abbrev starts (j : ℕ) : Fin 3 → ℤ := fun k =>
  (((![constantI S_ 32 (BitVec.ofNat 32 j), constantI S_ 32 0#32, constantI S_ 32 0#32] : Fin 3 → IVec S_ 32) k
    (Shape.Idx.first h_S_))).toInt

theorem start0 (j : ℕ) (h : j < 4096) (ht) : Host.clampedStart S4096x4x1280 S1x4x1280 ht (starts j) 0 = j := by
  refine Host.clampedStart_of_le ht _ _ j ?_ ?_
  · show (BitVec.ofNat 32 j).toInt = (j : ℤ)
    rw [BitVec.toInt_eq_toNat_of_lt] <;> rw [BitVec.toNat_ofNat, Nat.mod_eq_of_lt (by omega)] <;> omega
  · show j + 1 ≤ 4096; omega

theorem start1 (j : ℕ) (ht) : Host.clampedStart S4096x4x1280 S1x4x1280 ht (starts j) 1 = 0 :=
  Host.clampedStart_of_le ht _ _ 0 rfl (show 0 + 4 ≤ 4 by decide)

theorem start2 (j : ℕ) (ht) : Host.clampedStart S4096x4x1280 S1x4x1280 ht (starts j) 2 = 0 :=
  Host.clampedStart_of_le ht _ _ 0 rfl (show 0 + 1280 ≤ 1280 by decide)

theorem b3_apply (s : State Ideal) (j : ℕ) (h : j < 4096) (b : Fin 4) (e : Fin 1280) :
    (b3 (F := Ideal) j s : FVec Ideal S4x1280 .f32) (ix2 b e) = (s.main_v113_0 : FVec Ideal S4096x4x1280 .f32) (ix3 ⟨j, h⟩ b e) := by
  pointwise [b3, b2, b1, b0]
  simp only [start0 j h, start1 j, start2 j, Nat.zero_add]

theorem b7_apply (s : State Ideal) (j : ℕ) (h : j < 4096) (b : Fin 4) (e : Fin 1280) :
    (b7 (F := Ideal) j s : FVec Ideal S4x1280 .f32) (ix2 b e) = (s.main_v113_1 : FVec Ideal S4096x4x1280 .f32) (ix3 ⟨j, h⟩ b e) := by
  pointwise [b7, b6, b5, b4]
  simp only [start0 j h, start1 j, start2 j, Nat.zero_add]

theorem b13_apply (s : State Ideal) (j : ℕ) (h : j < 4096) (q : Fin 4096) (b : Fin 4) (e : Fin 1280) :
    (b13 (F := Ideal) j s : FVec Ideal S4096x4x1280 .f32) (ix3 q b e)
      = if q.val = j then (b9 (F := Ideal) j s : FVec Ideal S4x1280 .f32) (ix2 b e)
        else (s.main_v113_4 : FVec Ideal S4096x4x1280 .f32) (ix3 q b e) := by
  pointwise [b13, b12, b11, b10]
  by_cases hq : q.val = j
  · rw [if_pos hq, dif_pos]
    · simp only [start1 j, start2 j, Nat.sub_zero]
    · rw [start0 j h, start1 j, start2 j]; omega
  · rw [if_neg hq, dif_neg]
    rw [start0 j h, start1 j, start2 j]; omega

theorem b9_apply (s : State Ideal) (j : ℕ) (b : Fin 4) (e : Fin 1280) :
    (b9 (F := Ideal) j s : FVec Ideal S4x1280 .f32) (ix2 b e)
      = (b3 (F := Ideal) j s : FVec Ideal S4x1280 .f32) (ix2 b e) * (s.main_v113_3 : FVec Ideal S4x1280 .f32) (ix2 b e)
        + (b7 (F := Ideal) j s : FVec Ideal S4x1280 .f32) (ix2 b e) := by
  pointwise [b9, b8]

/-- Before trip `n` the recurrence holds the state before token `n`, and the states of the tokens so far. -/
theorem seqS_eq (n : ℕ) (hn : n ≤ 4096) :
    (seqS A n).main_v113_0 = (init (F := Ideal) A.x A.g A.win A.cw A.cb A.wr A.br A.wi A.bi A.lam).main_v113_0
    ∧ (seqS A n).main_v113_1 = (init (F := Ideal) A.x A.g A.win A.cw A.cb A.wr A.br A.wi A.bi A.lam).main_v113_1
    ∧ (∀ b e, ((seqS A n).main_v113_3 : FVec Ideal S4x1280 .f32) (ix2 b e) = hst A.W (A.X b) n e)
    ∧ ∀ (q : Fin 4096) b e, q.val < n →
      ((seqS A n).main_v113_4 : FVec Ideal S4096x4x1280 .f32) (ix3 q b e) = hst A.W (A.X b) (q.val + 1) e := by
  induction n with
  | zero =>
    refine ⟨rfl, rfl, fun b e => ?_, fun q b e h => absurd h (Nat.not_lt_zero _)⟩
    show (K_main_v109 (F := Ideal) : FVec Ideal S4x1280 .f32) (ix2 b e) = 0
    pointwise [K_main_v109, K_main_cst_8]
  | succ n ih =>
    obtain ⟨i0, i1, i3, i4⟩ := ih (by omega)
    have hs : ∀ b e, (b9 (F := Ideal) n (seqS A n) : FVec Ideal S4x1280 .f32) (ix2 b e) = hst A.W (A.X b) (n + 1) e := by
      intro b e
      rw [b9_apply, b3_apply _ n (by omega), b7_apply _ n (by omega), i0, i1, i3]
      show (A_main_v110 (F := Ideal) A.x A.g A.win A.cw A.cb A.wr A.br A.wi A.bi A.lam : FVec Ideal S4096x4x1280 .f32) (ix3 ⟨n, _⟩ b e) * _
        + (A_main_v111 (F := Ideal) A.x A.g A.win A.cw A.cb A.wr A.br A.wi A.bi A.lam : FVec Ideal S4096x4x1280 .f32) (ix3 ⟨n, _⟩ b e) = _
      rw [v110_apply, v111_apply]
      rfl
    refine ⟨i0, i1, fun b e => hs b e, fun q b e h => ?_⟩
    show (b13 (F := Ideal) n (seqS A n) : FVec Ideal S4096x4x1280 .f32) (ix3 q b e) = _
    rw [b13_apply _ n (by omega)]
    split
    · rename_i hq; rw [hs, hq]
    · exact i4 q b e (by omega)

end Cert.Layer.MixR

end
-- ==== Proof.MixRefOut.lean ====
/- The mixer reference's result, read at an index. -/
module

public import proofs.«01_k».proof.Proof.MixRef

@[expose] public section

noncomputable section

namespace Cert.Layer.MixR

open Cert.ReferenceIdeal Cert.ReferenceIdeal.Gen Idealize.ShloMosaic Idealize.ShloMosaic.TcCoe
open Idealize.SL.Sem Idealize.ShloMosaic.StableHlo
open Idealize.ShloMosaic.Pointwise
open Cert.ReferenceIdeal.Step

/-- The chunk of a token in its block, as the reference computes it. -/
def chunkW (n : ℕ) : BitVec 32 :=
  Scalar.select
    (IntOp.andi
      (IntOp.cmpi .ne
        (if BitVec.ofNat 32 n = 0 then (0 : BitVec 32) else if (BitVec.ofNat 32 n).msb = true then -1 else 1)
        (if id (constantI S_ 32 64#32) ix0 = 0 then (0 : BitVec 32) else if (id (constantI S_ 32 64#32) ix0).msb = true then -1 else 1))
      (IntOp.cmpi .ne (IntOp.remsi .host (BitVec.ofNat 32 n) (id (constantI S_ 32 64#32) ix0)) 0#32))
    (IntOp.subi (IntOp.divsi .host (BitVec.ofNat 32 n) (id (constantI S_ 32 64#32) ix0)) 1#32)
    (IntOp.divsi .host (BitVec.ofNat 32 n) (id (constantI S_ 32 64#32) ix0))

/-- The reference's mask. -/
def maskW (t s : Fin 128) : EReal := FloatOps.uitofp (F := Ideal) .f32 (IntOp.cmpi .sge (chunkW t.val) (chunkW s.val))

theorem chunkW_eq : ∀ n : Fin 128, chunkW n.val = BitVec.ofNat 32 (n.val / 64) := by decide +kernel

theorem maskW_eq : maskW = maskS := by
  funext t s
  unfold maskW maskS
  rw [chunkW_eq, chunkW_eq]
  have h : IntOp.cmpi .sge (BitVec.ofNat 32 (t.val / 64)) (BitVec.ofNat 32 (s.val / 64))
      = if s.val / 64 ≤ t.val / 64 then 1#1 else 0#1 := by
    have ht : t.val / 64 = 0 ∨ t.val / 64 = 1 := by have := t.isLt; omega
    have hs : s.val / 64 = 0 ∨ s.val / 64 = 1 := by have := s.isLt; omega
    rcases ht with ht | ht <;> rcases hs with hs | hs <;> rw [ht, hs] <;> decide
  rw [h]
  split
  · show (((1#1 : BitVec 1).toNat : ℝ) : EReal) = 1
    simp
  · show (((0#1 : BitVec 1).toNat : ℝ) : EReal) = 0
    simp

/-- The block of 128 tokens that token `n` is in. -/
def blkRow (n : Fin 16384) (s : Fin 128) : Fin 4096 := ⟨n.val % 4096 / 128 * 128 + s.val, by have := n.isLt; have := s.isLt; omega⟩

theorem row_eq (A : Args) (b : Fin 4) (p : Fin 4096) : A.row b p = fun k => A.x (ix3 b p k) := rfl

theorem logistic_eq (x : EReal) : Ideal.logistic x = sig x := rfl

theorem out_apply (A : Args) (s : State Ideal) (n : Fin 16384) (d : Fin 1024) :
    (R_main_v254 (F := Ideal) s A.x A.g A.win A.lng A.lnb A.ws A.bs A.wa A.wb A.wo : FVec Ideal S16384x1024 .f32) (ix2 n d)
      = outS A.W maskW (A.row ⟨n.val / 4096, by have := n.isLt; omega⟩ ⟨n.val % 4096, by omega⟩)
          (fun s => A.row ⟨n.val / 4096, by have := n.isLt; omega⟩ (blkRow n s)) ⟨n.val % 4096 % 128, by omega⟩
          (fun e => (s.main_v113_4 : FVec Ideal S4096x4x1280 .f32) (ix3 ⟨n.val % 4096, by omega⟩ ⟨n.val / 4096, by have := n.isLt; omega⟩ e)) d := by
  pointwise [R_main_v254]
  simp only [outS, mixedS, vln, gvc, gv, gel, proj, row_eq, Args.W, blkRow, col6, grp, ← logistic_eq, rmsRow, maskW, chunkW]
  rfl

end Cert.Layer.MixR

end
-- ==== Proof.MixFinal.lean ====
/- The mixer's reference, run on the kernel's arguments, ends with what the kernel leaves in its output buffer. -/
module

public import proofs.«01_k».proof.Proof.MixValue
public import proofs.«01_k».proof.Proof.MixRefOut

@[expose] public section

set_option maxRecDepth 16384

noncomputable section

namespace Cert.Layer.Mix

open Cert.KernelIdeal Cert.KernelIdeal.Gen Cert.KernelIdeal.Value Idealize.ShloMosaic Idealize.ShloMosaic.TcCoe
open Idealize.SL.Sem
open Idealize.ShloMosaic.Pointwise
open Cert.Layer.MixR (Args seqS seqS_eq maskW maskW_eq out_apply blkRow)

variable (m : (ℓ : Loc nD τ Cert.KernelIdeal.sig) → Buf (Elt Ideal) ℓ)

/-- The kernel's arguments, as the reference's. -/
def argsK (c : Dev nD) : Args where
  x := arg m c main_arg0
  g := arg m c main_arg1
  win := arg m c main_arg2
  cw := arg m c main_arg3
  cb := arg m c main_arg4
  wr := arg m c main_arg5
  br := arg m c main_arg6
  wi := arg m c main_arg7
  bi := arg m c main_arg8
  lam := arg m c main_arg9
  lng := arg m c main_arg10
  lnb := arg m c main_arg11
  ws := arg m c main_arg12
  bs := arg m c main_arg13
  wa := arg m c main_arg14
  wb := arg m c main_arg15
  wo := arg m c main_arg16

theorem argsK_W (c : Dev nD) : (argsK m c).W = WK m c := rfl

theorem argsK_X (c : Dev nD) (b : Fin 4) : (argsK m c).X b = XK m c b.val := by
  funext p k
  unfold Args.X XK
  by_cases h : p < 4096
  · rw [dif_pos h, dif_pos ⟨b.isLt, h⟩]; rfl
  · rw [dif_neg h, dif_neg (fun h' => h h'.2)]

theorem argsK_row (c : Dev nD) (b : Fin 4) (p : Fin 4096) : (argsK m c).row b p = XK m c b.val p.val := by
  rw [← argsK_X, Args.X_val]

/-- The reference's result, row by row. -/
theorem ref_apply (A : Args) (n : Fin 16384) (d : Fin 1024) :
    (Cert.ReferenceIdeal.Step.R_main_v254 (F := Ideal) (seqS A 4096) A.x A.g A.win A.lng A.lnb A.ws A.bs A.wa A.wb A.wo
        : FVec Ideal S16384x1024 .f32) (ix2 n d)
      = outS A.W maskS (A.row ⟨n.val / 4096, by have := n.isLt; omega⟩ ⟨n.val % 4096, by omega⟩)
          (fun s => A.row ⟨n.val / 4096, by have := n.isLt; omega⟩ (blkRow n s)) ⟨n.val % 4096 % 128, by omega⟩
          (hst A.W (A.X ⟨n.val / 4096, by have := n.isLt; omega⟩) (n.val % 4096 + 1)) d := by
  refine (out_apply A _ n d).trans ?_
  rw [maskW_eq]
  refine congrArg (fun st => outS A.W maskS _ _ _ st d) (funext fun e => ?_)
  exact (seqS_eq A 4096 (Nat.le_refl _)).2.2.2 ⟨n.val % 4096, by omega⟩ _ e (by show n.val % 4096 < 4096; omega)

/-- The two results are equal. -/
theorem result_eq (c : Dev nD) :
    (Cert.ReferenceIdeal.Step.R_main_v254 (F := Ideal) (seqS (argsK m c) 4096) (argsK m c).x (argsK m c).g (argsK m c).win
        (argsK m c).lng (argsK m c).lnb (argsK m c).ws (argsK m c).bs (argsK m c).wa (argsK m c).wb (argsK m c).wo
        : FVec Ideal S16384x1024 .f32)
      = (G15 m c : FVec Ideal S16384x1024 .f32) := by
  funext j
  rw [ValueIdx.eq_ix2 j]
  refine (ref_apply (argsK m c) (j 0) (j 1)).trans (Eq.trans ?_ (G15_apply m c (j 0) (j 1)).symm)
  rw [argsK_row, argsK_X, argsK_W]
  simp only [argsK_row]
  rfl

end Cert.Layer.Mix

end
-- ==== Proof.FfnKernelRows.lean ====
/- What the channel-MLP kernel stores at a grid point, read at an index: row `r` of the block is `ffnRow` of row `r`
   of the point's input block. -/
module

public import proofs.«01_k».proof.Proof.Gen.FfnKernelIdeal.Value
public import proofs.«01_k».proof.Proof.FfnSpec
public import Idealize.ShloMosaic.Lib.Pointwise

@[expose] public section

noncomputable section

namespace Cert.Layer.FfnK

open Cert.FfnKernelIdeal Cert.FfnKernelIdeal.Gen Cert.FfnKernelIdeal.Value Idealize.ShloMosaic Idealize.ShloMosaic.TcCoe
open Idealize.SL.Sem
open Idealize.ShloMosaic.Pointwise

section
variable {F : FTy → Type} [FloatOps F]

/-- The `c`-th block of 1024 columns of the first weight. -/
def wuBlk (w : Vec F S1x1024x4096 .bf16) (off : Fin 3 → ℕ) (inb : ∀ a, off a + S1x1024x1024.size a ≤ S1x1024x4096.size a) :
    Vec F S1x1024x1024 .bf16 := View.ld w (Rect.unit off S1x1024x1024.size inb)

/-- The `c`-th block of 1024 rows of the second weight. -/
def wdBlk (w : Vec F S1x4096x1024 .bf16) (off : Fin 3 → ℕ) (inb : ∀ a, off a + S1x1024x1024.size a ≤ S1x4096x1024.size a) :
    Vec F S1x1024x1024 .bf16 := View.ld w (Rect.unit off S1x1024x1024.size inb)

/-- The block stored at a grid point, as one function of the point's input blocks. -/
def blockOut (x0 : Vec F S1024x1024 .f32) (x1 : Vec F S1x1024 .f32) (x2 : Vec F S1x1024x4096 .bf16)
    (x3 : Vec F S1x4096x1024 .bf16) (x4 : Vec F S1x1024 .f32) : Vec F S1024x1024 .f32 :=
  k0_pay1
    (k0_pay4
      (k0_pay3 x0 (k0_pay2 x0 x1) (wuBlk x2 ![0, 0, 0] inb_S1x1024x4096_S1x1024x1024_0_0_0)
        (wdBlk x3 ![0, 0, 0] inb_S1x4096x1024_S1x1024x1024_0_0_0))
      (k0_pay2 x0 x1) (wuBlk x2 ![0, 0, 1024] inb_S1x1024x4096_S1x1024x1024_0_0_1024)
      (wdBlk x3 ![0, 1024, 0] inb_S1x4096x1024_S1x1024x1024_0_1024_0)
      (k0_pay2 x0 x1) (wuBlk x2 ![0, 0, 2048] inb_S1x1024x4096_S1x1024x1024_0_0_2048)
      (wdBlk x3 ![0, 2048, 0] inb_S1x4096x1024_S1x1024x1024_0_2048_0))
    (k0_pay5 (k0_pay2 x0 x1) (wuBlk x2 ![0, 0, 3072] inb_S1x1024x4096_S1x1024x1024_0_0_3072))
    (k0_pay6 (wdBlk x3 ![0, 3072, 0] inb_S1x4096x1024_S1x1024x1024_0_3072_0))
    (constant S1024x1024 .f32 0x00000000#32) x4

theorem hz : (![0, 0] : Fin 2 → Nat) = fun _ => 0 := funext fun a => by fin_cases a <;> rfl

/-- What the run leaves in the output's staging buffer is `blockOut` of the input blocks. -/
theorem out_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024x4096 .bf16) (harg3 : arg3.IsWhole) (arg4 : Memref sig .tc .vmem S1x4096x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024x4096 .bf16) (x3 : Vec F S1x4096x1024 .bf16) (x4 : Vec F S1x1024 .f32) :
    out0_A_5 c i arg1 harg1 arg2 harg2 arg3 harg3 arg4 harg4 arg5 harg5 arg6 harg6 arg7 harg7 x0 x1 x2 x3 x4
      = blockOut x0 x1 x2 x3 x4 := by
  unfold out0_A_5
  rw [View.read_writes_junk_eq_canon]
  unfold kernelRun0_A; dsimp only
  sl_unfold_words
  rw [View.canon_unit_zero hz]
  simp only [View.readAt_eq_ld, harg1.read_unread, harg2.read_unread, harg3.read_unread, harg4.read_unread,
    harg5.read_unread]
  simp only [View.readCov_unit_zero (S := S1024x1024) _ hz, View.ld_unit_zero (S := S1024x1024) hz,
    View.ld_unit_zero (S := S1x1024) hz]
  rfl

end

/-- The scratch row is the normalised input row. -/
theorem pay2_apply (x : FVec Ideal S1024x1024 .f32) (g : FVec Ideal S1x1024 .f32) (r k : Fin 1024) :
    k0_pay2 (F := Ideal) x g (ix2 r k) = rmsRow (fun k => x (ix2 r k)) (fun k => g (ix2 0 k)) k := by
  pointwise [k0_pay2, rmsRow]

/-- One block of the hidden columns added to the running row. -/
theorem pay3_apply (x : FVec Ideal S1024x1024 .f32) (h : FVec Ideal S1024x1024 .bf16)
    (wu wd : FVec Ideal S1x1024x1024 .bf16) (r d : Fin 1024) :
    k0_pay3 (F := Ideal) x h wu wd (ix2 r d)
      = x (ix2 r d) + ∑ f, hidden (fun k => h (ix2 r k)) (fun k f => wu (ix3 0 k f)) f * wd (ix3 0 f d) := by
  pointwise [k0_pay3, hidden]

/-- Two more blocks of the hidden columns added to the running row. -/
theorem pay4_apply (x : FVec Ideal S1024x1024 .f32) (h h' : FVec Ideal S1024x1024 .bf16)
    (wu wd wu' wd' : FVec Ideal S1x1024x1024 .bf16) (r d : Fin 1024) :
    k0_pay4 (F := Ideal) x h wu wd h' wu' wd' (ix2 r d)
      = x (ix2 r d) + (∑ f, hidden (fun k => h (ix2 r k)) (fun k f => wu (ix3 0 k f)) f * wd (ix3 0 f d))
        + ∑ f, hidden (fun k => h' (ix2 r k)) (fun k f => wu' (ix3 0 k f)) f * wd' (ix3 0 f d) := by
  pointwise [k0_pay4, hidden]

/-- The hidden values of the last block. -/
theorem pay5_apply (h : FVec Ideal S1024x1024 .bf16) (wu : FVec Ideal S1x1024x1024 .bf16) (r f : Fin 1024) :
    k0_pay5 (F := Ideal) h wu (ix2 r f) = hidden (fun k => h (ix2 r k)) (fun k f => wu (ix3 0 k f)) f := by
  pointwise [k0_pay5, hidden]

/-- The last block of the second weight. -/
theorem pay6_apply (wd : FVec Ideal S1x1024x1024 .bf16) (f d : Fin 1024) :
    k0_pay6 (F := Ideal) wd (ix2 f d) = wd (ix3 0 f d) := by
  pointwise [k0_pay6]

/-- The stored row: the last block added, then normalised. -/
theorem pay1_apply (x : FVec Ideal S1024x1024 .f32) (h wd : FVec Ideal S1024x1024 .bf16) (g : FVec Ideal S1x1024 .f32)
    (r d : Fin 1024) :
    k0_pay1 (F := Ideal) x h wd (constant S1024x1024 .f32 0x00000000#32) g (ix2 r d)
      = rmsRow (fun d => x (ix2 r d) + ∑ f, h (ix2 r f) * wd (ix2 f d)) (fun k => g (ix2 0 k)) d := by
  pointwise [k0_pay1, rmsRow]

/-- An entry of a block of the first weight. -/
theorem wuBlk_apply (w : FVec Ideal S1x1024x4096 .bf16) (o : ℕ) (inb) (k f : Fin 1024) (h : o + f.val < 4096) :
    wuBlk (F := Ideal) w ![0, 0, o] inb (ix3 0 k f) = w (ix3 0 k ⟨o + f.val, h⟩) := by
  unfold wuBlk View.ld
  congr 1
  funext a; apply Fin.ext
  fin_cases a <;> simp [Rect.unit, Rect.emb_apply, ix3]

/-- An entry of a block of the second weight. -/
theorem wdBlk_apply (w : FVec Ideal S1x4096x1024 .bf16) (o : ℕ) (inb) (f d : Fin 1024) (h : o + f.val < 4096) :
    wdBlk (F := Ideal) w ![0, o, 0] inb (ix3 0 f d) = w (ix3 0 ⟨o + f.val, h⟩ d) := by
  unfold wdBlk View.ld
  congr 1
  funext a; apply Fin.ext
  fin_cases a <;> simp [Rect.unit, Rect.emb_apply, ix3]

/-- The row before the last normalisation: the input row plus its channel MLP. -/
theorem acc_apply (x0 : FVec Ideal S1024x1024 .f32) (x1 : FVec Ideal S1x1024 .f32) (x2 : FVec Ideal S1x1024x4096 .bf16)
    (x3 : FVec Ideal S1x4096x1024 .bf16) (r d : Fin 1024) :
    k0_pay4 (F := Ideal)
        (k0_pay3 (F := Ideal) x0 (k0_pay2 (F := Ideal) x0 x1) (wuBlk (F := Ideal) x2 ![0, 0, 0] inb_S1x1024x4096_S1x1024x1024_0_0_0)
          (wdBlk (F := Ideal) x3 ![0, 0, 0] inb_S1x4096x1024_S1x1024x1024_0_0_0))
        (k0_pay2 (F := Ideal) x0 x1) (wuBlk (F := Ideal) x2 ![0, 0, 1024] inb_S1x1024x4096_S1x1024x1024_0_0_1024)
        (wdBlk (F := Ideal) x3 ![0, 1024, 0] inb_S1x4096x1024_S1x1024x1024_0_1024_0)
        (k0_pay2 (F := Ideal) x0 x1) (wuBlk (F := Ideal) x2 ![0, 0, 2048] inb_S1x1024x4096_S1x1024x1024_0_0_2048)
        (wdBlk (F := Ideal) x3 ![0, 2048, 0] inb_S1x4096x1024_S1x1024x1024_0_2048_0) (ix2 r d)
      + ∑ f, k0_pay5 (F := Ideal) (k0_pay2 (F := Ideal) x0 x1) (wuBlk (F := Ideal) x2 ![0, 0, 3072] inb_S1x1024x4096_S1x1024x1024_0_0_3072) (ix2 r f)
          * k0_pay6 (F := Ideal) (wdBlk (F := Ideal) x3 ![0, 3072, 0] inb_S1x4096x1024_S1x1024x1024_0_3072_0) (ix2 f d)
      = mlpRow (fun k => x0 (ix2 r k)) (fun k => x1 (ix2 0 k)) (fun k f => x2 (ix3 0 k f)) (fun f d => x3 (ix3 0 f d)) d := by
  rw [pay4_apply, pay3_apply]
  unfold mlpRow
  rw [Fin.sum_univ_tiles 4 1024 rfl, Fin.sum_univ_four]
  have e : ∀ (o : ℕ) inb inb' (hh : ∀ f : Fin 1024, o + f.val < 4096),
      (∑ f, hidden (fun k => k0_pay2 (F := Ideal) x0 x1 (ix2 r k)) (fun k f => wuBlk (F := Ideal) x2 ![0, 0, o] inb (ix3 0 k f)) f
          * wdBlk (F := Ideal) x3 ![0, o, 0] inb' (ix3 0 f d))
        = ∑ f : Fin 1024, hidden (rmsRow (fun k => x0 (ix2 r k)) (fun k => x1 (ix2 0 k))) (fun k f => x2 (ix3 0 k f)) ⟨o + f.val, hh f⟩
          * x3 (ix3 0 ⟨o + f.val, hh f⟩ d) := by
    intro o inb inb' hh
    refine Finset.sum_congr rfl fun f _ => ?_
    rw [wdBlk_apply _ _ _ _ _ (hh f)]
    unfold hidden
    simp only [pay2_apply, wuBlk_apply _ _ _ _ _ (hh f)]
  simp only [pay5_apply, pay6_apply]
  rw [e 0 _ _ (fun f => by omega), e 1024 _ _ (fun f => by omega), e 2048 _ _ (fun f => by omega),
    e 3072 _ _ (fun f => by omega)]
  simp only [add_assoc]
  rfl

/-- The stored block at an index: `ffnRow` of the input block's row. -/
theorem blockOut_apply (x0 : FVec Ideal S1024x1024 .f32) (x1 : FVec Ideal S1x1024 .f32) (x2 : FVec Ideal S1x1024x4096 .bf16)
    (x3 : FVec Ideal S1x4096x1024 .bf16) (x4 : FVec Ideal S1x1024 .f32) (r d : Fin 1024) :
    blockOut (F := Ideal) x0 x1 x2 x3 x4 (ix2 r d)
      = ffnRow (fun k => x0 (ix2 r k)) (fun k => x1 (ix2 0 k)) (fun k f => x2 (ix3 0 k f)) (fun f d => x3 (ix3 0 f d))
          (fun k => x4 (ix2 0 k)) d := by
  unfold blockOut
  rw [pay1_apply]
  unfold ffnRow
  congr 1
  funext d
  exact acc_apply x0 x1 x2 x3 r d

end Cert.Layer.FfnK

end
-- ==== Proof.FfnValue.lean ====
/- The channel-MLP kernel's result array: entry `(n, d)` is `ffnRow` of row `n` of the first argument. -/
module

public import proofs.«01_k».proof.Proof.FfnKernelRows

@[expose] public section

set_option maxRecDepth 16384

noncomputable section

namespace Cert.Layer.FfnK

open Cert.FfnKernelIdeal Cert.FfnKernelIdeal.Gen Cert.FfnKernelIdeal.Value Idealize.ShloMosaic Idealize.ShloMosaic.TcCoe
open Idealize.SL.Sem
open Idealize.ShloMosaic.Pointwise

variable (m : (ℓ : Loc nD τ sig) → Buf (Elt Ideal) ℓ) (ρ : Dev nD → PrngReg)

/-- The result as one function of the argument arrays. -/
def G (x : FVec Ideal S16384x1024 .f32) (g : FVec Ideal S2x1024 .f32) (wu : FVec Ideal S2x1024x4096 .f32)
    (wd : FVec Ideal S2x4096x1024 .f32) (fg : FVec Ideal S1024 .f32) : FVec Ideal S16384x1024 .f32 :=
  fun j => ffnRow (fun k => x (ix2 (j 0) k)) (fun k => g (ix2 1 k)) (fun k f => wu (ix3 1 k f))
    (fun f d => wd (ix3 1 f d)) (fun k => fg (ix1 k)) (j 1)

/-- The launch contents of argument `a`. -/
abbrev arg (c : Dev nD) (b : Ref sig .tc) : Buf (Elt Ideal) ((c : Thread nD τ).loc b) := m ((c : Thread nD τ).loc b)

theorem V_v0 (c : Dev nD) : V m c main_v0 = (truncf .bf16 (arg m c main_arg2 : FVec Ideal S2x1024x4096 .f32) bitsLt_bf16_f32 : FVec Ideal S2x1024x4096 .bf16) := by
  dsimp only [V, hostOps0]; after_results <;> rfl

theorem V_v1 (c : Dev nD) : V m c main_v1 = (truncf .bf16 (arg m c main_arg3 : FVec Ideal S2x4096x1024 .f32) bitsLt_bf16_f32 : FVec Ideal S2x4096x1024 .bf16) := by
  dsimp only [V, hostOps0]; after_results <;> rfl

/-- The layer's row of gains. -/
abbrev gRow (x : FVec Ideal S2x1024 .f32) : FVec Ideal S1x1024 .f32 :=
  shapeCast S1x1024 (shapeCast S1024 (extractStridedSlice S1x1024 ![1, 0] x slices_S2x1024_S1x1024_1_0) shapeCasts_S1x1024_S1024) shapeCasts_S1024_S1x1024

theorem V_v4 (c : Dev nD) : V m c main_v4 = gRow (arg m c main_arg1 : FVec Ideal S2x1024 .f32) := by
  dsimp only [V, hostOps0]; after_results <;> rfl

theorem V_v5 (c : Dev nD) : V m c main_v5 = shapeCast S1x1024 (arg m c main_arg4 : FVec Ideal S1024 .f32) shapeCasts_S1024_S1x1024 := by
  dsimp only [V, hostOps0]; after_results <;> rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 1 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 1 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

/-- The row of the array that row `r` of the block at point `t` is. -/
def row (t : Fin cfg0.N) (r : Fin 1024) : Fin 16384 :=
  ⟨t.val * 1024 + r.val, by have h : t.val < 16 := t.isLt; have := r.isLt; omega⟩

theorem blk0 (c : Dev nD) (t : Fin cfg0.N) (r k : Fin 1024) :
    iblk m c 0 t (ix2 r k) = (arg m c main_arg0 : FVec Ideal S16384x1024 .f32) (ix2 (row t r) k) := by
  obtain ⟨e0, e1⟩ := idx0 t
  refine Eq.trans ?_ (congrFun (V_main_arg0 m c) _)
  show V m c main_arg0 (((cfg0.win 0).blk t).view.emb (ix2 r k)) = _
  congr 1
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

theorem blk1 (c : Dev nD) (t : Fin cfg0.N) (k : Fin 1024) :
    iblk m c 1 t (ix2 0 k) = (arg m c main_arg1 : FVec Ideal S2x1024 .f32) (ix2 1 k) := by
  obtain ⟨e0, e1⟩ := idx1 t
  show V m c main_v4 (((cfg0.win 1).blk t).view.emb (ix2 0 k)) = _
  rw [V_v4]
  have : ((cfg0.win 1).blk t).view.emb (ix2 0 k) = (ix2 0 k : S1x1024.Idx) := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  refine (congrArg (gRow (arg m c main_arg1 : FVec Ideal S2x1024 .f32)) this).trans ?_
  pointwise

theorem blk4 (c : Dev nD) (t : Fin cfg0.N) (k : Fin 1024) :
    iblk m c 4 t (ix2 0 k) = (arg m c main_arg4 : FVec Ideal S1024 .f32) (ix1 k) := by
  obtain ⟨e0, e1⟩ := idx4 t
  show V m c main_v5 (((cfg0.win 4).blk t).view.emb (ix2 0 k)) = _
  rw [V_v5]
  have : ((cfg0.win 4).blk t).view.emb (ix2 0 k) = (ix2 0 k : S1x1024.Idx) := by
    funext a; apply Fin.ext
    match a with
    | ⟨0, _⟩ => show win0_4.index t (0 : Fin 2) * 1 + 1 * 0 = 0; omega
    | ⟨1, _⟩ => show win0_4.index t (1 : Fin 2) * 1024 + 1 * k.val = k.val; omega
  refine (congrArg (shapeCast S1x1024 (arg m c main_arg4 : FVec Ideal S1024 .f32) shapeCasts_S1024_S1x1024) this).trans ?_
  pointwise

theorem blk2 (c : Dev nD) (t : Fin cfg0.N) (k : Fin 1024) (f : Fin 4096) :
    iblk m c 2 t (ix3 0 k f) = (arg m c main_arg2 : FVec Ideal S2x1024x4096 .f32) (ix3 1 k f) := by
  obtain ⟨e0, e1, e2⟩ := idx2 t
  show V m c main_v0 (((cfg0.win 2).blk t).view.emb (ix3 0 k f)) = _
  rw [V_v0]
  show (arg m c main_arg2 : FVec Ideal S2x1024x4096 .f32) _ = _
  congr 1
  funext a; apply Fin.ext
  match a with
  | ⟨0, _⟩ => show win0_2.index t (0 : Fin 3) * 1 + 1 * 0 = 1; omega
  | ⟨1, _⟩ => show win0_2.index t (1 : Fin 3) * 1024 + 1 * k.val = k.val; omega
  | ⟨2, _⟩ => show win0_2.index t (2 : Fin 3) * 4096 + 1 * f.val = f.val; omega

theorem blk3 (c : Dev nD) (t : Fin cfg0.N) (f : Fin 4096) (d : Fin 1024) :
    iblk m c 3 t (ix3 0 f d) = (arg m c main_arg3 : FVec Ideal S2x4096x1024 .f32) (ix3 1 f d) := by
  obtain ⟨e0, e1, e2⟩ := idx3 t
  show V m c main_v1 (((cfg0.win 3).blk t).view.emb (ix3 0 f d)) = _
  rw [V_v1]
  show (arg m c main_arg3 : FVec Ideal S2x4096x1024 .f32) _ = _
  congr 1
  funext a; apply Fin.ext
  match a with
  | ⟨0, _⟩ => show win0_3.index t (0 : Fin 3) * 1 + 1 * 0 = 1; omega
  | ⟨1, _⟩ => show win0_3.index t (1 : Fin 3) * 4096 + 1 * f.val = f.val; omega
  | ⟨2, _⟩ => show win0_3.index t (2 : Fin 3) * 1024 + 1 * d.val = d.val; omega

/-- The result array as a function of the launch contents. -/
abbrev GA (c : Dev nD) : FVec Ideal S16384x1024 .f32 :=
  G (arg m c main_arg0) (arg m c main_arg1) (arg m c main_arg2) (arg m c main_arg3) (arg m c main_arg4)

/-- What a point writes back is its block of `GA`. -/
theorem flushed_eq (c : Dev nD) (t : Fin cfg0.N) :
    (dats m 0 c).flushed 5 t = ((cfg0.win 5).blk t).view.read (Elt Ideal) (GA m c) := by
  rw [flushed5_A, out_eq]
  obtain ⟨e0, e1⟩ := idx5 t
  funext j
  obtain ⟨r, d, rfl⟩ : ∃ (r d : Fin 1024), j = (ix2 r d : S1024x1024.Idx) := ⟨j 0, j 1, eq_ix2 j⟩
  have he : ((cfg0.win 5).blk t).view.emb (ix2 r d) = (ix2 (row t r) d : S16384x1024.Idx) := by
    funext a; apply Fin.ext
    match a with
    | ⟨0, _⟩ => show win0_5.index t (0 : Fin 2) * 1024 + 1 * r.val = t.val * 1024 + r.val; omega
    | ⟨1, _⟩ => show win0_5.index t (1 : Fin 2) * 1024 + 1 * d.val = d.val; omega
  show blockOut (F := Ideal) (iblk m c 0 t) (iblk m c 1 t) (iblk m c 2 t) (iblk m c 3 t) (iblk m c 4 t) (ix2 r d)
    = GA m c (((cfg0.win 5).blk t).view.emb (ix2 r d))
  rw [he]
  refine (blockOut_apply (iblk m c 0 t) (iblk m c 1 t) (iblk m c 2 t) (iblk m c 3 t) (iblk m c 4 t) r d).trans ?_
  show _ = ffnRow _ _ _ _ _ d
  simp only [blk0, blk1, blk2, blk3, blk4]
  rfl

theorem mem_blk (t : Fin cfg0.N) (i : S16384x1024.Idx) :
    i ∈ ((cfg0.win 5).blk t).view.set ↔ ∀ a : Fin 2, win0_5.index t a * S1024x1024.size a ≤ i a ∧ (i a : ℕ) < win0_5.index t a * S1024x1024.size a + S1024x1024.size a := by
  show i ∈ ((View.whole main_v6).slice (win0_5.rect t)).set ↔ _
  rw [View.set_slice_whole, Rect.mem_set_unit]; exact Iff.rfl

/-- Every index of the result is in the block of some point. -/
theorem covered (i : S16384x1024.Idx) :
    ∃ t : Fin cfg0.N, (cfg0.win 5).flush t = true ∧ i ∈ ((cfg0.win 5).blk t).view.set := by
  have h0 : (i 0).val < 16384 := (i 0).isLt
  have h1 : (i 1).val < 1024 := (i 1).isLt
  have ht : (i 0).val / 1024 < 16 := by omega
  obtain ⟨t, htv⟩ : ∃ t : Fin cfg0.N, t.val = (i 0).val / 1024 := ⟨⟨(i 0).val / 1024, ht⟩, rfl⟩
  refine ⟨t, flush0_5 _, ?_⟩
  rw [mem_blk]
  obtain ⟨e0, e1⟩ := idx5 t
  intro a
  match a with
  | ⟨0, _⟩ =>
    show win0_5.index _ (0 : Fin 2) * 1024 ≤ (i 0).val ∧ (i 0).val < win0_5.index _ (0 : Fin 2) * 1024 + 1024
    rw [e0]; omega
  | ⟨1, _⟩ =>
    show win0_5.index _ (1 : Fin 2) * 1024 ≤ (i 1).val ∧ (i 1).val < win0_5.index _ (1 : Fin 2) * 1024 + 1024
    rw [e1]; omega

/-- The result array after the run. -/
theorem final (c : Dev nD) : (dats m 0 c).arrAt 5 cfg0.N = GA m c :=
  (dats m 0 c).arrAt_eq_of_cover 5 (GA m c) (fun t _ => flushed_eq m c t) covered

/-- The kernel's run with the result array at its function of the arguments. -/
theorem run : θ_run defs (onTc (τ := τ) (main (F := Ideal))) ⟨m, fun _ => 0, ρ⟩ fun r => ∀ c : Dev nD,
      r.2.mem ((c : Thread nD τ).loc main_v6) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Layer.FfnK

end
-- ==== Proof.FfnRef.lean ====
/- The channel-MLP reference's result: entry `(n, d)` is `ffnRow` of row `n` of the first argument. -/
module

public import proofs.«01_k».proof.Proof.Gen.FfnReferenceIdeal.Run
public import proofs.«01_k».proof.Proof.FfnSpec

@[expose] public section

noncomputable section

namespace Cert.Layer.FfnR

open Cert.FfnReferenceIdeal Cert.FfnReferenceIdeal.Gen Cert.FfnReferenceIdeal.Value Idealize.ShloMosaic Idealize.ShloMosaic.TcCoe
open Idealize.SL.Sem Idealize.ShloMosaic.StableHlo
open Idealize.ShloMosaic.Pointwise

theorem result_apply (m : (ℓ : Loc nD τ sig) → Buf (Elt Ideal) ℓ) (c : Dev nD) (n : Fin 16384) (d : Fin 1024) :
    (res_main_v36 m c : FVec Ideal S16384x1024 .f32) (ix2 n d)
      = ffnRow (fun k => (m ((c.tc : Thread nD τ).loc main_arg0) : FVec Ideal S16384x1024 .f32) (ix2 n k))
          (fun k => (m ((c.tc : Thread nD τ).loc main_arg1) : FVec Ideal S2x1024 .f32) (ix2 1 k))
          (fun k f => (m ((c.tc : Thread nD τ).loc main_arg2) : FVec Ideal S2x1024x4096 .f32) (ix3 1 k f))
          (fun f d => (m ((c.tc : Thread nD τ).loc main_arg3) : FVec Ideal S2x4096x1024 .f32) (ix3 1 f d))
          (fun k => (m ((c.tc : Thread nD τ).loc main_arg4) : FVec Ideal S1024 .f32) (ix1 k)) d := by
  unfold res_main_v36
  pointwise [ffnRow, mlpRow, rmsRow, hidden]

end Cert.Layer.FfnR

end
-- ==== Proof.Ffn0Value.lean ====
/- The result array of the channel-MLP kernel without the final norm: entry `(n, d)` is `mlpRow` of row `n` of the
   first argument. -/
module

public import proofs.«01_k».proof.Proof.Gen.Ffn0KernelIdeal.Value
public import proofs.«01_k».proof.Proof.FfnKernelRows

@[expose] public section

set_option maxRecDepth 16384

noncomputable section

namespace Cert.Layer.Ffn0K

open Cert.Ffn0KernelIdeal Cert.Ffn0KernelIdeal.Gen Cert.Ffn0KernelIdeal.Value Idealize.ShloMosaic Idealize.ShloMosaic.TcCoe
open Idealize.SL.Sem
open Idealize.ShloMosaic.Pointwise

section
variable {F : FTy → Type} [FloatOps F]

/-- The block stored at a grid point, as one function of the point's input blocks. -/
def blockOut (x0 : Vec F S1024x1024 .f32) (x1 : Vec F S1x1024 .f32) (x2 : Vec F S1x1024x4096 .bf16)
    (x3 : Vec F S1x4096x1024 .bf16) : Vec F S1024x1024 .f32 :=
  k0_pay1
    (k0_pay4
      (k0_pay3 x0 (k0_pay2 x0 x1) (FfnK.wuBlk x2 ![0, 0, 0] inb_S1x1024x4096_S1x1024x1024_0_0_0)
        (FfnK.wdBlk x3 ![0, 0, 0] inb_S1x4096x1024_S1x1024x1024_0_0_0))
      (k0_pay2 x0 x1) (FfnK.wuBlk x2 ![0, 0, 1024] inb_S1x1024x4096_S1x1024x1024_0_0_1024)
      (FfnK.wdBlk x3 ![0, 1024, 0] inb_S1x4096x1024_S1x1024x1024_0_1024_0)
      (k0_pay2 x0 x1) (FfnK.wuBlk x2 ![0, 0, 2048] inb_S1x1024x4096_S1x1024x1024_0_0_2048)
      (FfnK.wdBlk x3 ![0, 2048, 0] inb_S1x4096x1024_S1x1024x1024_0_2048_0))
    (k0_pay5 (k0_pay2 x0 x1) (FfnK.wuBlk x2 ![0, 0, 3072] inb_S1x1024x4096_S1x1024x1024_0_0_3072))
    (k0_pay6 (FfnK.wdBlk x3 ![0, 3072, 0] inb_S1x4096x1024_S1x1024x1024_0_3072_0))
    (constant S1024x1024 .f32 0x00000000#32)

theorem hz : (![0, 0] : Fin 2 → Nat) = fun _ => 0 := funext fun a => by fin_cases a <;> rfl

/-- What the run leaves in the output's staging buffer is `blockOut` of the input blocks. -/
theorem out_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024x4096 .bf16) (harg3 : arg3.IsWhole) (arg4 : Memref sig .tc .vmem S1x4096x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole)
    (x0 : Vec F S1024x1024 .f32) (x1 : Vec F S1x1024 .f32) (x2 : Vec F S1x1024x4096 .bf16) (x3 : Vec F S1x4096x1024 .bf16) (x4 : Vec F S1x1024 .f32) :
    out0_A_5 c i arg1 harg1 arg2 harg2 arg3 harg3 arg4 harg4 arg5 harg5 arg6 harg6 arg7 harg7 x0 x1 x2 x3 x4
      = blockOut x0 x1 x2 x3 := by
  unfold out0_A_5
  rw [View.read_writes_junk_eq_canon]
  unfold kernelRun0_A; dsimp only
  sl_unfold_words
  rw [View.canon_unit_zero hz]
  simp only [View.readAt_eq_ld, harg1.read_unread, harg2.read_unread, harg3.read_unread, harg4.read_unread,
    harg5.read_unread]
  simp only [View.readCov_unit_zero (S := S1024x1024) _ hz, View.ld_unit_zero (S := S1024x1024) hz,
    View.ld_unit_zero (S := S1x1024) hz]
  rfl

end

/-- The stored row: the last block added. -/
theorem pay1_apply (x : FVec Ideal S1024x1024 .f32) (h wd : FVec Ideal S1024x1024 .bf16) (r d : Fin 1024) :
    k0_pay1 (F := Ideal) x h wd (constant S1024x1024 .f32 0x00000000#32) (ix2 r d)
      = x (ix2 r d) + ∑ f, h (ix2 r f) * wd (ix2 f d) := by
  pointwise [k0_pay1]

/-- The stored block at an index: `mlpRow` of the input block's row. -/
theorem blockOut_apply (x0 : FVec Ideal S1024x1024 .f32) (x1 : FVec Ideal S1x1024 .f32) (x2 : FVec Ideal S1x1024x4096 .bf16)
    (x3 : FVec Ideal S1x4096x1024 .bf16) (r d : Fin 1024) :
    blockOut (F := Ideal) x0 x1 x2 x3 (ix2 r d)
      = mlpRow (fun k => x0 (ix2 r k)) (fun k => x1 (ix2 0 k)) (fun k f => x2 (ix3 0 k f)) (fun f d => x3 (ix3 0 f d)) d := by
  unfold blockOut
  rw [pay1_apply]
  exact FfnK.acc_apply x0 x1 x2 x3 r d

variable (m : (ℓ : Loc nD τ sig) → Buf (Elt Ideal) ℓ) (ρ : Dev nD → PrngReg)

/-- The result as one function of the argument arrays. -/
def G (x : FVec Ideal S16384x1024 .f32) (g : FVec Ideal S2x1024 .f32) (wu : FVec Ideal S2x1024x4096 .f32)
    (wd : FVec Ideal S2x4096x1024 .f32) : FVec Ideal S16384x1024 .f32 :=
  fun j => mlpRow (fun k => x (ix2 (j 0) k)) (fun k => g (ix2 0 k)) (fun k f => wu (ix3 0 k f))
    (fun f d => wd (ix3 0 f d)) (j 1)

/-- The launch contents of argument `a`. -/
abbrev arg (c : Dev nD) (b : Ref sig .tc) : Buf (Elt Ideal) ((c : Thread nD τ).loc b) := m ((c : Thread nD τ).loc b)

theorem V_v0 (c : Dev nD) : V m c main_v0 = (truncf .bf16 (arg m c main_arg2 : FVec Ideal S2x1024x4096 .f32) bitsLt_bf16_f32 : FVec Ideal S2x1024x4096 .bf16) := by
  dsimp only [V, hostOps0]; after_results <;> rfl

theorem V_v1 (c : Dev nD) : V m c main_v1 = (truncf .bf16 (arg m c main_arg3 : FVec Ideal S2x4096x1024 .f32) bitsLt_bf16_f32 : FVec Ideal S2x4096x1024 .bf16) := by
  dsimp only [V, hostOps0]; after_results <;> rfl

/-- The layer's row of gains. -/
abbrev gRow (x : FVec Ideal S2x1024 .f32) : FVec Ideal S1x1024 .f32 :=
  shapeCast S1x1024 (shapeCast S1024 (extractStridedSlice S1x1024 ![0, 0] x slices_S2x1024_S1x1024_0_0) shapeCasts_S1x1024_S1024) shapeCasts_S1024_S1x1024

theorem V_v4 (c : Dev nD) : V m c main_v4 = gRow (arg m c main_arg1 : FVec Ideal S2x1024 .f32) := by
  dsimp only [V, hostOps0]; after_results <;> rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

/-- The row of the array that row `r` of the block at point `t` is. -/
def row (t : Fin cfg0.N) (r : Fin 1024) : Fin 16384 :=
  ⟨t.val * 1024 + r.val, by have h : t.val < 16 := t.isLt; have := r.isLt; omega⟩

theorem blk0 (c : Dev nD) (t : Fin cfg0.N) (r k : Fin 1024) :
    iblk m c 0 t (ix2 r k) = (arg m c main_arg0 : FVec Ideal S16384x1024 .f32) (ix2 (row t r) k) := by
  obtain ⟨e0, e1⟩ := idx0 t
  refine Eq.trans ?_ (congrFun (V_main_arg0 m c) _)
  show V m c main_arg0 (((cfg0.win 0).blk t).view.emb (ix2 r k)) = _
  congr 1
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

theorem blk1 (c : Dev nD) (t : Fin cfg0.N) (k : Fin 1024) :
    iblk m c 1 t (ix2 0 k) = (arg m c main_arg1 : FVec Ideal S2x1024 .f32) (ix2 0 k) := by
  obtain ⟨e0, e1⟩ := idx1 t
  show V m c main_v4 (((cfg0.win 1).blk t).view.emb (ix2 0 k)) = _
  rw [V_v4]
  have : ((cfg0.win 1).blk t).view.emb (ix2 0 k) = (ix2 0 k : S1x1024.Idx) := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  refine (congrArg (gRow (arg m c main_arg1 : FVec Ideal S2x1024 .f32)) this).trans ?_
  pointwise

theorem blk2 (c : Dev nD) (t : Fin cfg0.N) (k : Fin 1024) (f : Fin 4096) :
    iblk m c 2 t (ix3 0 k f) = (arg m c main_arg2 : FVec Ideal S2x1024x4096 .f32) (ix3 0 k f) := by
  obtain ⟨e0, e1, e2⟩ := idx2 t
  show V m c main_v0 (((cfg0.win 2).blk t).view.emb (ix3 0 k f)) = _
  rw [V_v0]
  show (arg m c main_arg2 : FVec Ideal S2x1024x4096 .f32) _ = _
  congr 1
  funext a; apply Fin.ext
  match a with
  | ⟨0, _⟩ => show win0_2.index t (0 : Fin 3) * 1 + 1 * 0 = 0; omega
  | ⟨1, _⟩ => show win0_2.index t (1 : Fin 3) * 1024 + 1 * k.val = k.val; omega
  | ⟨2, _⟩ => show win0_2.index t (2 : Fin 3) * 4096 + 1 * f.val = f.val; omega

theorem blk3 (c : Dev nD) (t : Fin cfg0.N) (f : Fin 4096) (d : Fin 1024) :
    iblk m c 3 t (ix3 0 f d) = (arg m c main_arg3 : FVec Ideal S2x4096x1024 .f32) (ix3 0 f d) := by
  obtain ⟨e0, e1, e2⟩ := idx3 t
  show V m c main_v1 (((cfg0.win 3).blk t).view.emb (ix3 0 f d)) = _
  rw [V_v1]
  show (arg m c main_arg3 : FVec Ideal S2x4096x1024 .f32) _ = _
  congr 1
  funext a; apply Fin.ext
  match a with
  | ⟨0, _⟩ => show win0_3.index t (0 : Fin 3) * 1 + 1 * 0 = 0; omega
  | ⟨1, _⟩ => show win0_3.index t (1 : Fin 3) * 4096 + 1 * f.val = f.val; omega
  | ⟨2, _⟩ => show win0_3.index t (2 : Fin 3) * 1024 + 1 * d.val = d.val; omega

/-- The result array as a function of the launch contents. -/
abbrev GA (c : Dev nD) : FVec Ideal S16384x1024 .f32 :=
  G (arg m c main_arg0) (arg m c main_arg1) (arg m c main_arg2) (arg m c main_arg3)

/-- What a point writes back is its block of `GA`. -/
theorem flushed_eq (c : Dev nD) (t : Fin cfg0.N) :
    (dats m 0 c).flushed 5 t = ((cfg0.win 5).blk t).view.read (Elt Ideal) (GA m c) := by
  rw [flushed5_A, out_eq]
  obtain ⟨e0, e1⟩ := idx5 t
  funext j
  obtain ⟨r, d, rfl⟩ : ∃ (r d : Fin 1024), j = (ix2 r d : S1024x1024.Idx) := ⟨j 0, j 1, eq_ix2 j⟩
  have he : ((cfg0.win 5).blk t).view.emb (ix2 r d) = (ix2 (row t r) d : S16384x1024.Idx) := by
    funext a; apply Fin.ext
    match a with
    | ⟨0, _⟩ => show win0_5.index t (0 : Fin 2) * 1024 + 1 * r.val = t.val * 1024 + r.val; omega
    | ⟨1, _⟩ => show win0_5.index t (1 : Fin 2) * 1024 + 1 * d.val = d.val; omega
  show blockOut (F := Ideal) (iblk m c 0 t) (iblk m c 1 t) (iblk m c 2 t) (iblk m c 3 t) (ix2 r d)
    = GA m c (((cfg0.win 5).blk t).view.emb (ix2 r d))
  rw [he]
  refine (blockOut_apply (iblk m c 0 t) (iblk m c 1 t) (iblk m c 2 t) (iblk m c 3 t) r d).trans ?_
  show _ = mlpRow _ _ _ _ d
  simp only [blk0, blk1, blk2, blk3]
  rfl

theorem mem_blk (t : Fin cfg0.N) (i : S16384x1024.Idx) :
    i ∈ ((cfg0.win 5).blk t).view.set ↔ ∀ a : Fin 2, win0_5.index t a * S1024x1024.size a ≤ i a ∧ (i a : ℕ) < win0_5.index t a * S1024x1024.size a + S1024x1024.size a := by
  show i ∈ ((View.whole main_v6).slice (win0_5.rect t)).set ↔ _
  rw [View.set_slice_whole, Rect.mem_set_unit]; exact Iff.rfl

/-- Every index of the result is in the block of some point. -/
theorem covered (i : S16384x1024.Idx) :
    ∃ t : Fin cfg0.N, (cfg0.win 5).flush t = true ∧ i ∈ ((cfg0.win 5).blk t).view.set := by
  have h0 : (i 0).val < 16384 := (i 0).isLt
  have h1 : (i 1).val < 1024 := (i 1).isLt
  have ht : (i 0).val / 1024 < 16 := by omega
  obtain ⟨t, htv⟩ : ∃ t : Fin cfg0.N, t.val = (i 0).val / 1024 := ⟨⟨(i 0).val / 1024, ht⟩, rfl⟩
  refine ⟨t, flush0_5 _, ?_⟩
  rw [mem_blk]
  obtain ⟨e0, e1⟩ := idx5 t
  intro a
  match a with
  | ⟨0, _⟩ =>
    show win0_5.index _ (0 : Fin 2) * 1024 ≤ (i 0).val ∧ (i 0).val < win0_5.index _ (0 : Fin 2) * 1024 + 1024
    rw [e0]; omega
  | ⟨1, _⟩ =>
    show win0_5.index _ (1 : Fin 2) * 1024 ≤ (i 1).val ∧ (i 1).val < win0_5.index _ (1 : Fin 2) * 1024 + 1024
    rw [e1]; omega

/-- The result array after the run. -/
theorem final (c : Dev nD) : (dats m 0 c).arrAt 5 cfg0.N = GA m c :=
  (dats m 0 c).arrAt_eq_of_cover 5 (GA m c) (fun t _ => flushed_eq m c t) covered

/-- The kernel's run with the result array at its function of the arguments. -/
theorem run : θ_run defs (onTc (τ := τ) (main (F := Ideal))) ⟨m, fun _ => 0, ρ⟩ fun r => ∀ c : Dev nD,
      r.2.mem ((c : Thread nD τ).loc main_v6) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Layer.Ffn0K

end
-- ==== Proof.Ffn0Ref.lean ====
/- The result of the channel-MLP reference without the final norm: entry `(n, d)` is `mlpRow` of row `n` of the first
   argument. -/
module

public import proofs.«01_k».proof.Proof.Gen.Ffn0ReferenceIdeal.Run
public import proofs.«01_k».proof.Proof.FfnSpec

@[expose] public section

noncomputable section

namespace Cert.Layer.Ffn0R

open Cert.Ffn0ReferenceIdeal Cert.Ffn0ReferenceIdeal.Gen Cert.Ffn0ReferenceIdeal.Value Idealize.ShloMosaic Idealize.ShloMosaic.TcCoe
open Idealize.SL.Sem Idealize.ShloMosaic.StableHlo
open Idealize.ShloMosaic.Pointwise

/-- The reference's result as one function of the launch contents. -/
def result (m : (ℓ : Loc nD τ sig) → Buf (Elt Ideal) ℓ) (c : Dev nD) : FVec Ideal S16384x1024 .f32 :=
  fun j => mlpRow (fun k => (m ((c.tc : Thread nD τ).loc main_arg0) : FVec Ideal S16384x1024 .f32) (ix2 (j 0) k))
    (fun k => (m ((c.tc : Thread nD τ).loc main_arg1) : FVec Ideal S2x1024 .f32) (ix2 0 k))
    (fun k f => (m ((c.tc : Thread nD τ).loc main_arg2) : FVec Ideal S2x1024x4096 .f32) (ix3 0 k f))
    (fun f d => (m ((c.tc : Thread nD τ).loc main_arg3) : FVec Ideal S2x4096x1024 .f32) (ix3 0 f d)) (j 1)

/-- The reference's run with the result array at its function of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Cert.Ffn0ReferenceIdeal.Value.run (F := Ideal) m ρ)
  funext j
  obtain ⟨n, d, rfl⟩ : ∃ (n : Fin 16384) (d : Fin 1024), j = (ix2 n d : S16384x1024.Idx) := ⟨j 0, j 1, ValueIdx.eq_ix2 j⟩
  show _ = mlpRow _ _ _ _ d
  pointwise [mlpRow, rmsRow, hidden]

end Cert.Layer.Ffn0R

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.Ffn0Kernel
public import proofs.«01_k».proof.Proof.Gen.Ffn0Kernel.Skeleton
public import proofs.«01_k».proof.Proof.Gen.Ffn0Kernel.Launch
public import proofs.«01_k».proof.Proof.Gen.Ffn0Kernel.Points
public import proofs.«01_k».proof.Proof.Gen.Ffn0Kernel.Frame
public import proofs.«01_k».proof.Proof.Gen.Ffn0KernelIdeal
public import proofs.«01_k».proof.Proof.Gen.Ffn0KernelIdeal.Skeleton
public import proofs.«01_k».proof.Proof.Gen.Ffn0KernelIdeal.Launch
public import proofs.«01_k».proof.Proof.Gen.Ffn0KernelIdeal.Points
public import proofs.«01_k».proof.Proof.Gen.Ffn0KernelIdeal.Frame
public import proofs.«01_k».proof.Proof.Gen.Ffn0KernelIdeal.Value
public import proofs.«01_k».proof.Proof.Gen.Ffn0ReferenceIdeal
public import proofs.«01_k».proof.Proof.Gen.Ffn0ReferenceIdeal.Run
public import proofs.«01_k».proof.Proof.MixFinal
public import proofs.«01_k».proof.Proof.FfnValue
public import proofs.«01_k».proof.Proof.FfnRef
public import proofs.«01_k».proof.Proof.Ffn0Value
public import proofs.«01_k».proof.Proof.Ffn0Ref
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference leaves its arguments unchanged and, declaring no semaphore, every counter at zero. -/
theorem reference_frame : quiescent_ReferenceIdeal (hReferenceIdeal := Cert.ReferenceIdeal.Gen.facts) := by
  intro m g _
  run_from (Cert.ReferenceIdeal.Value.run (F := Ideal) m g)
  · intro _; repeat' constructor
  · exact sem_eq_zero_of_no_sems (by decide) r.2

/-- The two constants of gelu's exponent are the names' values, rounded. -/
theorem preserves : preserves_Kernel_KernelIdeal :=
  ⟨IdealRules.named_const.statement Cert.KernelIdeal.κ "gelu_exp_cubic" .f32 0xBDD2D3E8#32 _ rfl,
   IdealRules.named_const.statement Cert.KernelIdeal.κ "gelu_exp" .f32 0xC0135761#32 _ rfl⟩

/-- The mixer reference's arguments. -/
def refArgs (m : (ℓ : Loc Cert.ReferenceIdeal.nD Cert.ReferenceIdeal.τ Cert.ReferenceIdeal.sig) → Buf (Elt Ideal) ℓ)
    (c : Dev Cert.ReferenceIdeal.nD) : Cert.Layer.MixR.Args where
  x := m ((c.tc : Thread Cert.ReferenceIdeal.nD Cert.ReferenceIdeal.τ).loc Cert.ReferenceIdeal.main_arg0)
  g := m ((c.tc : Thread Cert.ReferenceIdeal.nD Cert.ReferenceIdeal.τ).loc Cert.ReferenceIdeal.main_arg1)
  win := m ((c.tc : Thread Cert.ReferenceIdeal.nD Cert.ReferenceIdeal.τ).loc Cert.ReferenceIdeal.main_arg2)
  cw := m ((c.tc : Thread Cert.ReferenceIdeal.nD Cert.ReferenceIdeal.τ).loc Cert.ReferenceIdeal.main_arg3)
  cb := m ((c.tc : Thread Cert.ReferenceIdeal.nD Cert.ReferenceIdeal.τ).loc Cert.ReferenceIdeal.main_arg4)
  wr := m ((c.tc : Thread Cert.ReferenceIdeal.nD Cert.ReferenceIdeal.τ).loc Cert.ReferenceIdeal.main_arg5)
  br := m ((c.tc : Thread Cert.ReferenceIdeal.nD Cert.ReferenceIdeal.τ).loc Cert.ReferenceIdeal.main_arg6)
  wi := m ((c.tc : Thread Cert.ReferenceIdeal.nD Cert.ReferenceIdeal.τ).loc Cert.ReferenceIdeal.main_arg7)
  bi := m ((c.tc : Thread Cert.ReferenceIdeal.nD Cert.ReferenceIdeal.τ).loc Cert.ReferenceIdeal.main_arg8)
  lam := m ((c.tc : Thread Cert.ReferenceIdeal.nD Cert.ReferenceIdeal.τ).loc Cert.ReferenceIdeal.main_arg9)
  lng := m ((c.tc : Thread Cert.ReferenceIdeal.nD Cert.ReferenceIdeal.τ).loc Cert.ReferenceIdeal.main_arg10)
  lnb := m ((c.tc : Thread Cert.ReferenceIdeal.nD Cert.ReferenceIdeal.τ).loc Cert.ReferenceIdeal.main_arg11)
  ws := m ((c.tc : Thread Cert.ReferenceIdeal.nD Cert.ReferenceIdeal.τ).loc Cert.ReferenceIdeal.main_arg12)
  bs := m ((c.tc : Thread Cert.ReferenceIdeal.nD Cert.ReferenceIdeal.τ).loc Cert.ReferenceIdeal.main_arg13)
  wa := m ((c.tc : Thread Cert.ReferenceIdeal.nD Cert.ReferenceIdeal.τ).loc Cert.ReferenceIdeal.main_arg14)
  wb := m ((c.tc : Thread Cert.ReferenceIdeal.nD Cert.ReferenceIdeal.τ).loc Cert.ReferenceIdeal.main_arg15)
  wo := m ((c.tc : Thread Cert.ReferenceIdeal.nD Cert.ReferenceIdeal.τ).loc Cert.ReferenceIdeal.main_arg16)

/-- The mixer kernel and reference end with equal results. -/
theorem mixer_algebraic : algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.G15 m c, ?_, ?_⟩
  · exact Cert.KernelIdeal.Value.run m g
  · refine (θ_run _ _ _).mono (fun r h c => ?_) (Cert.Mixer.RefRun.run (F := Ideal) m' g'
      (fun c => Cert.Layer.MixR.seqS (refArgs m' c)) (fun _ => rfl) (fun _ _ => rfl))
    have hA : refArgs m' c = Cert.Layer.Mix.argsK m c := by
      obtain ⟨a0, a1, a2, a3, a4, a5, a6, a7, a8, a9, a10, a11, a12, a13, a14, a15, a16⟩ := hagree c
      unfold refArgs Cert.Layer.Mix.argsK
      rw [a0, a1, a2, a3, a4, a5, a6, a7, a8, a9, a10, a11, a12, a13, a14, a15, a16]
    refine ⟨(h c).1.trans ?_, (h c).2⟩
    refine Eq.trans ?_ (Cert.Layer.Mix.result_eq m c)
    rw [← hA]
    rfl

/-- The channel-MLP reference leaves its arguments unchanged and every counter at zero. -/
theorem ffn_reference_frame : quiescent_FfnReferenceIdeal (hFfnReferenceIdeal := Cert.FfnReferenceIdeal.Gen.facts) := by
  intro m g _
  run_from (Cert.FfnReferenceIdeal.Value.run (F := Ideal) m g)
  all_goals first
    | exact sem_eq_zero_of_no_sems (by decide) _
    | (intro _; repeat' constructor)

/-- The channel-MLP kernel and reference end with equal results. -/
theorem ffn_algebraic : algebraic_FfnKernelIdeal_FfnReferenceIdeal (hFfnKernelIdeal := Cert.FfnKernelIdeal.Gen.facts)
    (hFfnReferenceIdeal := Cert.FfnReferenceIdeal.Gen.facts) := by
  intro m g m' g' _ hagree
  refine ⟨fun c => Cert.Layer.FfnK.GA m c, ?_, ?_⟩
  · exact Cert.Layer.FfnK.run m g
  · refine (θ_run _ _ _).mono (fun r h c => ?_) (Cert.FfnReferenceIdeal.Value.run (F := Ideal) m' g')
    obtain ⟨a0, a1, a2, a3, a4⟩ := hagree c
    refine ⟨(h c).1.trans ?_, (h c).2⟩
    funext j
    rw [ValueIdx.eq_ix2 j]
    refine (Cert.Layer.FfnR.result_apply m' c (j 0) (j 1)).trans ?_
    rw [a0, a1, a2, a3, a4]
    rfl

/-- The reference without the final norm leaves its arguments unchanged and every counter at zero. -/
theorem ffn0_reference_frame : quiescent_Ffn0ReferenceIdeal (hFfn0ReferenceIdeal := Cert.Ffn0ReferenceIdeal.Gen.facts) := by
  intro m g _
  run_from (Cert.Ffn0ReferenceIdeal.Value.run (F := Ideal) m g)
  all_goals first
    | exact sem_eq_zero_of_no_sems (by decide) _
    | (intro _; repeat' constructor)

/-- The channel-MLP kernel and reference without the final norm end with equal results. -/
theorem ffn0_algebraic : algebraic_Ffn0KernelIdeal_Ffn0ReferenceIdeal (hFfn0KernelIdeal := Cert.Ffn0KernelIdeal.Gen.facts)
    (hFfn0ReferenceIdeal := Cert.Ffn0ReferenceIdeal.Gen.facts) := by
  intro m g m' g' _ hagree
  refine ⟨fun c => Cert.Layer.Ffn0K.GA m c, ?_, ?_⟩
  · exact Cert.Layer.Ffn0K.run m g
  · refine (θ_run _ _ _).mono (fun r h c => ?_) (Cert.Layer.Ffn0R.run m' g')
    obtain ⟨a0, a1, a2, a3, a4⟩ := hagree c
    refine ⟨(h c).1.trans ?_, (h c).2⟩
    unfold Cert.Layer.Ffn0R.result
    rw [a0, a1, a2, a3]
    rfl

/-- Every claim of this certificate. -/
theorem claim : Cert.Claim := ⟨Cert.Kernel.Gen.facts, Cert.KernelIdeal.Gen.facts, Cert.ReferenceIdeal.Gen.facts,
  Cert.FfnKernel.Gen.facts, Cert.FfnKernelIdeal.Gen.facts, Cert.FfnReferenceIdeal.Gen.facts,
  Cert.Ffn0Kernel.Gen.facts, Cert.Ffn0KernelIdeal.Gen.facts, Cert.Ffn0ReferenceIdeal.Gen.facts,
  fun m ρ _ => Cert.Kernel.Gen.frame m ρ, fun m ρ _ => Cert.KernelIdeal.Gen.frame m ρ, reference_frame,
  fun m ρ _ => Cert.FfnKernel.Gen.frame m ρ, fun m ρ _ => Cert.FfnKernelIdeal.Gen.frame m ρ, ffn_reference_frame,
  fun m ρ _ => Cert.Ffn0Kernel.Gen.frame m ρ, fun m ρ _ => Cert.Ffn0KernelIdeal.Gen.frame m ρ, ffn0_reference_frame,
  preserves, mixer_algebraic, trivial, ffn_algebraic, trivial, ffn0_algebraic⟩

end Cert.Proof

end
